-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bins_exist [hPre_bins_exist : Cert.Pre_bins_exist.Facts] (m : (ℓ : Loc Cert.KernelIdeal.nD Cert.KernelIdeal.τ Cert.KernelIdeal.sig) → Buf (Elt Ideal) ℓ) : Prop :=
  ∀ c : Dev Cert.KernelIdeal.nD,
    (Cert.Pre_bins_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bins_exist [hPre_bins_exist : Cert.Pre_bins_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bins_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bins_exist [hKernelIdeal : Cert.KernelIdeal.Facts] [hPre_bins_exist : Cert.Pre_bins_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bins_exist m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bins_exist [hReferenceIdeal : Cert.ReferenceIdeal.Facts] [hPre_bins_exist : Cert.Pre_bins_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bins_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_bins_exist [hKernelIdeal : Cert.KernelIdeal.Facts] [hReferenceIdeal : Cert.ReferenceIdeal.Facts] [hPre_bins_exist : Cert.Pre_bins_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bins_exist m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bins_exist : Cert.Pre_bins_exist.Facts),
    quiescent_Kernel (hKernel := hKernel)
    ∧ quiescent_KernelIdeal (hKernelIdeal := hKernelIdeal)
    ∧ quiescent_KernelIdeal_pre_bins_exist (hKernelIdeal := hKernelIdeal) (hPre_bins_exist := hPre_bins_exist)
    ∧ quiescent_ReferenceIdeal (hReferenceIdeal := hReferenceIdeal)
    ∧ quiescent_ReferenceIdeal_pre_bins_exist (hReferenceIdeal := hReferenceIdeal) (hPre_bins_exist := hPre_bins_exist)
    ∧ preserves_Kernel_KernelIdeal
    ∧ algebraic_KernelIdeal_ReferenceIdeal_pre_bins_exist (hKernelIdeal := hKernelIdeal) (hReferenceIdeal := hReferenceIdeal) (hPre_bins_exist := hPre_bins_exist)
-- ==== Pre_bins_exist.lean ====
abbrev S4096x200 : Shape := ⟨2, ![4096, 200]⟩
abbrev S4096x201 : Shape := ⟨2, ![4096, 201]⟩
abbrev S_ : Shape := ⟨0, ![]⟩
abbrev S64x101 : Shape := ⟨2, ![64, 101]⟩
abbrev S64 : Shape := ⟨1, ![64]⟩

class Facts : Prop where
  slices_S4096x201_S4096x200_0_1 : S4096x201.Slices ![0, 1] S4096x200
  slices_S4096x201_S4096x200_0_0 : S4096x201.Slices ![0, 0] S4096x200
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S4096x201 .f32) (main_arg2 : IVec S_ 32) (main_arg3 : FVec F S64x101 .f32) (main_arg4 : FVec F S64 .f32) : IVec S_ 1 :=
  let main_v0 : FVec F S4096x200 .f32 := (extractStridedSlice S4096x200 ![0, 1] · slices_S4096x201_S4096x200_0_1) main_arg1
  let main_v1 : FVec F S4096x200 .f32 := (extractStridedSlice S4096x200 ![0, 0] · slices_S4096x201_S4096x200_0_0) main_arg1
  let main_v2 : FVec F S4096x200 .f32 := subf main_v0 main_v1
  let main_cst : FVec F S_ .f32 := constant S_ .f32 0x42C80000#32
  let main_v3 : FVec F S4096x200 .f32 := broadcastInDim S4096x200 ![] bcast_S_S4096x200 main_cst
  let main_v4 : FVec F S4096x200 .f32 := mulf main_v2 main_v3
  let main_cst_0 : FVec F S_ .f32 := constant S_ .f32 0x42CA0000#32
  let main_v5 : FVec F S4096x200 .f32 := broadcastInDim S4096x200 ![] bcast_S_S4096x200 main_cst_0
  let main_v6 : IVec S4096x200 1 := cmpf .olt main_v4 main_v5
  let main_c : IVec S_ 1 := constantI S_ 1 1#1
  let main_v7 : IVec S_ 1 := (fun x v => Host.reduce IntOp.andi x v reducesTo_S4096x200_S_d0_1 h_S_) main_v6 main_c
  main_v7
-- ==== Kernel.lean ====
abbrev S4096x200 : Shape := ⟨2, ![4096, 200]⟩
abbrev S4096x201 : Shape := ⟨2, ![4096, 201]⟩
abbrev S_ : Shape := ⟨0, ![]⟩
abbrev S64x101 : Shape := ⟨2, ![64, 101]⟩
abbrev S64 : Shape := ⟨1, ![64]⟩
abbrev S101x64 : Shape := ⟨2, ![101, 64]⟩
abbrev S1x64 : Shape := ⟨2, ![1, 64]⟩
abbrev S101x65 : Shape := ⟨2, ![101, 65]⟩
abbrev S6565 : Shape := ⟨1, ![6565]⟩
abbrev S201x4096 : Shape := ⟨2, ![201, 4096]⟩
abbrev S823296 : Shape := ⟨1, ![823296]⟩
abbrev S200x8x32x8x128 : Shape := ⟨5, ![200, 8, 32, 8, 128]⟩
abbrev S26624 : Shape := ⟨1, ![26624]⟩
abbrev S25600 : Shape := ⟨1, ![25600]⟩
abbrev S2x8x8x128 : Shape := ⟨4, ![2, 8, 8, 128]⟩
abbrev S1024 : Shape := ⟨1, ![1024]⟩
abbrev S16 : Shape := ⟨1, ![16]⟩
abbrev S1x1x1x16 : Shape := ⟨4, ![1, 1, 1, 16]⟩
abbrev S1x8x8x128 : Shape := ⟨4, ![1, 8, 8, 128]⟩
abbrev S8x8x128 : Shape := ⟨3, ![8, 8, 128]⟩
abbrev S1x8x1x8x128 : Shape := ⟨5, ![1, 8, 1, 8, 128]⟩
abbrev S32x128x200x8x8 : Shape := ⟨5, ![32, 128, 200, 8, 8]⟩
abbrev S4096x200x64 : Shape := ⟨3, ![4096, 200, 64]⟩

abbrev nBuf : Table → Nat
  | .hbm => 19
  | .local .scVector .vmem => 4
  | _ => 0

abbrev bufTy : (tb : Table) → Fin (nBuf tb) → BufTy
  | .hbm, ⟨0, _⟩ => ⟨S4096x200, .i32⟩
  | .hbm, ⟨1, _⟩ => ⟨S4096x201, .f32⟩
  | .hbm, ⟨2, _⟩ => ⟨S_, .i32⟩
  | .hbm, ⟨3, _⟩ => ⟨S64x101, .f32⟩
  | .hbm, ⟨4, _⟩ => ⟨S64, .f32⟩
  | .hbm, ⟨5, _⟩ => ⟨S101x64, .f32⟩
  | .hbm, ⟨6, _⟩ => ⟨S1x64, .f32⟩
  | .hbm, ⟨7, _⟩ => ⟨S101x64, .f32⟩
  | .hbm, ⟨8, _⟩ => ⟨S101x64, .f32⟩
  | .hbm, ⟨9, _⟩ => ⟨S_, .i32⟩
  | .hbm, ⟨10, _⟩ => ⟨S_, .f32⟩
  | .hbm, ⟨11, _⟩ => ⟨S101x65, .f32⟩
  | .hbm, ⟨12, _⟩ => ⟨S6565, .f32⟩
  | .hbm, ⟨13, _⟩ => ⟨S201x4096, .f32⟩
  | .hbm, ⟨14, _⟩ => ⟨S823296, .f32⟩
  | .hbm, ⟨15, _⟩ => ⟨S200x8x32x8x128, .f32⟩
  | .hbm, ⟨16, _⟩ => ⟨S32x128x200x8x8, .f32⟩
  | .hbm, ⟨17, _⟩ => ⟨S4096x200x64, .f32⟩
  | .hbm, ⟨18, _⟩ => ⟨S4096x200, .f32⟩
  | .local .scVector .vmem, ⟨0, _⟩ => ⟨S26624, .f32⟩
  | .local .scVector .vmem, ⟨1, _⟩ => ⟨S25600, .i32⟩
  | .local .scVector .vmem, ⟨2, _⟩ => ⟨S6565, .f32⟩
  | .local .scVector .vmem, ⟨3, _⟩ => ⟨S2x8x8x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v7_scv : Ref sig .scVector := ⟨.hbm, 14, rfl⟩
abbrev main_v5_scv : Ref sig .scVector := ⟨.hbm, 12, rfl⟩
abbrev main_v8_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c25_i32 : BitVec 32 := 25#32
  let v21 : BitVec 32 := Scalar.muli v18 c25_i32
  let v23 : BitVec 32 := Scalar.addi v21 c0_i32_5
  let c4096_i32 : BitVec 32 := 4096#32
  let v24 : BitVec 32 := Scalar.muli v23 c4096_i32
  let c4_i32_4 : BitVec 32 := 4#32
  let v19 : BitVec 32 := Scalar.muli v18 c4_i32_4
  let v20 : BitVec 32 := Scalar.subi v1 v19
  let c1024_i32 : BitVec 32 := 1024#32
  let v22 : BitVec 32 := Scalar.muli v20 c1024_i32
  let v25 : BitVec 32 := Scalar.addi v24 v22
  ![v25.toNat]
@[reducible] def k0_t1_loop : Scf.Loop 32 :=
  let c0_i32_117 : BitVec 32 := 0#32
  let c25_i32_118 : BitVec 32 := 25#32
  let v309 : BitVec 32 := Scalar.addi c0_i32_117 c25_i32_118
  let c1_i32_119 : BitVec 32 := 1#32
  ⟨c0_i32_117, v309, c1_i32_119⟩
def k0_off2 (k0_t1 : Fin k0_t1_loop.trips) (c0_i32_126 : BitVec 32) : Fin 1 → Nat :=
  let c0_i32_117 : BitVec 32 := 0#32
  let c1_i32_119 : BitVec 32 := 1#32
  let arg12 : BitVec 32 := Scf.iv c0_i32_117 c1_i32_119 k0_t1
  let c1024_i32_125 : BitVec 32 := 1024#32
  let v311 : BitVec 32 := Scalar.muli arg12 c1024_i32_125
  let v312 : BitVec 32 := Scalar.addi v311 c0_i32_126
  let v313 : Index := Scalar.indexCast v312
  ![v313.toNat]
def k0_off3 (k0_t1 : Fin k0_t1_loop.trips) (c0_i32_129 : BitVec 32) : Fin 1 → Nat :=
  let c0_i32_117 : BitVec 32 := 0#32
  let c1_i32_119 : BitVec 32 := 1#32
  let arg12 : BitVec 32 := Scf.iv c0_i32_117 c1_i32_119 k0_t1
  let c1_i32_127 : BitVec 32 := 1#32
  let v315 : BitVec 32 := Scalar.addi arg12 c1_i32_127
  let c1024_i32_128 : BitVec 32 := 1024#32
  let v316 : BitVec 32 := Scalar.muli v315 c1024_i32_128
  let v317 : BitVec 32 := Scalar.addi v316 c0_i32_129
  let v318 : Index := Scalar.indexCast v317
  ![v318.toNat]
def k0_off4 (k0_t1 : Fin k0_t1_loop.trips) (c0_i32_133 : BitVec 32) : Fin 1 → Nat :=
  let c0_i32_117 : BitVec 32 := 0#32
  let c1_i32_119 : BitVec 32 := 1#32
  let arg12 : BitVec 32 := Scf.iv c0_i32_117 c1_i32_119 k0_t1
  let c1024_i32_132 : BitVec 32 := 1024#32
  let v330 : BitVec 32 := Scalar.muli arg12 c1024_i32_132
  let v331 : BitVec 32 := Scalar.addi v330 c0_i32_133
  let v332 : Index := Scalar.indexCast v331
  ![v332.toNat]
@[reducible] def k0_t2_loop : Scf.Loop 32 :=
  let c0_i32_122 : BitVec 32 := 0#32
  let c100_i32 : BitVec 32 := 100#32
  let v310 : BitVec 32 := Scalar.addi c0_i32_122 c100_i32
  let c1_i32_123 : BitVec 32 := 1#32
  ⟨c0_i32_122, v310, c1_i32_123⟩
@[reducible] def k0_t3_loop : Scf.Loop 32 :=
  let c0_i32_135 : BitVec 32 := 0#32
  let c8_i32_136 : BitVec 32 := 8#32
  let v331 : BitVec 32 := Scalar.addi c0_i32_135 c8_i32_136
  let c1_i32_137 : BitVec 32 := 1#32
  ⟨c0_i32_135, v331, c1_i32_137⟩
def k0_off5 (k0_t2 : Fin k0_t2_loop.trips) (k0_t3 : Fin k0_t3_loop.trips) : Fin 1 → Nat :=
  let c0_i32_122 : BitVec 32 := 0#32
  let c1_i32_123 : BitVec 32 := 1#32
  let arg12 : BitVec 32 := Scf.iv c0_i32_122 c1_i32_123 k0_t2
  let c0_i32_126 : BitVec 32 := 0#32
  let v312 : BitVec 1 := Scalar.cmpi .sgt arg12 c0_i32_126
  let v313 : BitVec 32 := Scalar.extui v312
  let c0_i32_127 : BitVec 32 := 0#32
  let v314 : BitVec 1 := Scalar.cmpi .slt arg12 c0_i32_127
  let v315 : BitVec 32 := Scalar.extui v314
  let v316 : BitVec 32 := Scalar.subi v313 v315
  let c4_i32_125 : BitVec 32 := 4#32
  let c0_i32_128 : BitVec 32 := 0#32
  let v317 : BitVec 1 := Scalar.cmpi .sgt c4_i32_125 c0_i32_128
  let v318 : BitVec 32 := Scalar.extui v317
  let c0_i32_129 : BitVec 32 := 0#32
  let v319 : BitVec 1 := Scalar.cmpi .slt c4_i32_125 c0_i32_129
  let v320 : BitVec 32 := Scalar.extui v319
  let v321 : BitVec 32 := Scalar.subi v318 v320
  let v322 : BitVec 1 := Scalar.cmpi .ne v316 v321
  let v323 : BitVec 32 := Scalar.remsi arg12 c4_i32_125
  let c0_i32_130 : BitVec 32 := 0#32
  let v324 : BitVec 1 := Scalar.cmpi .ne v323 c0_i32_130
  let v325 : BitVec 1 := Scalar.andi v322 v324
  let v311 : BitVec 32 := Scalar.divsi arg12 c4_i32_125
  let c1_i32_131 : BitVec 32 := 1#32
  let v326 : BitVec 32 := Scalar.subi v311 c1_i32_131
  let v327 : BitVec 32 := Scalar.select v325 v326 v311
  let c1024_i32_199 : BitVec 32 := 1024#32
  let v372 : BitVec 32 := Scalar.muli v327 c1024_i32_199
  let c2_i32_133 : BitVec 32 := 2#32
  let c4_i32_132 : BitVec 32 := 4#32
  let v328 : BitVec 32 := Scalar.muli v327 c4_i32_132
  let v329 : BitVec 32 := Scalar.subi arg12 v328
  let v330 : BitVec 32 := Scalar.muli c2_i32_133 v329
  let c128_i32 : BitVec 32 := 128#32
  let v373 : BitVec 32 := Scalar.muli v330 c128_i32
  let v374 : BitVec 32 := Scalar.addi v372 v373
  let c0_i32_135 : BitVec 32 := 0#32
  let c1_i32_137 : BitVec 32 := 1#32
  let arg13 : BitVec 32 := Scf.iv c0_i32_135 c1_i32_137 k0_t3
  let c16_i32_200 : BitVec 32 := 16#32
  let v375 : BitVec 32 := Scalar.muli arg13 c16_i32_200
  let v376 : BitVec 32 := Scalar.addi v374 v375
  let v377 : Index := Scalar.indexCast v376
  ![v377.toNat]

def k0_chk1 (v380 : IVec S16 32) : Prop :=
  (∀ a x, ((![v380] : Fin 1 → IVec S16 32) a x).toNat < S6565.size a)
theorem k0_idx1_inb : ∀ (v380 : IVec S16 32) (k0_hw1 : k0_chk1 v380), ∀ a x, ((![v380] : Fin 1 → IVec S16 32) a x).toNat < S6565.size a := fun v380 k0_hw1 => k0_hw1
def k0_off6 (k0_t3 : Fin k0_t3_loop.trips) : Fin 4 → Nat :=
  let c0_i32_203 : BitVec 32 := 0#32
  let v383 : Index := Scalar.indexCast c0_i32_203
  let c0_i32_204 : BitVec 32 := 0#32
  let v384 : Index := Scalar.indexCast c0_i32_204
  let c0_i32_205 : BitVec 32 := 0#32
  let v385 : Index := Scalar.indexCast c0_i32_205
  let c0_i32_135 : BitVec 32 := 0#32
  let c1_i32_137 : BitVec 32 := 1#32
  let arg13 : BitVec 32 := Scf.iv c0_i32_135 c1_i32_137 k0_t3
  let c16_i32_202 : BitVec 32 := 16#32
  let v382 : BitVec 32 := Scalar.muli arg13 c16_i32_202
  let v386 : Index := Scalar.indexCast v382
  ![0, 0, 0, v386.toNat]

def k0_chk2 (v389 : IVec S16 32) : Prop :=
  (∀ a x, ((![v389] : Fin 1 → IVec S16 32) a x).toNat < S6565.size a)
theorem k0_idx2_inb : ∀ (v389 : IVec S16 32) (k0_hw2 : k0_chk2 v389), ∀ a x, ((![v389] : Fin 1 → IVec S16 32) a x).toNat < S6565.size a := fun v389 k0_hw2 => k0_hw2
def k0_off7 (k0_t3 : Fin k0_t3_loop.trips) : Fin 4 → Nat :=
  let c0_i32_208 : BitVec 32 := 0#32
  let v392 : Index := Scalar.indexCast c0_i32_208
  let c0_i32_209 : BitVec 32 := 0#32
  let v393 : Index := Scalar.indexCast c0_i32_209
  let c1_i32_210 : BitVec 32 := 1#32
  let v394 : Index := Scalar.indexCast c1_i32_210
  let c0_i32_135 : BitVec 32 := 0#32
  let c1_i32_137 : BitVec 32 := 1#32
  let arg13 : BitVec 32 := Scf.iv c0_i32_135 c1_i32_137 k0_t3
  let c16_i32_207 : BitVec 32 := 16#32
  let v391 : BitVec 32 := Scalar.muli arg13 c16_i32_207
  let v395 : Index := Scalar.indexCast v391
  ![0, 0, 1, v395.toNat]

def k0_chk3 (v398 : IVec S16 32) : Prop :=
  (∀ a x, ((![v398] : Fin 1 → IVec S16 32) a x).toNat < S6565.size a)
theorem k0_idx3_inb : ∀ (v398 : IVec S16 32) (k0_hw3 : k0_chk3 v398), ∀ a x, ((![v398] : Fin 1 → IVec S16 32) a x).toNat < S6565.size a := fun v398 k0_hw3 => k0_hw3
def k0_off8 (k0_t3 : Fin k0_t3_loop.trips) : Fin 4 → Nat :=
  let c0_i32_213 : BitVec 32 := 0#32
  let v401 : Index := Scalar.indexCast c0_i32_213
  let c0_i32_214 : BitVec 32 := 0#32
  let v402 : Index := Scalar.indexCast c0_i32_214
  let c2_i32_215 : BitVec 32 := 2#32
  let v403 : Index := Scalar.indexCast c2_i32_215
  let c0_i32_135 : BitVec 32 := 0#32
  let c1_i32_137 : BitVec 32 := 1#32
  let arg13 : BitVec 32 := Scf.iv c0_i32_135 c1_i32_137 k0_t3
  let c16_i32_212 : BitVec 32 := 16#32
  let v400 : BitVec 32 := Scalar.muli arg13 c16_i32_212
  let v404 : Index := Scalar.indexCast v400
  ![0, 0, 2, v404.toNat]

def k0_chk4 (v407 : IVec S16 32) : Prop :=
  (∀ a x, ((![v407] : Fin 1 → IVec S16 32) a x).toNat < S6565.size a)
theorem k0_idx4_inb : ∀ (v407 : IVec S16 32) (k0_hw4 : k0_chk4 v407), ∀ a x, ((![v407] : Fin 1 → IVec S16 32) a x).toNat < S6565.size a := fun v407 k0_hw4 => k0_hw4
def k0_off9 (k0_t3 : Fin k0_t3_loop.trips) : Fin 4 → Nat :=
  let c0_i32_218 : BitVec 32 := 0#32
  let v410 : Index := Scalar.indexCast c0_i32_218
  let c0_i32_219 : BitVec 32 := 0#32
  let v411 : Index := Scalar.indexCast c0_i32_219
  let c3_i32_220 : BitVec 32 := 3#32
  let v412 : Index := Scalar.indexCast c3_i32_220
  let c0_i32_135 : BitVec 32 := 0#32
  let c1_i32_137 : BitVec 32 := 1#32
  let arg13 : BitVec 32 := Scf.iv c0_i32_135 c1_i32_137 k0_t3
  let c16_i32_217 : BitVec 32 := 16#32
  let v409 : BitVec 32 := Scalar.muli arg13 c16_i32_217
  let v413 : Index := Scalar.indexCast v409
  ![0, 0, 3, v413.toNat]

def k0_chk5 (v416 : IVec S16 32) : Prop :=
  (∀ a x, ((![v416] : Fin 1 → IVec S16 32) a x).toNat < S6565.size a)
theorem k0_idx5_inb : ∀ (v416 : IVec S16 32) (k0_hw5 : k0_chk5 v416), ∀ a x, ((![v416] : Fin 1 → IVec S16 32) a x).toNat < S6565.size a := fun v416 k0_hw5 => k0_hw5
def k0_off10 (k0_t3 : Fin k0_t3_loop.trips) : Fin 4 → Nat :=
  let c0_i32_223 : BitVec 32 := 0#32
  let v419 : Index := Scalar.indexCast c0_i32_223
  let c0_i32_224 : BitVec 32 := 0#32
  let v420 : Index := Scalar.indexCast c0_i32_224
  let c4_i32_225 : BitVec 32 := 4#32
  let v421 : Index := Scalar.indexCast c4_i32_225
  let c0_i32_135 : BitVec 32 := 0#32
  let c1_i32_137 : BitVec 32 := 1#32
  let arg13 : BitVec 32 := Scf.iv c0_i32_135 c1_i32_137 k0_t3
  let c16_i32_222 : BitVec 32 := 16#32
  let v418 : BitVec 32 := Scalar.muli arg13 c16_i32_222
  let v422 : Index := Scalar.indexCast v418
  ![0, 0, 4, v422.toNat]

def k0_chk6 (v425 : IVec S16 32) : Prop :=
  (∀ a x, ((![v425] : Fin 1 → IVec S16 32) a x).toNat < S6565.size a)
theorem k0_idx6_inb : ∀ (v425 : IVec S16 32) (k0_hw6 : k0_chk6 v425), ∀ a x, ((![v425] : Fin 1 → IVec S16 32) a x).toNat < S6565.size a := fun v425 k0_hw6 => k0_hw6
def k0_off11 (k0_t3 : Fin k0_t3_loop.trips) : Fin 4 → Nat :=
  let c0_i32_228 : BitVec 32 := 0#32
  let v428 : Index := Scalar.indexCast c0_i32_228
  let c0_i32_229 : BitVec 32 := 0#32
  let v429 : Index := Scalar.indexCast c0_i32_229
  let c5_i32_230 : BitVec 32 := 5#32
  let v430 : Index := Scalar.indexCast c5_i32_230
  let c0_i32_135 : BitVec 32 := 0#32
  let c1_i32_137 : BitVec 32 := 1#32
  let arg13 : BitVec 32 := Scf.iv c0_i32_135 c1_i32_137 k0_t3
  let c16_i32_227 : BitVec 32 := 16#32
  let v427 : BitVec 32 := Scalar.muli arg13 c16_i32_227
  let v431 : Index := Scalar.indexCast v427
  ![0, 0, 5, v431.toNat]

def k0_chk7 (v434 : IVec S16 32) : Prop :=
  (∀ a x, ((![v434] : Fin 1 → IVec S16 32) a x).toNat < S6565.size a)
theorem k0_idx7_inb : ∀ (v434 : IVec S16 32) (k0_hw7 : k0_chk7 v434), ∀ a x, ((![v434] : Fin 1 → IVec S16 32) a x).toNat < S6565.size a := fun v434 k0_hw7 => k0_hw7
def k0_off12 (k0_t3 : Fin k0_t3_loop.trips) : Fin 4 → Nat :=
  let c0_i32_233 : BitVec 32 := 0#32
  let v437 : Index := Scalar.indexCast c0_i32_233
  let c0_i32_234 : BitVec 32 := 0#32
  let v438 : Index := Scalar.indexCast c0_i32_234
  let c6_i32_235 : BitVec 32 := 6#32
  let v439 : Index := Scalar.indexCast c6_i32_235
  let c0_i32_135 : BitVec 32 := 0#32
  let c1_i32_137 : BitVec 32 := 1#32
  let arg13 : BitVec 32 := Scf.iv c0_i32_135 c1_i32_137 k0_t3
  let c16_i32_232 : BitVec 32 := 16#32
  let v436 : BitVec 32 := Scalar.muli arg13 c16_i32_232
  let v440 : Index := Scalar.indexCast v436
  ![0, 0, 6, v440.toNat]

def k0_chk8 (v443 : IVec S16 32) : Prop :=
  (∀ a x, ((![v443] : Fin 1 → IVec S16 32) a x).toNat < S6565.size a)
theorem k0_idx8_inb : ∀ (v443 : IVec S16 32) (k0_hw8 : k0_chk8 v443), ∀ a x, ((![v443] : Fin 1 → IVec S16 32) a x).toNat < S6565.size a := fun v443 k0_hw8 => k0_hw8
def k0_off13 (k0_t3 : Fin k0_t3_loop.trips) : Fin 4 → Nat :=
  let c0_i32_238 : BitVec 32 := 0#32
  let v446 : Index := Scalar.indexCast c0_i32_238
  let c0_i32_239 : BitVec 32 := 0#32
  let v447 : Index := Scalar.indexCast c0_i32_239
  let c7_i32_240 : BitVec 32 := 7#32
  let v448 : Index := Scalar.indexCast c7_i32_240
  let c0_i32_135 : BitVec 32 := 0#32
  let c1_i32_137 : BitVec 32 := 1#32
  let arg13 : BitVec 32 := Scf.iv c0_i32_135 c1_i32_137 k0_t3
  let c16_i32_237 : BitVec 32 := 16#32
  let v445 : BitVec 32 := Scalar.muli arg13 c16_i32_237
  let v449 : Index := Scalar.indexCast v445
  ![0, 0, 7, v449.toNat]

def k0_chk9 (v452 : IVec S16 32) : Prop :=
  (∀ a x, ((![v452] : Fin 1 → IVec S16 32) a x).toNat < S6565.size a)
theorem k0_idx9_inb : ∀ (v452 : IVec S16 32) (k0_hw9 : k0_chk9 v452), ∀ a x, ((![v452] : Fin 1 → IVec S16 32) a x).toNat < S6565.size a := fun v452 k0_hw9 => k0_hw9
def k0_off14 (k0_t3 : Fin k0_t3_loop.trips) : Fin 4 → Nat :=
  let c0_i32_243 : BitVec 32 := 0#32
  let v455 : Index := Scalar.indexCast c0_i32_243
  let c1_i32_244 : BitVec 32 := 1#32
  let v456 : Index := Scalar.indexCast c1_i32_244
  let c0_i32_245 : BitVec 32 := 0#32
  let v457 : Index := Scalar.indexCast c0_i32_245
  let c0_i32_135 : BitVec 32 := 0#32
  let c1_i32_137 : BitVec 32 := 1#32
  let arg13 : BitVec 32 := Scf.iv c0_i32_135 c1_i32_137 k0_t3
  let c16_i32_242 : BitVec 32 := 16#32
  let v454 : BitVec 32 := Scalar.muli arg13 c16_i32_242
  let v458 : Index := Scalar.indexCast v454
  ![0, 1, 0, v458.toNat]

def k0_chk10 (v461 : IVec S16 32) : Prop :=
  (∀ a x, ((![v461] : Fin 1 → IVec S16 32) a x).toNat < S6565.size a)
theorem k0_idx10_inb : ∀ (v461 : IVec S16 32) (k0_hw10 : k0_chk10 v461), ∀ a x, ((![v461] : Fin 1 → IVec S16 32) a x).toNat < S6565.size a := fun v461 k0_hw10 => k0_hw10
def k0_off15 (k0_t3 : Fin k0_t3_loop.trips) : Fin 4 → Nat :=
  let c0_i32_248 : BitVec 32 := 0#32
  let v464 : Index := Scalar.indexCast c0_i32_248
  let c1_i32_249 : BitVec 32 := 1#32
  let v465 : Index := Scalar.indexCast c1_i32_249
  let c1_i32_250 : BitVec 32 := 1#32
  let v466 : Index := Scalar.indexCast c1_i32_250
  let c0_i32_135 : BitVec 32 := 0#32
  let c1_i32_137 : BitVec 32 := 1#32
  let arg13 : BitVec 32 := Scf.iv c0_i32_135 c1_i32_137 k0_t3
  let c16_i32_247 : BitVec 32 := 16#32
  let v463 : BitVec 32 := Scalar.muli arg13 c16_i32_247
  let v467 : Index := Scalar.indexCast v463
  ![0, 1, 1, v467.toNat]

def k0_chk11 (v470 : IVec S16 32) : Prop :=
  (∀ a x, ((![v470] : Fin 1 → IVec S16 32) a x).toNat < S6565.size a)
theorem k0_idx11_inb : ∀ (v470 : IVec S16 32) (k0_hw11 : k0_chk11 v470), ∀ a x, ((![v470] : Fin 1 → IVec S16 32) a x).toNat < S6565.size a := fun v470 k0_hw11 => k0_hw11
def k0_off16 (k0_t3 : Fin k0_t3_loop.trips) : Fin 4 → Nat :=
  let c0_i32_253 : BitVec 32 := 0#32
  let v473 : Index := Scalar.indexCast c0_i32_253
  let c1_i32_254 : BitVec 32 := 1#32
  let v474 : Index := Scalar.indexCast c1_i32_254
  let c2_i32_255 : BitVec 32 := 2#32
  let v475 : Index := Scalar.indexCast c2_i32_255
  let c0_i32_135 : BitVec 32 := 0#32
  let c1_i32_137 : BitVec 32 := 1#32
  let arg13 : BitVec 32 := Scf.iv c0_i32_135 c1_i32_137 k0_t3
  let c16_i32_252 : BitVec 32 := 16#32
  let v472 : BitVec 32 := Scalar.muli arg13 c16_i32_252
  let v476 : Index := Scalar.indexCast v472
  ![0, 1, 2, v476.toNat]

def k0_chk12 (v479 : IVec S16 32) : Prop :=
  (∀ a x, ((![v479] : Fin 1 → IVec S16 32) a x).toNat < S6565.size a)
theorem k0_idx12_inb : ∀ (v479 : IVec S16 32) (k0_hw12 : k0_chk12 v479), ∀ a x, ((![v479] : Fin 1 → IVec S16 32) a x).toNat < S6565.size a := fun v479 k0_hw12 => k0_hw12
def k0_off17 (k0_t3 : Fin k0_t3_loop.trips) : Fin 4 → Nat :=
  let c0_i32_258 : BitVec 32 := 0#32
  let v482 : Index := Scalar.indexCast c0_i32_258
  let c1_i32_259 : BitVec 32 := 1#32
  let v483 : Index := Scalar.indexCast c1_i32_259
  let c3_i32_260 : BitVec 32 := 3#32
  let v484 : Index := Scalar.indexCast c3_i32_260
  let c0_i32_135 : BitVec 32 := 0#32
  let c1_i32_137 : BitVec 32 := 1#32
  let arg13 : BitVec 32 := Scf.iv c0_i32_135 c1_i32_137 k0_t3
  let c16_i32_257 : BitVec 32 := 16#32
  let v481 : BitVec 32 := Scalar.muli arg13 c16_i32_257
  let v485 : Index := Scalar.indexCast v481
  ![0, 1, 3, v485.toNat]

def k0_chk13 (v488 : IVec S16 32) : Prop :=
  (∀ a x, ((![v488] : Fin 1 → IVec S16 32) a x).toNat < S6565.size a)
theorem k0_idx13_inb : ∀ (v488 : IVec S16 32) (k0_hw13 : k0_chk13 v488), ∀ a x, ((![v488] : Fin 1 → IVec S16 32) a x).toNat < S6565.size a := fun v488 k0_hw13 => k0_hw13
def k0_off18 (k0_t3 : Fin k0_t3_loop.trips) : Fin 4 → Nat :=
  let c0_i32_263 : BitVec 32 := 0#32
  let v491 : Index := Scalar.indexCast c0_i32_263
  let c1_i32_264 : BitVec 32 := 1#32
  let v492 : Index := Scalar.indexCast c1_i32_264
  let c4_i32_265 : BitVec 32 := 4#32
  let v493 : Index := Scalar.indexCast c4_i32_265
  let c0_i32_135 : BitVec 32 := 0#32
  let c1_i32_137 : BitVec 32 := 1#32
  let arg13 : BitVec 32 := Scf.iv c0_i32_135 c1_i32_137 k0_t3
  let c16_i32_262 : BitVec 32 := 16#32
  let v490 : BitVec 32 := Scalar.muli arg13 c16_i32_262
  let v494 : Index := Scalar.indexCast v490
  ![0, 1, 4, v494.toNat]

def k0_chk14 (v497 : IVec S16 32) : Prop :=
  (∀ a x, ((![v497] : Fin 1 → IVec S16 32) a x).toNat < S6565.size a)
theorem k0_idx14_inb : ∀ (v497 : IVec S16 32) (k0_hw14 : k0_chk14 v497), ∀ a x, ((![v497] : Fin 1 → IVec S16 32) a x).toNat < S6565.size a := fun v497 k0_hw14 => k0_hw14
def k0_off19 (k0_t3 : Fin k0_t3_loop.trips) : Fin 4 → Nat :=
  let c0_i32_268 : BitVec 32 := 0#32
  let v500 : Index := Scalar.indexCast c0_i32_268
  let c1_i32_269 : BitVec 32 := 1#32
  let v501 : Index := Scalar.indexCast c1_i32_269
  let c5_i32_270 : BitVec 32 := 5#32
  let v502 : Index := Scalar.indexCast c5_i32_270
  let c0_i32_135 : BitVec 32 := 0#32
  let c1_i32_137 : BitVec 32 := 1#32
  let arg13 : BitVec 32 := Scf.iv c0_i32_135 c1_i32_137 k0_t3
  let c16_i32_267 : BitVec 32 := 16#32
  let v499 : BitVec 32 := Scalar.muli arg13 c16_i32_267
  let v503 : Index := Scalar.indexCast v499
  ![0, 1, 5, v503.toNat]

def k0_chk15 (v506 : IVec S16 32) : Prop :=
  (∀ a x, ((![v506] : Fin 1 → IVec S16 32) a x).toNat < S6565.size a)
theorem k0_idx15_inb : ∀ (v506 : IVec S16 32) (k0_hw15 : k0_chk15 v506), ∀ a x, ((![v506] : Fin 1 → IVec S16 32) a x).toNat < S6565.size a := fun v506 k0_hw15 => k0_hw15
def k0_off20 (k0_t3 : Fin k0_t3_loop.trips) : Fin 4 → Nat :=
  let c0_i32_273 : BitVec 32 := 0#32
  let v509 : Index := Scalar.indexCast c0_i32_273
  let c1_i32_274 : BitVec 32 := 1#32
  let v510 : Index := Scalar.indexCast c1_i32_274
  let c6_i32_275 : BitVec 32 := 6#32
  let v511 : Index := Scalar.indexCast c6_i32_275
  let c0_i32_135 : BitVec 32 := 0#32
  let c1_i32_137 : BitVec 32 := 1#32
  let arg13 : BitVec 32 := Scf.iv c0_i32_135 c1_i32_137 k0_t3
  let c16_i32_272 : BitVec 32 := 16#32
  let v508 : BitVec 32 := Scalar.muli arg13 c16_i32_272
  let v512 : Index := Scalar.indexCast v508
  ![0, 1, 6, v512.toNat]

def k0_chk16 (v515 : IVec S16 32) : Prop :=
  (∀ a x, ((![v515] : Fin 1 → IVec S16 32) a x).toNat < S6565.size a)
theorem k0_idx16_inb : ∀ (v515 : IVec S16 32) (k0_hw16 : k0_chk16 v515), ∀ a x, ((![v515] : Fin 1 → IVec S16 32) a x).toNat < S6565.size a := fun v515 k0_hw16 => k0_hw16
def k0_off21 (k0_t3 : Fin k0_t3_loop.trips) : Fin 4 → Nat :=
  let c0_i32_278 : BitVec 32 := 0#32
  let v518 : Index := Scalar.indexCast c0_i32_278
  let c1_i32_279 : BitVec 32 := 1#32
  let v519 : Index := Scalar.indexCast c1_i32_279
  let c7_i32_280 : BitVec 32 := 7#32
  let v520 : Index := Scalar.indexCast c7_i32_280
  let c0_i32_135 : BitVec 32 := 0#32
  let c1_i32_137 : BitVec 32 := 1#32
  let arg13 : BitVec 32 := Scf.iv c0_i32_135 c1_i32_137 k0_t3
  let c16_i32_277 : BitVec 32 := 16#32
  let v517 : BitVec 32 := Scalar.muli arg13 c16_i32_277
  let v521 : Index := Scalar.indexCast v517
  ![0, 1, 7, v521.toNat]

def k0_chk17 (v524 : IVec S16 32) : Prop :=
  (∀ a x, ((![v524] : Fin 1 → IVec S16 32) a x).toNat < S6565.size a)
theorem k0_idx17_inb : ∀ (v524 : IVec S16 32) (k0_hw17 : k0_chk17 v524), ∀ a x, ((![v524] : Fin 1 → IVec S16 32) a x).toNat < S6565.size a := fun v524 k0_hw17 => k0_hw17
def k0_off22 (k0_t3 : Fin k0_t3_loop.trips) : Fin 4 → Nat :=
  let c0_i32_283 : BitVec 32 := 0#32
  let v527 : Index := Scalar.indexCast c0_i32_283
  let c2_i32_284 : BitVec 32 := 2#32
  let v528 : Index := Scalar.indexCast c2_i32_284
  let c0_i32_285 : BitVec 32 := 0#32
  let v529 : Index := Scalar.indexCast c0_i32_285
  let c0_i32_135 : BitVec 32 := 0#32
  let c1_i32_137 : BitVec 32 := 1#32
  let arg13 : BitVec 32 := Scf.iv c0_i32_135 c1_i32_137 k0_t3
  let c16_i32_282 : BitVec 32 := 16#32
  let v526 : BitVec 32 := Scalar.muli arg13 c16_i32_282
  let v530 : Index := Scalar.indexCast v526
  ![0, 2, 0, v530.toNat]

def k0_chk18 (v533 : IVec S16 32) : Prop :=
  (∀ a x, ((![v533] : Fin 1 → IVec S16 32) a x).toNat < S6565.size a)
theorem k0_idx18_inb : ∀ (v533 : IVec S16 32) (k0_hw18 : k0_chk18 v533), ∀ a x, ((![v533] : Fin 1 → IVec S16 32) a x).toNat < S6565.size a := fun v533 k0_hw18 => k0_hw18
def k0_off23 (k0_t3 : Fin k0_t3_loop.trips) : Fin 4 → Nat :=
  let c0_i32_288 : BitVec 32 := 0#32
  let v536 : Index := Scalar.indexCast c0_i32_288
  let c2_i32_289 : BitVec 32 := 2#32
  let v537 : Index := Scalar.indexCast c2_i32_289
  let c1_i32_290 : BitVec 32 := 1#32
  let v538 : Index := Scalar.indexCast c1_i32_290
  let c0_i32_135 : BitVec 32 := 0#32
  let c1_i32_137 : BitVec 32 := 1#32
  let arg13 : BitVec 32 := Scf.iv c0_i32_135 c1_i32_137 k0_t3
  let c16_i32_287 : BitVec 32 := 16#32
  let v535 : BitVec 32 := Scalar.muli arg13 c16_i32_287
  let v539 : Index := Scalar.indexCast v535
  ![0, 2, 1, v539.toNat]

def k0_chk19 (v542 : IVec S16 32) : Prop :=
  (∀ a x, ((![v542] : Fin 1 → IVec S16 32) a x).toNat < S6565.size a)
theorem k0_idx19_inb : ∀ (v542 : IVec S16 32) (k0_hw19 : k0_chk19 v542), ∀ a x, ((![v542] : Fin 1 → IVec S16 32) a x).toNat < S6565.size a := fun v542 k0_hw19 => k0_hw19
def k0_off24 (k0_t3 : Fin k0_t3_loop.trips) : Fin 4 → Nat :=
  let c0_i32_293 : BitVec 32 := 0#32
  let v545 : Index := Scalar.indexCast c0_i32_293
  let c2_i32_294 : BitVec 32 := 2#32
  let v546 : Index := Scalar.indexCast c2_i32_294
  let c2_i32_295 : BitVec 32 := 2#32
  let v547 : Index := Scalar.indexCast c2_i32_295
  let c0_i32_135 : BitVec 32 := 0#32
  let c1_i32_137 : BitVec 32 := 1#32
  let arg13 : BitVec 32 := Scf.iv c0_i32_135 c1_i32_137 k0_t3
  let c16_i32_292 : BitVec 32 := 16#32
  let v544 : BitVec 32 := Scalar.muli arg13 c16_i32_292
  let v548 : Index := Scalar.indexCast v544
  ![0, 2, 2, v548.toNat]

def k0_chk20 (v551 : IVec S16 32) : Prop :=
  (∀ a x, ((![v551] : Fin 1 → IVec S16 32) a x).toNat < S6565.size a)
theorem k0_idx20_inb : ∀ (v551 : IVec S16 32) (k0_hw20 : k0_chk20 v551), ∀ a x, ((![v551] : Fin 1 → IVec S16 32) a x).toNat < S6565.size a := fun v551 k0_hw20 => k0_hw20
def k0_off25 (k0_t3 : Fin k0_t3_loop.trips) : Fin 4 → Nat :=
  let c0_i32_298 : BitVec 32 := 0#32
  let v554 : Index := Scalar.indexCast c0_i32_298
  let c2_i32_299 : BitVec 32 := 2#32
  let v555 : Index := Scalar.indexCast c2_i32_299
  let c3_i32_300 : BitVec 32 := 3#32
  let v556 : Index := Scalar.indexCast c3_i32_300
  let c0_i32_135 : BitVec 32 := 0#32
  let c1_i32_137 : BitVec 32 := 1#32
  let arg13 : BitVec 32 := Scf.iv c0_i32_135 c1_i32_137 k0_t3
  let c16_i32_297 : BitVec 32 := 16#32
  let v553 : BitVec 32 := Scalar.muli arg13 c16_i32_297
  let v557 : Index := Scalar.indexCast v553
  ![0, 2, 3, v557.toNat]

def k0_chk21 (v560 : IVec S16 32) : Prop :=
  (∀ a x, ((![v560] : Fin 1 → IVec S16 32) a x).toNat < S6565.size a)
theorem k0_idx21_inb : ∀ (v560 : IVec S16 32) (k0_hw21 : k0_chk21 v560), ∀ a x, ((![v560] : Fin 1 → IVec S16 32) a x).toNat < S6565.size a := fun v560 k0_hw21 => k0_hw21
def k0_off26 (k0_t3 : Fin k0_t3_loop.trips) : Fin 4 → Nat :=
  let c0_i32_303 : BitVec 32 := 0#32
  let v563 : Index := Scalar.indexCast c0_i32_303
  let c2_i32_304 : BitVec 32 := 2#32
  let v564 : Index := Scalar.indexCast c2_i32_304
  let c4_i32_305 : BitVec 32 := 4#32
  let v565 : Index := Scalar.indexCast c4_i32_305
  let c0_i32_135 : BitVec 32 := 0#32
  let c1_i32_137 : BitVec 32 := 1#32
  let arg13 : BitVec 32 := Scf.iv c0_i32_135 c1_i32_137 k0_t3
  let c16_i32_302 : BitVec 32 := 16#32
  let v562 : BitVec 32 := Scalar.muli arg13 c16_i32_302
  let v566 : Index := Scalar.indexCast v562
  ![0, 2, 4, v566.toNat]

def k0_chk22 (v569 : IVec S16 32) : Prop :=
  (∀ a x, ((![v569] : Fin 1 → IVec S16 32) a x).toNat < S6565.size a)
theorem k0_idx22_inb : ∀ (v569 : IVec S16 32) (k0_hw22 : k0_chk22 v569), ∀ a x, ((![v569] : Fin 1 → IVec S16 32) a x).toNat < S6565.size a := fun v569 k0_hw22 => k0_hw22
def k0_off27 (k0_t3 : Fin k0_t3_loop.trips) : Fin 4 → Nat :=
  let c0_i32_308 : BitVec 32 := 0#32
  let v572 : Index := Scalar.indexCast c0_i32_308
  let c2_i32_309 : BitVec 32 := 2#32
  let v573 : Index := Scalar.indexCast c2_i32_309
  let c5_i32_310 : BitVec 32 := 5#32
  let v574 : Index := Scalar.indexCast c5_i32_310
  let c0_i32_135 : BitVec 32 := 0#32
  let c1_i32_137 : BitVec 32 := 1#32
  let arg13 : BitVec 32 := Scf.iv c0_i32_135 c1_i32_137 k0_t3
  let c16_i32_307 : BitVec 32 := 16#32
  let v571 : BitVec 32 := Scalar.muli arg13 c16_i32_307
  let v575 : Index := Scalar.indexCast v571
  ![0, 2, 5, v575.toNat]

def k0_chk23 (v578 : IVec S16 32) : Prop :=
  (∀ a x, ((![v578] : Fin 1 → IVec S16 32) a x).toNat < S6565.size a)
theorem k0_idx23_inb : ∀ (v578 : IVec S16 32) (k0_hw23 : k0_chk23 v578), ∀ a x, ((![v578] : Fin 1 → IVec S16 32) a x).toNat < S6565.size a := fun v578 k0_hw23 => k0_hw23
def k0_off28 (k0_t3 : Fin k0_t3_loop.trips) : Fin 4 → Nat :=
  let c0_i32_313 : BitVec 32 := 0#32
  let v581 : Index := Scalar.indexCast c0_i32_313
  let c2_i32_314 : BitVec 32 := 2#32
  let v582 : Index := Scalar.indexCast c2_i32_314
  let c6_i32_315 : BitVec 32 := 6#32
  let v583 : Index := Scalar.indexCast c6_i32_315
  let c0_i32_135 : BitVec 32 := 0#32
  let c1_i32_137 : BitVec 32 := 1#32
  let arg13 : BitVec 32 := Scf.iv c0_i32_135 c1_i32_137 k0_t3
  let c16_i32_312 : BitVec 32 := 16#32
  let v580 : BitVec 32 := Scalar.muli arg13 c16_i32_312
  let v584 : Index := Scalar.indexCast v580
  ![0, 2, 6, v584.toNat]

def k0_chk24 (v587 : IVec S16 32) : Prop :=
  (∀ a x, ((![v587] : Fin 1 → IVec S16 32) a x).toNat < S6565.size a)
theorem k0_idx24_inb : ∀ (v587 : IVec S16 32) (k0_hw24 : k0_chk24 v587), ∀ a x, ((![v587] : Fin 1 → IVec S16 32) a x).toNat < S6565.size a := fun v587 k0_hw24 => k0_hw24
def k0_off29 (k0_t3 : Fin k0_t3_loop.trips) : Fin 4 → Nat :=
  let c0_i32_318 : BitVec 32 := 0#32
  let v590 : Index := Scalar.indexCast c0_i32_318
  let c2_i32_319 : BitVec 32 := 2#32
  let v591 : Index := Scalar.indexCast c2_i32_319
  let c7_i32_320 : BitVec 32 := 7#32
  let v592 : Index := Scalar.indexCast c7_i32_320
  let c0_i32_135 : BitVec 32 := 0#32
  let c1_i32_137 : BitVec 32 := 1#32
  let arg13 : BitVec 32 := Scf.iv c0_i32_135 c1_i32_137 k0_t3
  let c16_i32_317 : BitVec 32 := 16#32
  let v589 : BitVec 32 := Scalar.muli arg13 c16_i32_317
  let v593 : Index := Scalar.indexCast v589
  ![0, 2, 7, v593.toNat]

def k0_chk25 (v596 : IVec S16 32) : Prop :=
  (∀ a x, ((![v596] : Fin 1 → IVec S16 32) a x).toNat < S6565.size a)
theorem k0_idx25_inb : ∀ (v596 : IVec S16 32) (k0_hw25 : k0_chk25 v596), ∀ a x, ((![v596] : Fin 1 → IVec S16 32) a x).toNat < S6565.size a := fun v596 k0_hw25 => k0_hw25
def k0_off30 (k0_t3 : Fin k0_t3_loop.trips) : Fin 4 → Nat :=
  let c0_i32_323 : BitVec 32 := 0#32
  let v599 : Index := Scalar.indexCast c0_i32_323
  let c3_i32_324 : BitVec 32 := 3#32
  let v600 : Index := Scalar.indexCast c3_i32_324
  let c0_i32_325 : BitVec 32 := 0#32
  let v601 : Index := Scalar.indexCast c0_i32_325
  let c0_i32_135 : BitVec 32 := 0#32
  let c1_i32_137 : BitVec 32 := 1#32
  let arg13 : BitVec 32 := Scf.iv c0_i32_135 c1_i32_137 k0_t3
  let c16_i32_322 : BitVec 32 := 16#32
  let v598 : BitVec 32 := Scalar.muli arg13 c16_i32_322
  let v602 : Index := Scalar.indexCast v598
  ![0, 3, 0, v602.toNat]

def k0_chk26 (v605 : IVec S16 32) : Prop :=
  (∀ a x, ((![v605] : Fin 1 → IVec S16 32) a x).toNat < S6565.size a)
theorem k0_idx26_inb : ∀ (v605 : IVec S16 32) (k0_hw26 : k0_chk26 v605), ∀ a x, ((![v605] : Fin 1 → IVec S16 32) a x).toNat < S6565.size a := fun v605 k0_hw26 => k0_hw26
def k0_off31 (k0_t3 : Fin k0_t3_loop.trips) : Fin 4 → Nat :=
  let c0_i32_328 : BitVec 32 := 0#32
  let v608 : Index := Scalar.indexCast c0_i32_328
  let c3_i32_329 : BitVec 32 := 3#32
  let v609 : Index := Scalar.indexCast c3_i32_329
  let c1_i32_330 : BitVec 32 := 1#32
  let v610 : Index := Scalar.indexCast c1_i32_330
  let c0_i32_135 : BitVec 32 := 0#32
  let c1_i32_137 : BitVec 32 := 1#32
  let arg13 : BitVec 32 := Scf.iv c0_i32_135 c1_i32_137 k0_t3
  let c16_i32_327 : BitVec 32 := 16#32
  let v607 : BitVec 32 := Scalar.muli arg13 c16_i32_327
  let v611 : Index := Scalar.indexCast v607
  ![0, 3, 1, v611.toNat]

def k0_chk27 (v614 : IVec S16 32) : Prop :=
  (∀ a x, ((![v614] : Fin 1 → IVec S16 32) a x).toNat < S6565.size a)
theorem k0_idx27_inb : ∀ (v614 : IVec S16 32) (k0_hw27 : k0_chk27 v614), ∀ a x, ((![v614] : Fin 1 → IVec S16 32) a x).toNat < S6565.size a := fun v614 k0_hw27 => k0_hw27
def k0_off32 (k0_t3 : Fin k0_t3_loop.trips) : Fin 4 → Nat :=
  let c0_i32_332 : BitVec 32 := 0#32
  let v617 : Index := Scalar.indexCast c0_i32_332
  let c3_i32_333 : BitVec 32 := 3#32
  let v618 : Index := Scalar.indexCast c3_i32_333
  let c2_i32_334 : BitVec 32 := 2#32
  let v619 : Index := Scalar.indexCast c2_i32_334
  let c0_i32_135 : BitVec 32 := 0#32
  let c1_i32_137 : BitVec 32 := 1#32
  let arg13 : BitVec 32 := Scf.iv c0_i32_135 c1_i32_137 k0_t3
  let c16_i32_331 : BitVec 32 := 16#32
  let v616 : BitVec 32 := Scalar.muli arg13 c16_i32_331
  let v620 : Index := Scalar.indexCast v616
  ![0, 3, 2, v620.toNat]

def k0_chk28 (v623 : IVec S16 32) : Prop :=
  (∀ a x, ((![v623] : Fin 1 → IVec S16 32) a x).toNat < S6565.size a)
theorem k0_idx28_inb : ∀ (v623 : IVec S16 32) (k0_hw28 : k0_chk28 v623), ∀ a x, ((![v623] : Fin 1 → IVec S16 32) a x).toNat < S6565.size a := fun v623 k0_hw28 => k0_hw28
def k0_off33 (k0_t3 : Fin k0_t3_loop.trips) : Fin 4 → Nat :=
  let c0_i32_336 : BitVec 32 := 0#32
  let v626 : Index := Scalar.indexCast c0_i32_336
  let c3_i32_337 : BitVec 32 := 3#32
  let v627 : Index := Scalar.indexCast c3_i32_337
  let c3_i32_338 : BitVec 32 := 3#32
  let v628 : Index := Scalar.indexCast c3_i32_338
  let c0_i32_135 : BitVec 32 := 0#32
  let c1_i32_137 : BitVec 32 := 1#32
  let arg13 : BitVec 32 := Scf.iv c0_i32_135 c1_i32_137 k0_t3
  let c16_i32_335 : BitVec 32 := 16#32
  let v625 : BitVec 32 := Scalar.muli arg13 c16_i32_335
  let v629 : Index := Scalar.indexCast v625
  ![0, 3, 3, v629.toNat]

def k0_chk29 (v632 : IVec S16 32) : Prop :=
  (∀ a x, ((![v632] : Fin 1 → IVec S16 32) a x).toNat < S6565.size a)
theorem k0_idx29_inb : ∀ (v632 : IVec S16 32) (k0_hw29 : k0_chk29 v632), ∀ a x, ((![v632] : Fin 1 → IVec S16 32) a x).toNat < S6565.size a := fun v632 k0_hw29 => k0_hw29
def k0_off34 (k0_t3 : Fin k0_t3_loop.trips) : Fin 4 → Nat :=
  let c0_i32_340 : BitVec 32 := 0#32
  let v635 : Index := Scalar.indexCast c0_i32_340
  let c3_i32_341 : BitVec 32 := 3#32
  let v636 : Index := Scalar.indexCast c3_i32_341
  let c4_i32_342 : BitVec 32 := 4#32
  let v637 : Index := Scalar.indexCast c4_i32_342
  let c0_i32_135 : BitVec 32 := 0#32
  let c1_i32_137 : BitVec 32 := 1#32
  let arg13 : BitVec 32 := Scf.iv c0_i32_135 c1_i32_137 k0_t3
  let c16_i32_339 : BitVec 32 := 16#32
  let v634 : BitVec 32 := Scalar.muli arg13 c16_i32_339
  let v638 : Index := Scalar.indexCast v634
  ![0, 3, 4, v638.toNat]

def k0_chk30 (v641 : IVec S16 32) : Prop :=
  (∀ a x, ((![v641] : Fin 1 → IVec S16 32) a x).toNat < S6565.size a)
theorem k0_idx30_inb : ∀ (v641 : IVec S16 32) (k0_hw30 : k0_chk30 v641), ∀ a x, ((![v641] : Fin 1 → IVec S16 32) a x).toNat < S6565.size a := fun v641 k0_hw30 => k0_hw30
def k0_off35 (k0_t3 : Fin k0_t3_loop.trips) : Fin 4 → Nat :=
  let c0_i32_344 : BitVec 32 := 0#32
  let v644 : Index := Scalar.indexCast c0_i32_344
  let c3_i32_345 : BitVec 32 := 3#32
  let v645 : Index := Scalar.indexCast c3_i32_345
  let c5_i32_346 : BitVec 32 := 5#32
  let v646 : Index := Scalar.indexCast c5_i32_346
  let c0_i32_135 : BitVec 32 := 0#32
  let c1_i32_137 : BitVec 32 := 1#32
  let arg13 : BitVec 32 := Scf.iv c0_i32_135 c1_i32_137 k0_t3
  let c16_i32_343 : BitVec 32 := 16#32
  let v643 : BitVec 32 := Scalar.muli arg13 c16_i32_343
  let v647 : Index := Scalar.indexCast v643
  ![0, 3, 5, v647.toNat]

def k0_chk31 (v650 : IVec S16 32) : Prop :=
  (∀ a x, ((![v650] : Fin 1 → IVec S16 32) a x).toNat < S6565.size a)
theorem k0_idx31_inb : ∀ (v650 : IVec S16 32) (k0_hw31 : k0_chk31 v650), ∀ a x, ((![v650] : Fin 1 → IVec S16 32) a x).toNat < S6565.size a := fun v650 k0_hw31 => k0_hw31
def k0_off36 (k0_t3 : Fin k0_t3_loop.trips) : Fin 4 → Nat :=
  let c0_i32_348 : BitVec 32 := 0#32
  let v653 : Index := Scalar.indexCast c0_i32_348
  let c3_i32_349 : BitVec 32 := 3#32
  let v654 : Index := Scalar.indexCast c3_i32_349
  let c6_i32_350 : BitVec 32 := 6#32
  let v655 : Index := Scalar.indexCast c6_i32_350
  let c0_i32_135 : BitVec 32 := 0#32
  let c1_i32_137 : BitVec 32 := 1#32
  let arg13 : BitVec 32 := Scf.iv c0_i32_135 c1_i32_137 k0_t3
  let c16_i32_347 : BitVec 32 := 16#32
  let v652 : BitVec 32 := Scalar.muli arg13 c16_i32_347
  let v656 : Index := Scalar.indexCast v652
  ![0, 3, 6, v656.toNat]

def k0_chk32 (v659 : IVec S16 32) : Prop :=
  (∀ a x, ((![v659] : Fin 1 → IVec S16 32) a x).toNat < S6565.size a)
theorem k0_idx32_inb : ∀ (v659 : IVec S16 32) (k0_hw32 : k0_chk32 v659), ∀ a x, ((![v659] : Fin 1 → IVec S16 32) a x).toNat < S6565.size a := fun v659 k0_hw32 => k0_hw32
def k0_off37 (k0_t3 : Fin k0_t3_loop.trips) : Fin 4 → Nat :=
  let c0_i32_352 : BitVec 32 := 0#32
  let v662 : Index := Scalar.indexCast c0_i32_352
  let c3_i32_353 : BitVec 32 := 3#32
  let v663 : Index := Scalar.indexCast c3_i32_353
  let c7_i32_354 : BitVec 32 := 7#32
  let v664 : Index := Scalar.indexCast c7_i32_354
  let c0_i32_135 : BitVec 32 := 0#32
  let c1_i32_137 : BitVec 32 := 1#32
  let arg13 : BitVec 32 := Scf.iv c0_i32_135 c1_i32_137 k0_t3
  let c16_i32_351 : BitVec 32 := 16#32
  let v661 : BitVec 32 := Scalar.muli arg13 c16_i32_351
  let v665 : Index := Scalar.indexCast v661
  ![0, 3, 7, v665.toNat]

def k0_chk33 (v668 : IVec S16 32) : Prop :=
  (∀ a x, ((![v668] : Fin 1 → IVec S16 32) a x).toNat < S6565.size a)
theorem k0_idx33_inb : ∀ (v668 : IVec S16 32) (k0_hw33 : k0_chk33 v668), ∀ a x, ((![v668] : Fin 1 → IVec S16 32) a x).toNat < S6565.size a := fun v668 k0_hw33 => k0_hw33
def k0_off38 (k0_t3 : Fin k0_t3_loop.trips) : Fin 4 → Nat :=
  let c0_i32_356 : BitVec 32 := 0#32
  let v671 : Index := Scalar.indexCast c0_i32_356
  let c4_i32_357 : BitVec 32 := 4#32
  let v672 : Index := Scalar.indexCast c4_i32_357
  let c0_i32_358 : BitVec 32 := 0#32
  let v673 : Index := Scalar.indexCast c0_i32_358
  let c0_i32_135 : BitVec 32 := 0#32
  let c1_i32_137 : BitVec 32 := 1#32
  let arg13 : BitVec 32 := Scf.iv c0_i32_135 c1_i32_137 k0_t3
  let c16_i32_355 : BitVec 32 := 16#32
  let v670 : BitVec 32 := Scalar.muli arg13 c16_i32_355
  let v674 : Index := Scalar.indexCast v670
  ![0, 4, 0, v674.toNat]

def k0_chk34 (v677 : IVec S16 32) : Prop :=
  (∀ a x, ((![v677] : Fin 1 → IVec S16 32) a x).toNat < S6565.size a)
theorem k0_idx34_inb : ∀ (v677 : IVec S16 32) (k0_hw34 : k0_chk34 v677), ∀ a x, ((![v677] : Fin 1 → IVec S16 32) a x).toNat < S6565.size a := fun v677 k0_hw34 => k0_hw34
def k0_off39 (k0_t3 : Fin k0_t3_loop.trips) : Fin 4 → Nat :=
  let c0_i32_360 : BitVec 32 := 0#32
  let v680 : Index := Scalar.indexCast c0_i32_360
  let c4_i32_361 : BitVec 32 := 4#32
  let v681 : Index := Scalar.indexCast c4_i32_361
  let c1_i32_362 : BitVec 32 := 1#32
  let v682 : Index := Scalar.indexCast c1_i32_362
  let c0_i32_135 : BitVec 32 := 0#32
  let c1_i32_137 : BitVec 32 := 1#32
  let arg13 : BitVec 32 := Scf.iv c0_i32_135 c1_i32_137 k0_t3
  let c16_i32_359 : BitVec 32 := 16#32
  let v679 : BitVec 32 := Scalar.muli arg13 c16_i32_359
  let v683 : Index := Scalar.indexCast v679
  ![0, 4, 1, v683.toNat]

def k0_chk35 (v686 : IVec S16 32) : Prop :=
  (∀ a x, ((![v686] : Fin 1 → IVec S16 32) a x).toNat < S6565.size a)
theorem k0_idx35_inb : ∀ (v686 : IVec S16 32) (k0_hw35 : k0_chk35 v686), ∀ a x, ((![v686] : Fin 1 → IVec S16 32) a x).toNat < S6565.size a := fun v686 k0_hw35 => k0_hw35
def k0_off40 (k0_t3 : Fin k0_t3_loop.trips) : Fin 4 → Nat :=
  let c0_i32_364 : BitVec 32 := 0#32
  let v689 : Index := Scalar.indexCast c0_i32_364
  let c4_i32_365 : BitVec 32 := 4#32
  let v690 : Index := Scalar.indexCast c4_i32_365
  let c2_i32_366 : BitVec 32 := 2#32
  let v691 : Index := Scalar.indexCast c2_i32_366
  let c0_i32_135 : BitVec 32 := 0#32
  let c1_i32_137 : BitVec 32 := 1#32
  let arg13 : BitVec 32 := Scf.iv c0_i32_135 c1_i32_137 k0_t3
  let c16_i32_363 : BitVec 32 := 16#32
  let v688 : BitVec 32 := Scalar.muli arg13 c16_i32_363
  let v692 : Index := Scalar.indexCast v688
  ![0, 4, 2, v692.toNat]

def k0_chk36 (v695 : IVec S16 32) : Prop :=
  (∀ a x, ((![v695] : Fin 1 → IVec S16 32) a x).toNat < S6565.size a)
theorem k0_idx36_inb : ∀ (v695 : IVec S16 32) (k0_hw36 : k0_chk36 v695), ∀ a x, ((![v695] : Fin 1 → IVec S16 32) a x).toNat < S6565.size a := fun v695 k0_hw36 => k0_hw36
def k0_off41 (k0_t3 : Fin k0_t3_loop.trips) : Fin 4 → Nat :=
  let c0_i32_368 : BitVec 32 := 0#32
  let v698 : Index := Scalar.indexCast c0_i32_368
  let c4_i32_369 : BitVec 32 := 4#32
  let v699 : Index := Scalar.indexCast c4_i32_369
  let c3_i32_370 : BitVec 32 := 3#32
  let v700 : Index := Scalar.indexCast c3_i32_370
  let c0_i32_135 : BitVec 32 := 0#32
  let c1_i32_137 : BitVec 32 := 1#32
  let arg13 : BitVec 32 := Scf.iv c0_i32_135 c1_i32_137 k0_t3
  let c16_i32_367 : BitVec 32 := 16#32
  let v697 : BitVec 32 := Scalar.muli arg13 c16_i32_367
  let v701 : Index := Scalar.indexCast v697
  ![0, 4, 3, v701.toNat]

def k0_chk37 (v704 : IVec S16 32) : Prop :=
  (∀ a x, ((![v704] : Fin 1 → IVec S16 32) a x).toNat < S6565.size a)
theorem k0_idx37_inb : ∀ (v704 : IVec S16 32) (k0_hw37 : k0_chk37 v704), ∀ a x, ((![v704] : Fin 1 → IVec S16 32) a x).toNat < S6565.size a := fun v704 k0_hw37 => k0_hw37
def k0_off42 (k0_t3 : Fin k0_t3_loop.trips) : Fin 4 → Nat :=
  let c0_i32_372 : BitVec 32 := 0#32
  let v707 : Index := Scalar.indexCast c0_i32_372
  let c4_i32_373 : BitVec 32 := 4#32
  let v708 : Index := Scalar.indexCast c4_i32_373
  let c4_i32_374 : BitVec 32 := 4#32
  let v709 : Index := Scalar.indexCast c4_i32_374
  let c0_i32_135 : BitVec 32 := 0#32
  let c1_i32_137 : BitVec 32 := 1#32
  let arg13 : BitVec 32 := Scf.iv c0_i32_135 c1_i32_137 k0_t3
  let c16_i32_371 : BitVec 32 := 16#32
  let v706 : BitVec 32 := Scalar.muli arg13 c16_i32_371
  let v710 : Index := Scalar.indexCast v706
  ![0, 4, 4, v710.toNat]

def k0_chk38 (v713 : IVec S16 32) : Prop :=
  (∀ a x, ((![v713] : Fin 1 → IVec S16 32) a x).toNat < S6565.size a)
theorem k0_idx38_inb : ∀ (v713 : IVec S16 32) (k0_hw38 : k0_chk38 v713), ∀ a x, ((![v713] : Fin 1 → IVec S16 32) a x).toNat < S6565.size a := fun v713 k0_hw38 => k0_hw38
def k0_off43 (k0_t3 : Fin k0_t3_loop.trips) : Fin 4 → Nat :=
  let c0_i32_376 : BitVec 32 := 0#32
  let v716 : Index := Scalar.indexCast c0_i32_376
  let c4_i32_377 : BitVec 32 := 4#32
  let v717 : Index := Scalar.indexCast c4_i32_377
  let c5_i32_378 : BitVec 32 := 5#32
  let v718 : Index := Scalar.indexCast c5_i32_378
  let c0_i32_135 : BitVec 32 := 0#32
  let c1_i32_137 : BitVec 32 := 1#32
  let arg13 : BitVec 32 := Scf.iv c0_i32_135 c1_i32_137 k0_t3
  let c16_i32_375 : BitVec 32 := 16#32
  let v715 : BitVec 32 := Scalar.muli arg13 c16_i32_375
  let v719 : Index := Scalar.indexCast v715
  ![0, 4, 5, v719.toNat]

def k0_chk39 (v722 : IVec S16 32) : Prop :=
  (∀ a x, ((![v722] : Fin 1 → IVec S16 32) a x).toNat < S6565.size a)
theorem k0_idx39_inb : ∀ (v722 : IVec S16 32) (k0_hw39 : k0_chk39 v722), ∀ a x, ((![v722] : Fin 1 → IVec S16 32) a x).toNat < S6565.size a := fun v722 k0_hw39 => k0_hw39
def k0_off44 (k0_t3 : Fin k0_t3_loop.trips) : Fin 4 → Nat :=
  let c0_i32_380 : BitVec 32 := 0#32
  let v725 : Index := Scalar.indexCast c0_i32_380
  let c4_i32_381 : BitVec 32 := 4#32
  let v726 : Index := Scalar.indexCast c4_i32_381
  let c6_i32_382 : BitVec 32 := 6#32
  let v727 : Index := Scalar.indexCast c6_i32_382
  let c0_i32_135 : BitVec 32 := 0#32
  let c1_i32_137 : BitVec 32 := 1#32
  let arg13 : BitVec 32 := Scf.iv c0_i32_135 c1_i32_137 k0_t3
  let c16_i32_379 : BitVec 32 := 16#32
  let v724 : BitVec 32 := Scalar.muli arg13 c16_i32_379
  let v728 : Index := Scalar.indexCast v724
  ![0, 4, 6, v728.toNat]

def k0_chk40 (v731 : IVec S16 32) : Prop :=
  (∀ a x, ((![v731] : Fin 1 → IVec S16 32) a x).toNat < S6565.size a)
theorem k0_idx40_inb : ∀ (v731 : IVec S16 32) (k0_hw40 : k0_chk40 v731), ∀ a x, ((![v731] : Fin 1 → IVec S16 32) a x).toNat < S6565.size a := fun v731 k0_hw40 => k0_hw40
def k0_off45 (k0_t3 : Fin k0_t3_loop.trips) : Fin 4 → Nat :=
  let c0_i32_384 : BitVec 32 := 0#32
  let v734 : Index := Scalar.indexCast c0_i32_384
  let c4_i32_385 : BitVec 32 := 4#32
  let v735 : Index := Scalar.indexCast c4_i32_385
  let c7_i32_386 : BitVec 32 := 7#32
  let v736 : Index := Scalar.indexCast c7_i32_386
  let c0_i32_135 : BitVec 32 := 0#32
  let c1_i32_137 : BitVec 32 := 1#32
  let arg13 : BitVec 32 := Scf.iv c0_i32_135 c1_i32_137 k0_t3
  let c16_i32_383 : BitVec 32 := 16#32
  let v733 : BitVec 32 := Scalar.muli arg13 c16_i32_383
  let v737 : Index := Scalar.indexCast v733
  ![0, 4, 7, v737.toNat]

def k0_chk41 (v740 : IVec S16 32) : Prop :=
  (∀ a x, ((![v740] : Fin 1 → IVec S16 32) a x).toNat < S6565.size a)
theorem k0_idx41_inb : ∀ (v740 : IVec S16 32) (k0_hw41 : k0_chk41 v740), ∀ a x, ((![v740] : Fin 1 → IVec S16 32) a x).toNat < S6565.size a := fun v740 k0_hw41 => k0_hw41
def k0_off46 (k0_t3 : Fin k0_t3_loop.trips) : Fin 4 → Nat :=
  let c0_i32_388 : BitVec 32 := 0#32
  let v743 : Index := Scalar.indexCast c0_i32_388
  let c5_i32_389 : BitVec 32 := 5#32
  let v744 : Index := Scalar.indexCast c5_i32_389
  let c0_i32_390 : BitVec 32 := 0#32
  let v745 : Index := Scalar.indexCast c0_i32_390
  let c0_i32_135 : BitVec 32 := 0#32
  let c1_i32_137 : BitVec 32 := 1#32
  let arg13 : BitVec 32 := Scf.iv c0_i32_135 c1_i32_137 k0_t3
  let c16_i32_387 : BitVec 32 := 16#32
  let v742 : BitVec 32 := Scalar.muli arg13 c16_i32_387
  let v746 : Index := Scalar.indexCast v742
  ![0, 5, 0, v746.toNat]

def k0_chk42 (v749 : IVec S16 32) : Prop :=
  (∀ a x, ((![v749] : Fin 1 → IVec S16 32) a x).toNat < S6565.size a)
theorem k0_idx42_inb : ∀ (v749 : IVec S16 32) (k0_hw42 : k0_chk42 v749), ∀ a x, ((![v749] : Fin 1 → IVec S16 32) a x).toNat < S6565.size a := fun v749 k0_hw42 => k0_hw42
def k0_off47 (k0_t3 : Fin k0_t3_loop.trips) : Fin 4 → Nat :=
  let c0_i32_392 : BitVec 32 := 0#32
  let v752 : Index := Scalar.indexCast c0_i32_392
  let c5_i32_393 : BitVec 32 := 5#32
  let v753 : Index := Scalar.indexCast c5_i32_393
  let c1_i32_394 : BitVec 32 := 1#32
  let v754 : Index := Scalar.indexCast c1_i32_394
  let c0_i32_135 : BitVec 32 := 0#32
  let c1_i32_137 : BitVec 32 := 1#32
  let arg13 : BitVec 32 := Scf.iv c0_i32_135 c1_i32_137 k0_t3
  let c16_i32_391 : BitVec 32 := 16#32
  let v751 : BitVec 32 := Scalar.muli arg13 c16_i32_391
  let v755 : Index := Scalar.indexCast v751
  ![0, 5, 1, v755.toNat]

def k0_chk43 (v758 : IVec S16 32) : Prop :=
  (∀ a x, ((![v758] : Fin 1 → IVec S16 32) a x).toNat < S6565.size a)
theorem k0_idx43_inb : ∀ (v758 : IVec S16 32) (k0_hw43 : k0_chk43 v758), ∀ a x, ((![v758] : Fin 1 → IVec S16 32) a x).toNat < S6565.size a := fun v758 k0_hw43 => k0_hw43
def k0_off48 (k0_t3 : Fin k0_t3_loop.trips) : Fin 4 → Nat :=
  let c0_i32_396 : BitVec 32 := 0#32
  let v761 : Index := Scalar.indexCast c0_i32_396
  let c5_i32_397 : BitVec 32 := 5#32
  let v762 : Index := Scalar.indexCast c5_i32_397
  let c2_i32_398 : BitVec 32 := 2#32
  let v763 : Index := Scalar.indexCast c2_i32_398
  let c0_i32_135 : BitVec 32 := 0#32
  let c1_i32_137 : BitVec 32 := 1#32
  let arg13 : BitVec 32 := Scf.iv c0_i32_135 c1_i32_137 k0_t3
  let c16_i32_395 : BitVec 32 := 16#32
  let v760 : BitVec 32 := Scalar.muli arg13 c16_i32_395
  let v764 : Index := Scalar.indexCast v760
  ![0, 5, 2, v764.toNat]

def k0_chk44 (v767 : IVec S16 32) : Prop :=
  (∀ a x, ((![v767] : Fin 1 → IVec S16 32) a x).toNat < S6565.size a)
theorem k0_idx44_inb : ∀ (v767 : IVec S16 32) (k0_hw44 : k0_chk44 v767), ∀ a x, ((![v767] : Fin 1 → IVec S16 32) a x).toNat < S6565.size a := fun v767 k0_hw44 => k0_hw44
def k0_off49 (k0_t3 : Fin k0_t3_loop.trips) : Fin 4 → Nat :=
  let c0_i32_400 : BitVec 32 := 0#32
  let v770 : Index := Scalar.indexCast c0_i32_400
  let c5_i32_401 : BitVec 32 := 5#32
  let v771 : Index := Scalar.indexCast c5_i32_401
  let c3_i32_402 : BitVec 32 := 3#32
  let v772 : Index := Scalar.indexCast c3_i32_402
  let c0_i32_135 : BitVec 32 := 0#32
  let c1_i32_137 : BitVec 32 := 1#32
  let arg13 : BitVec 32 := Scf.iv c0_i32_135 c1_i32_137 k0_t3
  let c16_i32_399 : BitVec 32 := 16#32
  let v769 : BitVec 32 := Scalar.muli arg13 c16_i32_399
  let v773 : Index := Scalar.indexCast v769
  ![0, 5, 3, v773.toNat]

def k0_chk45 (v776 : IVec S16 32) : Prop :=
  (∀ a x, ((![v776] : Fin 1 → IVec S16 32) a x).toNat < S6565.size a)
theorem k0_idx45_inb : ∀ (v776 : IVec S16 32) (k0_hw45 : k0_chk45 v776), ∀ a x, ((![v776] : Fin 1 → IVec S16 32) a x).toNat < S6565.size a := fun v776 k0_hw45 => k0_hw45
def k0_off50 (k0_t3 : Fin k0_t3_loop.trips) : Fin 4 → Nat :=
  let c0_i32_404 : BitVec 32 := 0#32
  let v779 : Index := Scalar.indexCast c0_i32_404
  let c5_i32_405 : BitVec 32 := 5#32
  let v780 : Index := Scalar.indexCast c5_i32_405
  let c4_i32_406 : BitVec 32 := 4#32
  let v781 : Index := Scalar.indexCast c4_i32_406
  let c0_i32_135 : BitVec 32 := 0#32
  let c1_i32_137 : BitVec 32 := 1#32
  let arg13 : BitVec 32 := Scf.iv c0_i32_135 c1_i32_137 k0_t3
  let c16_i32_403 : BitVec 32 := 16#32
  let v778 : BitVec 32 := Scalar.muli arg13 c16_i32_403
  let v782 : Index := Scalar.indexCast v778
  ![0, 5, 4, v782.toNat]

def k0_chk46 (v785 : IVec S16 32) : Prop :=
  (∀ a x, ((![v785] : Fin 1 → IVec S16 32) a x).toNat < S6565.size a)
theorem k0_idx46_inb : ∀ (v785 : IVec S16 32) (k0_hw46 : k0_chk46 v785), ∀ a x, ((![v785] : Fin 1 → IVec S16 32) a x).toNat < S6565.size a := fun v785 k0_hw46 => k0_hw46
def k0_off51 (k0_t3 : Fin k0_t3_loop.trips) : Fin 4 → Nat :=
  let c0_i32_408 : BitVec 32 := 0#32
  let v788 : Index := Scalar.indexCast c0_i32_408
  let c5_i32_409 : BitVec 32 := 5#32
  let v789 : Index := Scalar.indexCast c5_i32_409
  let c5_i32_410 : BitVec 32 := 5#32
  let v790 : Index := Scalar.indexCast c5_i32_410
  let c0_i32_135 : BitVec 32 := 0#32
  let c1_i32_137 : BitVec 32 := 1#32
  let arg13 : BitVec 32 := Scf.iv c0_i32_135 c1_i32_137 k0_t3
  let c16_i32_407 : BitVec 32 := 16#32
  let v787 : BitVec 32 := Scalar.muli arg13 c16_i32_407
  let v791 : Index := Scalar.indexCast v787
  ![0, 5, 5, v791.toNat]

def k0_chk47 (v794 : IVec S16 32) : Prop :=
  (∀ a x, ((![v794] : Fin 1 → IVec S16 32) a x).toNat < S6565.size a)
theorem k0_idx47_inb : ∀ (v794 : IVec S16 32) (k0_hw47 : k0_chk47 v794), ∀ a x, ((![v794] : Fin 1 → IVec S16 32) a x).toNat < S6565.size a := fun v794 k0_hw47 => k0_hw47
def k0_off52 (k0_t3 : Fin k0_t3_loop.trips) : Fin 4 → Nat :=
  let c0_i32_412 : BitVec 32 := 0#32
  let v797 : Index := Scalar.indexCast c0_i32_412
  let c5_i32_413 : BitVec 32 := 5#32
  let v798 : Index := Scalar.indexCast c5_i32_413
  let c6_i32_414 : BitVec 32 := 6#32
  let v799 : Index := Scalar.indexCast c6_i32_414
  let c0_i32_135 : BitVec 32 := 0#32
  let c1_i32_137 : BitVec 32 := 1#32
  let arg13 : BitVec 32 := Scf.iv c0_i32_135 c1_i32_137 k0_t3
  let c16_i32_411 : BitVec 32 := 16#32
  let v796 : BitVec 32 := Scalar.muli arg13 c16_i32_411
  let v800 : Index := Scalar.indexCast v796
  ![0, 5, 6, v800.toNat]

def k0_chk48 (v803 : IVec S16 32) : Prop :=
  (∀ a x, ((![v803] : Fin 1 → IVec S16 32) a x).toNat < S6565.size a)
theorem k0_idx48_inb : ∀ (v803 : IVec S16 32) (k0_hw48 : k0_chk48 v803), ∀ a x, ((![v803] : Fin 1 → IVec S16 32) a x).toNat < S6565.size a := fun v803 k0_hw48 => k0_hw48
def k0_off53 (k0_t3 : Fin k0_t3_loop.trips) : Fin 4 → Nat :=
  let c0_i32_416 : BitVec 32 := 0#32
  let v806 : Index := Scalar.indexCast c0_i32_416
  let c5_i32_417 : BitVec 32 := 5#32
  let v807 : Index := Scalar.indexCast c5_i32_417
  let c7_i32_418 : BitVec 32 := 7#32
  let v808 : Index := Scalar.indexCast c7_i32_418
  let c0_i32_135 : BitVec 32 := 0#32
  let c1_i32_137 : BitVec 32 := 1#32
  let arg13 : BitVec 32 := Scf.iv c0_i32_135 c1_i32_137 k0_t3
  let c16_i32_415 : BitVec 32 := 16#32
  let v805 : BitVec 32 := Scalar.muli arg13 c16_i32_415
  let v809 : Index := Scalar.indexCast v805
  ![0, 5, 7, v809.toNat]

def k0_chk49 (v812 : IVec S16 32) : Prop :=
  (∀ a x, ((![v812] : Fin 1 → IVec S16 32) a x).toNat < S6565.size a)
theorem k0_idx49_inb : ∀ (v812 : IVec S16 32) (k0_hw49 : k0_chk49 v812), ∀ a x, ((![v812] : Fin 1 → IVec S16 32) a x).toNat < S6565.size a := fun v812 k0_hw49 => k0_hw49
def k0_off54 (k0_t3 : Fin k0_t3_loop.trips) : Fin 4 → Nat :=
  let c0_i32_420 : BitVec 32 := 0#32
  let v815 : Index := Scalar.indexCast c0_i32_420
  let c6_i32_421 : BitVec 32 := 6#32
  let v816 : Index := Scalar.indexCast c6_i32_421
  let c0_i32_422 : BitVec 32 := 0#32
  let v817 : Index := Scalar.indexCast c0_i32_422
  let c0_i32_135 : BitVec 32 := 0#32
  let c1_i32_137 : BitVec 32 := 1#32
  let arg13 : BitVec 32 := Scf.iv c0_i32_135 c1_i32_137 k0_t3
  let c16_i32_419 : BitVec 32 := 16#32
  let v814 : BitVec 32 := Scalar.muli arg13 c16_i32_419
  let v818 : Index := Scalar.indexCast v814
  ![0, 6, 0, v818.toNat]

def k0_chk50 (v821 : IVec S16 32) : Prop :=
  (∀ a x, ((![v821] : Fin 1 → IVec S16 32) a x).toNat < S6565.size a)
theorem k0_idx50_inb : ∀ (v821 : IVec S16 32) (k0_hw50 : k0_chk50 v821), ∀ a x, ((![v821] : Fin 1 → IVec S16 32) a x).toNat < S6565.size a := fun v821 k0_hw50 => k0_hw50
def k0_off55 (k0_t3 : Fin k0_t3_loop.trips) : Fin 4 → Nat :=
  let c0_i32_424 : BitVec 32 := 0#32
  let v824 : Index := Scalar.indexCast c0_i32_424
  let c6_i32_425 : BitVec 32 := 6#32
  let v825 : Index := Scalar.indexCast c6_i32_425
  let c1_i32_426 : BitVec 32 := 1#32
  let v826 : Index := Scalar.indexCast c1_i32_426
  let c0_i32_135 : BitVec 32 := 0#32
  let c1_i32_137 : BitVec 32 := 1#32
  let arg13 : BitVec 32 := Scf.iv c0_i32_135 c1_i32_137 k0_t3
  let c16_i32_423 : BitVec 32 := 16#32
  let v823 : BitVec 32 := Scalar.muli arg13 c16_i32_423
  let v827 : Index := Scalar.indexCast v823
  ![0, 6, 1, v827.toNat]

def k0_chk51 (v830 : IVec S16 32) : Prop :=
  (∀ a x, ((![v830] : Fin 1 → IVec S16 32) a x).toNat < S6565.size a)
theorem k0_idx51_inb : ∀ (v830 : IVec S16 32) (k0_hw51 : k0_chk51 v830), ∀ a x, ((![v830] : Fin 1 → IVec S16 32) a x).toNat < S6565.size a := fun v830 k0_hw51 => k0_hw51
def k0_off56 (k0_t3 : Fin k0_t3_loop.trips) : Fin 4 → Nat :=
  let c0_i32_428 : BitVec 32 := 0#32
  let v833 : Index := Scalar.indexCast c0_i32_428
  let c6_i32_429 : BitVec 32 := 6#32
  let v834 : Index := Scalar.indexCast c6_i32_429
  let c2_i32_430 : BitVec 32 := 2#32
  let v835 : Index := Scalar.indexCast c2_i32_430
  let c0_i32_135 : BitVec 32 := 0#32
  let c1_i32_137 : BitVec 32 := 1#32
  let arg13 : BitVec 32 := Scf.iv c0_i32_135 c1_i32_137 k0_t3
  let c16_i32_427 : BitVec 32 := 16#32
  let v832 : BitVec 32 := Scalar.muli arg13 c16_i32_427
  let v836 : Index := Scalar.indexCast v832
  ![0, 6, 2, v836.toNat]

def k0_chk52 (v839 : IVec S16 32) : Prop :=
  (∀ a x, ((![v839] : Fin 1 → IVec S16 32) a x).toNat < S6565.size a)
theorem k0_idx52_inb : ∀ (v839 : IVec S16 32) (k0_hw52 : k0_chk52 v839), ∀ a x, ((![v839] : Fin 1 → IVec S16 32) a x).toNat < S6565.size a := fun v839 k0_hw52 => k0_hw52
def k0_off57 (k0_t3 : Fin k0_t3_loop.trips) : Fin 4 → Nat :=
  let c0_i32_432 : BitVec 32 := 0#32
  let v842 : Index := Scalar.indexCast c0_i32_432
  let c6_i32_433 : BitVec 32 := 6#32
  let v843 : Index := Scalar.indexCast c6_i32_433
  let c3_i32_434 : BitVec 32 := 3#32
  let v844 : Index := Scalar.indexCast c3_i32_434
  let c0_i32_135 : BitVec 32 := 0#32
  let c1_i32_137 : BitVec 32 := 1#32
  let arg13 : BitVec 32 := Scf.iv c0_i32_135 c1_i32_137 k0_t3
  let c16_i32_431 : BitVec 32 := 16#32
  let v841 : BitVec 32 := Scalar.muli arg13 c16_i32_431
  let v845 : Index := Scalar.indexCast v841
  ![0, 6, 3, v845.toNat]

def k0_chk53 (v848 : IVec S16 32) : Prop :=
  (∀ a x, ((![v848] : Fin 1 → IVec S16 32) a x).toNat < S6565.size a)
theorem k0_idx53_inb : ∀ (v848 : IVec S16 32) (k0_hw53 : k0_chk53 v848), ∀ a x, ((![v848] : Fin 1 → IVec S16 32) a x).toNat < S6565.size a := fun v848 k0_hw53 => k0_hw53
def k0_off58 (k0_t3 : Fin k0_t3_loop.trips) : Fin 4 → Nat :=
  let c0_i32_436 : BitVec 32 := 0#32
  let v851 : Index := Scalar.indexCast c0_i32_436
  let c6_i32_437 : BitVec 32 := 6#32
  let v852 : Index := Scalar.indexCast c6_i32_437
  let c4_i32_438 : BitVec 32 := 4#32
  let v853 : Index := Scalar.indexCast c4_i32_438
  let c0_i32_135 : BitVec 32 := 0#32
  let c1_i32_137 : BitVec 32 := 1#32
  let arg13 : BitVec 32 := Scf.iv c0_i32_135 c1_i32_137 k0_t3
  let c16_i32_435 : BitVec 32 := 16#32
  let v850 : BitVec 32 := Scalar.muli arg13 c16_i32_435
  let v854 : Index := Scalar.indexCast v850
  ![0, 6, 4, v854.toNat]

def k0_chk54 (v857 : IVec S16 32) : Prop :=
  (∀ a x, ((![v857] : Fin 1 → IVec S16 32) a x).toNat < S6565.size a)
theorem k0_idx54_inb : ∀ (v857 : IVec S16 32) (k0_hw54 : k0_chk54 v857), ∀ a x, ((![v857] : Fin 1 → IVec S16 32) a x).toNat < S6565.size a := fun v857 k0_hw54 => k0_hw54
def k0_off59 (k0_t3 : Fin k0_t3_loop.trips) : Fin 4 → Nat :=
  let c0_i32_440 : BitVec 32 := 0#32
  let v860 : Index := Scalar.indexCast c0_i32_440
  let c6_i32_441 : BitVec 32 := 6#32
  let v861 : Index := Scalar.indexCast c6_i32_441
  let c5_i32_442 : BitVec 32 := 5#32
  let v862 : Index := Scalar.indexCast c5_i32_442
  let c0_i32_135 : BitVec 32 := 0#32
  let c1_i32_137 : BitVec 32 := 1#32
  let arg13 : BitVec 32 := Scf.iv c0_i32_135 c1_i32_137 k0_t3
  let c16_i32_439 : BitVec 32 := 16#32
  let v859 : BitVec 32 := Scalar.muli arg13 c16_i32_439
  let v863 : Index := Scalar.indexCast v859
  ![0, 6, 5, v863.toNat]

def k0_chk55 (v866 : IVec S16 32) : Prop :=
  (∀ a x, ((![v866] : Fin 1 → IVec S16 32) a x).toNat < S6565.size a)
theorem k0_idx55_inb : ∀ (v866 : IVec S16 32) (k0_hw55 : k0_chk55 v866), ∀ a x, ((![v866] : Fin 1 → IVec S16 32) a x).toNat < S6565.size a := fun v866 k0_hw55 => k0_hw55
def k0_off60 (k0_t3 : Fin k0_t3_loop.trips) : Fin 4 → Nat :=
  let c0_i32_444 : BitVec 32 := 0#32
  let v869 : Index := Scalar.indexCast c0_i32_444
  let c6_i32_445 : BitVec 32 := 6#32
  let v870 : Index := Scalar.indexCast c6_i32_445
  let c6_i32_446 : BitVec 32 := 6#32
  let v871 : Index := Scalar.indexCast c6_i32_446
  let c0_i32_135 : BitVec 32 := 0#32
  let c1_i32_137 : BitVec 32 := 1#32
  let arg13 : BitVec 32 := Scf.iv c0_i32_135 c1_i32_137 k0_t3
  let c16_i32_443 : BitVec 32 := 16#32
  let v868 : BitVec 32 := Scalar.muli arg13 c16_i32_443
  let v872 : Index := Scalar.indexCast v868
  ![0, 6, 6, v872.toNat]

def k0_chk56 (v875 : IVec S16 32) : Prop :=
  (∀ a x, ((![v875] : Fin 1 → IVec S16 32) a x).toNat < S6565.size a)
theorem k0_idx56_inb : ∀ (v875 : IVec S16 32) (k0_hw56 : k0_chk56 v875), ∀ a x, ((![v875] : Fin 1 → IVec S16 32) a x).toNat < S6565.size a := fun v875 k0_hw56 => k0_hw56
def k0_off61 (k0_t3 : Fin k0_t3_loop.trips) : Fin 4 → Nat :=
  let c0_i32_448 : BitVec 32 := 0#32
  let v878 : Index := Scalar.indexCast c0_i32_448
  let c6_i32_449 : BitVec 32 := 6#32
  let v879 : Index := Scalar.indexCast c6_i32_449
  let c7_i32_450 : BitVec 32 := 7#32
  let v880 : Index := Scalar.indexCast c7_i32_450
  let c0_i32_135 : BitVec 32 := 0#32
  let c1_i32_137 : BitVec 32 := 1#32
  let arg13 : BitVec 32 := Scf.iv c0_i32_135 c1_i32_137 k0_t3
  let c16_i32_447 : BitVec 32 := 16#32
  let v877 : BitVec 32 := Scalar.muli arg13 c16_i32_447
  let v881 : Index := Scalar.indexCast v877
  ![0, 6, 7, v881.toNat]

def k0_chk57 (v884 : IVec S16 32) : Prop :=
  (∀ a x, ((![v884] : Fin 1 → IVec S16 32) a x).toNat < S6565.size a)
theorem k0_idx57_inb : ∀ (v884 : IVec S16 32) (k0_hw57 : k0_chk57 v884), ∀ a x, ((![v884] : Fin 1 → IVec S16 32) a x).toNat < S6565.size a := fun v884 k0_hw57 => k0_hw57
def k0_off62 (k0_t3 : Fin k0_t3_loop.trips) : Fin 4 → Nat :=
  let c0_i32_452 : BitVec 32 := 0#32
  let v887 : Index := Scalar.indexCast c0_i32_452
  let c7_i32_453 : BitVec 32 := 7#32
  let v888 : Index := Scalar.indexCast c7_i32_453
  let c0_i32_454 : BitVec 32 := 0#32
  let v889 : Index := Scalar.indexCast c0_i32_454
  let c0_i32_135 : BitVec 32 := 0#32
  let c1_i32_137 : BitVec 32 := 1#32
  let arg13 : BitVec 32 := Scf.iv c0_i32_135 c1_i32_137 k0_t3
  let c16_i32_451 : BitVec 32 := 16#32
  let v886 : BitVec 32 := Scalar.muli arg13 c16_i32_451
  let v890 : Index := Scalar.indexCast v886
  ![0, 7, 0, v890.toNat]

def k0_chk58 (v893 : IVec S16 32) : Prop :=
  (∀ a x, ((![v893] : Fin 1 → IVec S16 32) a x).toNat < S6565.size a)
theorem k0_idx58_inb : ∀ (v893 : IVec S16 32) (k0_hw58 : k0_chk58 v893), ∀ a x, ((![v893] : Fin 1 → IVec S16 32) a x).toNat < S6565.size a := fun v893 k0_hw58 => k0_hw58
def k0_off63 (k0_t3 : Fin k0_t3_loop.trips) : Fin 4 → Nat :=
  let c0_i32_456 : BitVec 32 := 0#32
  let v896 : Index := Scalar.indexCast c0_i32_456
  let c7_i32_457 : BitVec 32 := 7#32
  let v897 : Index := Scalar.indexCast c7_i32_457
  let c1_i32_458 : BitVec 32 := 1#32
  let v898 : Index := Scalar.indexCast c1_i32_458
  let c0_i32_135 : BitVec 32 := 0#32
  let c1_i32_137 : BitVec 32 := 1#32
  let arg13 : BitVec 32 := Scf.iv c0_i32_135 c1_i32_137 k0_t3
  let c16_i32_455 : BitVec 32 := 16#32
  let v895 : BitVec 32 := Scalar.muli arg13 c16_i32_455
  let v899 : Index := Scalar.indexCast v895
  ![0, 7, 1, v899.toNat]

def k0_chk59 (v902 : IVec S16 32) : Prop :=
  (∀ a x, ((![v902] : Fin 1 → IVec S16 32) a x).toNat < S6565.size a)
theorem k0_idx59_inb : ∀ (v902 : IVec S16 32) (k0_hw59 : k0_chk59 v902), ∀ a x, ((![v902] : Fin 1 → IVec S16 32) a x).toNat < S6565.size a := fun v902 k0_hw59 => k0_hw59
def k0_off64 (k0_t3 : Fin k0_t3_loop.trips) : Fin 4 → Nat :=
  let c0_i32_460 : BitVec 32 := 0#32
  let v905 : Index := Scalar.indexCast c0_i32_460
  let c7_i32_461 : BitVec 32 := 7#32
  let v906 : Index := Scalar.indexCast c7_i32_461
  let c2_i32_462 : BitVec 32 := 2#32
  let v907 : Index := Scalar.indexCast c2_i32_462
  let c0_i32_135 : BitVec 32 := 0#32
  let c1_i32_137 : BitVec 32 := 1#32
  let arg13 : BitVec 32 := Scf.iv c0_i32_135 c1_i32_137 k0_t3
  let c16_i32_459 : BitVec 32 := 16#32
  let v904 : BitVec 32 := Scalar.muli arg13 c16_i32_459
  let v908 : Index := Scalar.indexCast v904
  ![0, 7, 2, v908.toNat]

def k0_chk60 (v911 : IVec S16 32) : Prop :=
  (∀ a x, ((![v911] : Fin 1 → IVec S16 32) a x).toNat < S6565.size a)
theorem k0_idx60_inb : ∀ (v911 : IVec S16 32) (k0_hw60 : k0_chk60 v911), ∀ a x, ((![v911] : Fin 1 → IVec S16 32) a x).toNat < S6565.size a := fun v911 k0_hw60 => k0_hw60
def k0_off65 (k0_t3 : Fin k0_t3_loop.trips) : Fin 4 → Nat :=
  let c0_i32_464 : BitVec 32 := 0#32
  let v914 : Index := Scalar.indexCast c0_i32_464
  let c7_i32_465 : BitVec 32 := 7#32
  let v915 : Index := Scalar.indexCast c7_i32_465
  let c3_i32_466 : BitVec 32 := 3#32
  let v916 : Index := Scalar.indexCast c3_i32_466
  let c0_i32_135 : BitVec 32 := 0#32
  let c1_i32_137 : BitVec 32 := 1#32
  let arg13 : BitVec 32 := Scf.iv c0_i32_135 c1_i32_137 k0_t3
  let c16_i32_463 : BitVec 32 := 16#32
  let v913 : BitVec 32 := Scalar.muli arg13 c16_i32_463
  let v917 : Index := Scalar.indexCast v913
  ![0, 7, 3, v917.toNat]

def k0_chk61 (v920 : IVec S16 32) : Prop :=
  (∀ a x, ((![v920] : Fin 1 → IVec S16 32) a x).toNat < S6565.size a)
theorem k0_idx61_inb : ∀ (v920 : IVec S16 32) (k0_hw61 : k0_chk61 v920), ∀ a x, ((![v920] : Fin 1 → IVec S16 32) a x).toNat < S6565.size a := fun v920 k0_hw61 => k0_hw61
def k0_off66 (k0_t3 : Fin k0_t3_loop.trips) : Fin 4 → Nat :=
  let c0_i32_468 : BitVec 32 := 0#32
  let v923 : Index := Scalar.indexCast c0_i32_468
  let c7_i32_469 : BitVec 32 := 7#32
  let v924 : Index := Scalar.indexCast c7_i32_469
  let c4_i32_470 : BitVec 32 := 4#32
  let v925 : Index := Scalar.indexCast c4_i32_470
  let c0_i32_135 : BitVec 32 := 0#32
  let c1_i32_137 : BitVec 32 := 1#32
  let arg13 : BitVec 32 := Scf.iv c0_i32_135 c1_i32_137 k0_t3
  let c16_i32_467 : BitVec 32 := 16#32
  let v922 : BitVec 32 := Scalar.muli arg13 c16_i32_467
  let v926 : Index := Scalar.indexCast v922
  ![0, 7, 4, v926.toNat]

def k0_chk62 (v929 : IVec S16 32) : Prop :=
  (∀ a x, ((![v929] : Fin 1 → IVec S16 32) a x).toNat < S6565.size a)
theorem k0_idx62_inb : ∀ (v929 : IVec S16 32) (k0_hw62 : k0_chk62 v929), ∀ a x, ((![v929] : Fin 1 → IVec S16 32) a x).toNat < S6565.size a := fun v929 k0_hw62 => k0_hw62
def k0_off67 (k0_t3 : Fin k0_t3_loop.trips) : Fin 4 → Nat :=
  let c0_i32_472 : BitVec 32 := 0#32
  let v932 : Index := Scalar.indexCast c0_i32_472
  let c7_i32_473 : BitVec 32 := 7#32
  let v933 : Index := Scalar.indexCast c7_i32_473
  let c5_i32_474 : BitVec 32 := 5#32
  let v934 : Index := Scalar.indexCast c5_i32_474
  let c0_i32_135 : BitVec 32 := 0#32
  let c1_i32_137 : BitVec 32 := 1#32
  let arg13 : BitVec 32 := Scf.iv c0_i32_135 c1_i32_137 k0_t3
  let c16_i32_471 : BitVec 32 := 16#32
  let v931 : BitVec 32 := Scalar.muli arg13 c16_i32_471
  let v935 : Index := Scalar.indexCast v931
  ![0, 7, 5, v935.toNat]

def k0_chk63 (v938 : IVec S16 32) : Prop :=
  (∀ a x, ((![v938] : Fin 1 → IVec S16 32) a x).toNat < S6565.size a)
theorem k0_idx63_inb : ∀ (v938 : IVec S16 32) (k0_hw63 : k0_chk63 v938), ∀ a x, ((![v938] : Fin 1 → IVec S16 32) a x).toNat < S6565.size a := fun v938 k0_hw63 => k0_hw63
def k0_off68 (k0_t3 : Fin k0_t3_loop.trips) : Fin 4 → Nat :=
  let c0_i32_476 : BitVec 32 := 0#32
  let v941 : Index := Scalar.indexCast c0_i32_476
  let c7_i32_477 : BitVec 32 := 7#32
  let v942 : Index := Scalar.indexCast c7_i32_477
  let c6_i32_478 : BitVec 32 := 6#32
  let v943 : Index := Scalar.indexCast c6_i32_478
  let c0_i32_135 : BitVec 32 := 0#32
  let c1_i32_137 : BitVec 32 := 1#32
  let arg13 : BitVec 32 := Scf.iv c0_i32_135 c1_i32_137 k0_t3
  let c16_i32_475 : BitVec 32 := 16#32
  let v940 : BitVec 32 := Scalar.muli arg13 c16_i32_475
  let v944 : Index := Scalar.indexCast v940
  ![0, 7, 6, v944.toNat]

def k0_chk64 (v947 : IVec S16 32) : Prop :=
  (∀ a x, ((![v947] : Fin 1 → IVec S16 32) a x).toNat < S6565.size a)
theorem k0_idx64_inb : ∀ (v947 : IVec S16 32) (k0_hw64 : k0_chk64 v947), ∀ a x, ((![v947] : Fin 1 → IVec S16 32) a x).toNat < S6565.size a := fun v947 k0_hw64 => k0_hw64
def k0_off69 (k0_t3 : Fin k0_t3_loop.trips) : Fin 4 → Nat :=
  let c0_i32_480 : BitVec 32 := 0#32
  let v950 : Index := Scalar.indexCast c0_i32_480
  let c7_i32_481 : BitVec 32 := 7#32
  let v951 : Index := Scalar.indexCast c7_i32_481
  let c7_i32_482 : BitVec 32 := 7#32
  let v952 : Index := Scalar.indexCast c7_i32_482
  let c0_i32_135 : BitVec 32 := 0#32
  let c1_i32_137 : BitVec 32 := 1#32
  let arg13 : BitVec 32 := Scf.iv c0_i32_135 c1_i32_137 k0_t3
  let c16_i32_479 : BitVec 32 := 16#32
  let v949 : BitVec 32 := Scalar.muli arg13 c16_i32_479
  let v953 : Index := Scalar.indexCast v949
  ![0, 7, 7, v953.toNat]
def k0_off70 (i : grid0.Coords) (k0_t2 : Fin k0_t2_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c25_i32 : BitVec 32 := 25#32
  let v21 : BitVec 32 := Scalar.muli v18 c25_i32
  let c0_i32_122 : BitVec 32 := 0#32
  let c1_i32_123 : BitVec 32 := 1#32
  let arg12 : BitVec 32 := Scf.iv c0_i32_122 c1_i32_123 k0_t2
  let c0_i32_126 : BitVec 32 := 0#32
  let v312 : BitVec 1 := Scalar.cmpi .sgt arg12 c0_i32_126
  let v313 : BitVec 32 := Scalar.extui v312
  let c0_i32_127 : BitVec 32 := 0#32
  let v314 : BitVec 1 := Scalar.cmpi .slt arg12 c0_i32_127
  let v315 : BitVec 32 := Scalar.extui v314
  let v316 : BitVec 32 := Scalar.subi v313 v315
  let c4_i32_125 : BitVec 32 := 4#32
  let c0_i32_128 : BitVec 32 := 0#32
  let v317 : BitVec 1 := Scalar.cmpi .sgt c4_i32_125 c0_i32_128
  let v318 : BitVec 32 := Scalar.extui v317
  let c0_i32_129 : BitVec 32 := 0#32
  let v319 : BitVec 1 := Scalar.cmpi .slt c4_i32_125 c0_i32_129
  let v320 : BitVec 32 := Scalar.extui v319
  let v321 : BitVec 32 := Scalar.subi v318 v320
  let v322 : BitVec 1 := Scalar.cmpi .ne v316 v321
  let v323 : BitVec 32 := Scalar.remsi arg12 c4_i32_125
  let c0_i32_130 : BitVec 32 := 0#32
  let v324 : BitVec 1 := Scalar.cmpi .ne v323 c0_i32_130
  let v325 : BitVec 1 := Scalar.andi v322 v324
  let v311 : BitVec 32 := Scalar.divsi arg12 c4_i32_125
  let c1_i32_131 : BitVec 32 := 1#32
  let v326 : BitVec 32 := Scalar.subi v311 c1_i32_131
  let v327 : BitVec 32 := Scalar.select v325 v326 v311
  let v332 : BitVec 32 := Scalar.addi v21 v327
  let c0_i32_144 : BitVec 32 := 0#32
  let c8_i32_139 : BitVec 32 := 8#32
  let c4_i32_4 : BitVec 32 := 4#32
  let v19 : BitVec 32 := Scalar.muli v18 c4_i32_4
  let v20 : BitVec 32 := Scalar.subi v1 v19
  let v333 : BitVec 32 := Scalar.muli c8_i32_139 v20
  let c2_i32_133 : BitVec 32 := 2#32
  let c4_i32_132 : BitVec 32 := 4#32
  let v328 : BitVec 32 := Scalar.muli v327 c4_i32_132
  let v329 : BitVec 32 := Scalar.subi arg12 v328
  let v330 : BitVec 32 := Scalar.muli c2_i32_133 v329
  let v334 : BitVec 32 := Scalar.addi v333 v330
  let c0_i32_145 : BitVec 32 := 0#32
  let c0_i32_146 : BitVec 32 := 0#32
  ![v332.toNat, 0, v334.toNat, 0, 0]
@[reducible] def k0_t4_loop : Scf.Loop 32 :=
  let c0_i32_155 : BitVec 32 := 0#32
  let c8_i32_156 : BitVec 32 := 8#32
  let v344 : BitVec 32 := Scalar.addi c0_i32_155 c8_i32_156
  let c1_i32_157 : BitVec 32 := 1#32
  ⟨c0_i32_155, v344, c1_i32_157⟩
def k0_off71 (k0_t2 : Fin k0_t2_loop.trips) (k0_t4 : Fin k0_t4_loop.trips) : Fin 1 → Nat :=
  let c0_i32_122 : BitVec 32 := 0#32
  let c1_i32_123 : BitVec 32 := 1#32
  let arg12 : BitVec 32 := Scf.iv c0_i32_122 c1_i32_123 k0_t2
  let c0_i32_126 : BitVec 32 := 0#32
  let v312 : BitVec 1 := Scalar.cmpi .sgt arg12 c0_i32_126
  let v313 : BitVec 32 := Scalar.extui v312
  let c0_i32_127 : BitVec 32 := 0#32
  let v314 : BitVec 1 := Scalar.cmpi .slt arg12 c0_i32_127
  let v315 : BitVec 32 := Scalar.extui v314
  let v316 : BitVec 32 := Scalar.subi v313 v315
  let c4_i32_125 : BitVec 32 := 4#32
  let c0_i32_128 : BitVec 32 := 0#32
  let v317 : BitVec 1 := Scalar.cmpi .sgt c4_i32_125 c0_i32_128
  let v318 : BitVec 32 := Scalar.extui v317
  let c0_i32_129 : BitVec 32 := 0#32
  let v319 : BitVec 1 := Scalar.cmpi .slt c4_i32_125 c0_i32_129
  let v320 : BitVec 32 := Scalar.extui v319
  let v321 : BitVec 32 := Scalar.subi v318 v320
  let v322 : BitVec 1 := Scalar.cmpi .ne v316 v321
  let v323 : BitVec 32 := Scalar.remsi arg12 c4_i32_125
  let c0_i32_130 : BitVec 32 := 0#32
  let v324 : BitVec 1 := Scalar.cmpi .ne v323 c0_i32_130
  let v325 : BitVec 1 := Scalar.andi v322 v324
  let v311 : BitVec 32 := Scalar.divsi arg12 c4_i32_125
  let c1_i32_131 : BitVec 32 := 1#32
  let v326 : BitVec 32 := Scalar.subi v311 c1_i32_131
  let v327 : BitVec 32 := Scalar.select v325 v326 v311
  let c1024_i32_199 : BitVec 32 := 1024#32
  let v372 : BitVec 32 := Scalar.muli v327 c1024_i32_199
  let c2_i32_133 : BitVec 32 := 2#32
  let c4_i32_132 : BitVec 32 := 4#32
  let v328 : BitVec 32 := Scalar.muli v327 c4_i32_132
  let v329 : BitVec 32 := Scalar.subi arg12 v328
  let v330 : BitVec 32 := Scalar.muli c2_i32_133 v329
  let c1_i32_153 : BitVec 32 := 1#32
  let v343 : BitVec 32 := Scalar.addi v330 c1_i32_153
  let c128_i32 : BitVec 32 := 128#32
  let v373 : BitVec 32 := Scalar.muli v343 c128_i32
  let v374 : BitVec 32 := Scalar.addi v372 v373
  let c0_i32_155 : BitVec 32 := 0#32
  let c1_i32_157 : BitVec 32 := 1#32
  let arg13 : BitVec 32 := Scf.iv c0_i32_155 c1_i32_157 k0_t4
  let c16_i32_200 : BitVec 32 := 16#32
  let v375 : BitVec 32 := Scalar.muli arg13 c16_i32_200
  let v376 : BitVec 32 := Scalar.addi v374 v375
  let v377 : Index := Scalar.indexCast v376
  ![v377.toNat]

def k0_chk65 (v380 : IVec S16 32) : Prop :=
  (∀ a x, ((![v380] : Fin 1 → IVec S16 32) a x).toNat < S6565.size a)
theorem k0_idx65_inb : ∀ (v380 : IVec S16 32) (k0_hw65 : k0_chk65 v380), ∀ a x, ((![v380] : Fin 1 → IVec S16 32) a x).toNat < S6565.size a := fun v380 k0_hw65 => k0_hw65
def k0_off72 (k0_t4 : Fin k0_t4_loop.trips) : Fin 4 → Nat :=
  let c1_i32_203 : BitVec 32 := 1#32
  let v383 : Index := Scalar.indexCast c1_i32_203
  let c0_i32_204 : BitVec 32 := 0#32
  let v384 : Index := Scalar.indexCast c0_i32_204
  let c0_i32_205 : BitVec 32 := 0#32
  let v385 : Index := Scalar.indexCast c0_i32_205
  let c0_i32_155 : BitVec 32 := 0#32
  let c1_i32_157 : BitVec 32 := 1#32
  let arg13 : BitVec 32 := Scf.iv c0_i32_155 c1_i32_157 k0_t4
  let c16_i32_202 : BitVec 32 := 16#32
  let v382 : BitVec 32 := Scalar.muli arg13 c16_i32_202
  let v386 : Index := Scalar.indexCast v382
  ![1, 0, 0, v386.toNat]

def k0_chk66 (v389 : IVec S16 32) : Prop :=
  (∀ a x, ((![v389] : Fin 1 → IVec S16 32) a x).toNat < S6565.size a)
theorem k0_idx66_inb : ∀ (v389 : IVec S16 32) (k0_hw66 : k0_chk66 v389), ∀ a x, ((![v389] : Fin 1 → IVec S16 32) a x).toNat < S6565.size a := fun v389 k0_hw66 => k0_hw66
def k0_off73 (k0_t4 : Fin k0_t4_loop.trips) : Fin 4 → Nat :=
  let c1_i32_208 : BitVec 32 := 1#32
  let v392 : Index := Scalar.indexCast c1_i32_208
  let c0_i32_209 : BitVec 32 := 0#32
  let v393 : Index := Scalar.indexCast c0_i32_209
  let c1_i32_210 : BitVec 32 := 1#32
  let v394 : Index := Scalar.indexCast c1_i32_210
  let c0_i32_155 : BitVec 32 := 0#32
  let c1_i32_157 : BitVec 32 := 1#32
  let arg13 : BitVec 32 := Scf.iv c0_i32_155 c1_i32_157 k0_t4
  let c16_i32_207 : BitVec 32 := 16#32
  let v391 : BitVec 32 := Scalar.muli arg13 c16_i32_207
  let v395 : Index := Scalar.indexCast v391
  ![1, 0, 1, v395.toNat]

def k0_chk67 (v398 : IVec S16 32) : Prop :=
  (∀ a x, ((![v398] : Fin 1 → IVec S16 32) a x).toNat < S6565.size a)
theorem k0_idx67_inb : ∀ (v398 : IVec S16 32) (k0_hw67 : k0_chk67 v398), ∀ a x, ((![v398] : Fin 1 → IVec S16 32) a x).toNat < S6565.size a := fun v398 k0_hw67 => k0_hw67
def k0_off74 (k0_t4 : Fin k0_t4_loop.trips) : Fin 4 → Nat :=
  let c1_i32_213 : BitVec 32 := 1#32
  let v401 : Index := Scalar.indexCast c1_i32_213
  let c0_i32_214 : BitVec 32 := 0#32
  let v402 : Index := Scalar.indexCast c0_i32_214
  let c2_i32_215 : BitVec 32 := 2#32
  let v403 : Index := Scalar.indexCast c2_i32_215
  let c0_i32_155 : BitVec 32 := 0#32
  let c1_i32_157 : BitVec 32 := 1#32
  let arg13 : BitVec 32 := Scf.iv c0_i32_155 c1_i32_157 k0_t4
  let c16_i32_212 : BitVec 32 := 16#32
  let v400 : BitVec 32 := Scalar.muli arg13 c16_i32_212
  let v404 : Index := Scalar.indexCast v400
  ![1, 0, 2, v404.toNat]

def k0_chk68 (v407 : IVec S16 32) : Prop :=
  (∀ a x, ((![v407] : Fin 1 → IVec S16 32) a x).toNat < S6565.size a)
theorem k0_idx68_inb : ∀ (v407 : IVec S16 32) (k0_hw68 : k0_chk68 v407), ∀ a x, ((![v407] : Fin 1 → IVec S16 32) a x).toNat < S6565.size a := fun v407 k0_hw68 => k0_hw68
def k0_off75 (k0_t4 : Fin k0_t4_loop.trips) : Fin 4 → Nat :=
  let c1_i32_218 : BitVec 32 := 1#32
  let v410 : Index := Scalar.indexCast c1_i32_218
  let c0_i32_219 : BitVec 32 := 0#32
  let v411 : Index := Scalar.indexCast c0_i32_219
  let c3_i32_220 : BitVec 32 := 3#32
  let v412 : Index := Scalar.indexCast c3_i32_220
  let c0_i32_155 : BitVec 32 := 0#32
  let c1_i32_157 : BitVec 32 := 1#32
  let arg13 : BitVec 32 := Scf.iv c0_i32_155 c1_i32_157 k0_t4
  let c16_i32_217 : BitVec 32 := 16#32
  let v409 : BitVec 32 := Scalar.muli arg13 c16_i32_217
  let v413 : Index := Scalar.indexCast v409
  ![1, 0, 3, v413.toNat]

def k0_chk69 (v416 : IVec S16 32) : Prop :=
  (∀ a x, ((![v416] : Fin 1 → IVec S16 32) a x).toNat < S6565.size a)
theorem k0_idx69_inb : ∀ (v416 : IVec S16 32) (k0_hw69 : k0_chk69 v416), ∀ a x, ((![v416] : Fin 1 → IVec S16 32) a x).toNat < S6565.size a := fun v416 k0_hw69 => k0_hw69
def k0_off76 (k0_t4 : Fin k0_t4_loop.trips) : Fin 4 → Nat :=
  let c1_i32_223 : BitVec 32 := 1#32
  let v419 : Index := Scalar.indexCast c1_i32_223
  let c0_i32_224 : BitVec 32 := 0#32
  let v420 : Index := Scalar.indexCast c0_i32_224
  let c4_i32_225 : BitVec 32 := 4#32
  let v421 : Index := Scalar.indexCast c4_i32_225
  let c0_i32_155 : BitVec 32 := 0#32
  let c1_i32_157 : BitVec 32 := 1#32
  let arg13 : BitVec 32 := Scf.iv c0_i32_155 c1_i32_157 k0_t4
  let c16_i32_222 : BitVec 32 := 16#32
  let v418 : BitVec 32 := Scalar.muli arg13 c16_i32_222
  let v422 : Index := Scalar.indexCast v418
  ![1, 0, 4, v422.toNat]

def k0_chk70 (v425 : IVec S16 32) : Prop :=
  (∀ a x, ((![v425] : Fin 1 → IVec S16 32) a x).toNat < S6565.size a)
theorem k0_idx70_inb : ∀ (v425 : IVec S16 32) (k0_hw70 : k0_chk70 v425), ∀ a x, ((![v425] : Fin 1 → IVec S16 32) a x).toNat < S6565.size a := fun v425 k0_hw70 => k0_hw70
def k0_off77 (k0_t4 : Fin k0_t4_loop.trips) : Fin 4 → Nat :=
  let c1_i32_228 : BitVec 32 := 1#32
  let v428 : Index := Scalar.indexCast c1_i32_228
  let c0_i32_229 : BitVec 32 := 0#32
  let v429 : Index := Scalar.indexCast c0_i32_229
  let c5_i32_230 : BitVec 32 := 5#32
  let v430 : Index := Scalar.indexCast c5_i32_230
  let c0_i32_155 : BitVec 32 := 0#32
  let c1_i32_157 : BitVec 32 := 1#32
  let arg13 : BitVec 32 := Scf.iv c0_i32_155 c1_i32_157 k0_t4
  let c16_i32_227 : BitVec 32 := 16#32
  let v427 : BitVec 32 := Scalar.muli arg13 c16_i32_227
  let v431 : Index := Scalar.indexCast v427
  ![1, 0, 5, v431.toNat]

def k0_chk71 (v434 : IVec S16 32) : Prop :=
  (∀ a x, ((![v434] : Fin 1 → IVec S16 32) a x).toNat < S6565.size a)
theorem k0_idx71_inb : ∀ (v434 : IVec S16 32) (k0_hw71 : k0_chk71 v434), ∀ a x, ((![v434] : Fin 1 → IVec S16 32) a x).toNat < S6565.size a := fun v434 k0_hw71 => k0_hw71
def k0_off78 (k0_t4 : Fin k0_t4_loop.trips) : Fin 4 → Nat :=
  let c1_i32_233 : BitVec 32 := 1#32
  let v437 : Index := Scalar.indexCast c1_i32_233
  let c0_i32_234 : BitVec 32 := 0#32
  let v438 : Index := Scalar.indexCast c0_i32_234
  let c6_i32_235 : BitVec 32 := 6#32
  let v439 : Index := Scalar.indexCast c6_i32_235
  let c0_i32_155 : BitVec 32 := 0#32
  let c1_i32_157 : BitVec 32 := 1#32
  let arg13 : BitVec 32 := Scf.iv c0_i32_155 c1_i32_157 k0_t4
  let c16_i32_232 : BitVec 32 := 16#32
  let v436 : BitVec 32 := Scalar.muli arg13 c16_i32_232
  let v440 : Index := Scalar.indexCast v436
  ![1, 0, 6, v440.toNat]

def k0_chk72 (v443 : IVec S16 32) : Prop :=
  (∀ a x, ((![v443] : Fin 1 → IVec S16 32) a x).toNat < S6565.size a)
theorem k0_idx72_inb : ∀ (v443 : IVec S16 32) (k0_hw72 : k0_chk72 v443), ∀ a x, ((![v443] : Fin 1 → IVec S16 32) a x).toNat < S6565.size a := fun v443 k0_hw72 => k0_hw72
def k0_off79 (k0_t4 : Fin k0_t4_loop.trips) : Fin 4 → Nat :=
  let c1_i32_238 : BitVec 32 := 1#32
  let v446 : Index := Scalar.indexCast c1_i32_238
  let c0_i32_239 : BitVec 32 := 0#32
  let v447 : Index := Scalar.indexCast c0_i32_239
  let c7_i32_240 : BitVec 32 := 7#32
  let v448 : Index := Scalar.indexCast c7_i32_240
  let c0_i32_155 : BitVec 32 := 0#32
  let c1_i32_157 : BitVec 32 := 1#32
  let arg13 : BitVec 32 := Scf.iv c0_i32_155 c1_i32_157 k0_t4
  let c16_i32_237 : BitVec 32 := 16#32
  let v445 : BitVec 32 := Scalar.muli arg13 c16_i32_237
  let v449 : Index := Scalar.indexCast v445
  ![1, 0, 7, v449.toNat]

def k0_chk73 (v452 : IVec S16 32) : Prop :=
  (∀ a x, ((![v452] : Fin 1 → IVec S16 32) a x).toNat < S6565.size a)
theorem k0_idx73_inb : ∀ (v452 : IVec S16 32) (k0_hw73 : k0_chk73 v452), ∀ a x, ((![v452] : Fin 1 → IVec S16 32) a x).toNat < S6565.size a := fun v452 k0_hw73 => k0_hw73
def k0_off80 (k0_t4 : Fin k0_t4_loop.trips) : Fin 4 → Nat :=
  let c1_i32_243 : BitVec 32 := 1#32
  let v455 : Index := Scalar.indexCast c1_i32_243
  let c1_i32_244 : BitVec 32 := 1#32
  let v456 : Index := Scalar.indexCast c1_i32_244
  let c0_i32_245 : BitVec 32 := 0#32
  let v457 : Index := Scalar.indexCast c0_i32_245
  let c0_i32_155 : BitVec 32 := 0#32
  let c1_i32_157 : BitVec 32 := 1#32
  let arg13 : BitVec 32 := Scf.iv c0_i32_155 c1_i32_157 k0_t4
  let c16_i32_242 : BitVec 32 := 16#32
  let v454 : BitVec 32 := Scalar.muli arg13 c16_i32_242
  let v458 : Index := Scalar.indexCast v454
  ![1, 1, 0, v458.toNat]

def k0_chk74 (v461 : IVec S16 32) : Prop :=
  (∀ a x, ((![v461] : Fin 1 → IVec S16 32) a x).toNat < S6565.size a)
theorem k0_idx74_inb : ∀ (v461 : IVec S16 32) (k0_hw74 : k0_chk74 v461), ∀ a x, ((![v461] : Fin 1 → IVec S16 32) a x).toNat < S6565.size a := fun v461 k0_hw74 => k0_hw74
def k0_off81 (k0_t4 : Fin k0_t4_loop.trips) : Fin 4 → Nat :=
  let c1_i32_248 : BitVec 32 := 1#32
  let v464 : Index := Scalar.indexCast c1_i32_248
  let c1_i32_249 : BitVec 32 := 1#32
  let v465 : Index := Scalar.indexCast c1_i32_249
  let c1_i32_250 : BitVec 32 := 1#32
  let v466 : Index := Scalar.indexCast c1_i32_250
  let c0_i32_155 : BitVec 32 := 0#32
  let c1_i32_157 : BitVec 32 := 1#32
  let arg13 : BitVec 32 := Scf.iv c0_i32_155 c1_i32_157 k0_t4
  let c16_i32_247 : BitVec 32 := 16#32
  let v463 : BitVec 32 := Scalar.muli arg13 c16_i32_247
  let v467 : Index := Scalar.indexCast v463
  ![1, 1, 1, v467.toNat]

def k0_chk75 (v470 : IVec S16 32) : Prop :=
  (∀ a x, ((![v470] : Fin 1 → IVec S16 32) a x).toNat < S6565.size a)
theorem k0_idx75_inb : ∀ (v470 : IVec S16 32) (k0_hw75 : k0_chk75 v470), ∀ a x, ((![v470] : Fin 1 → IVec S16 32) a x).toNat < S6565.size a := fun v470 k0_hw75 => k0_hw75
def k0_off82 (k0_t4 : Fin k0_t4_loop.trips) : Fin 4 → Nat :=
  let c1_i32_253 : BitVec 32 := 1#32
  let v473 : Index := Scalar.indexCast c1_i32_253
  let c1_i32_254 : BitVec 32 := 1#32
  let v474 : Index := Scalar.indexCast c1_i32_254
  let c2_i32_255 : BitVec 32 := 2#32
  let v475 : Index := Scalar.indexCast c2_i32_255
  let c0_i32_155 : BitVec 32 := 0#32
  let c1_i32_157 : BitVec 32 := 1#32
  let arg13 : BitVec 32 := Scf.iv c0_i32_155 c1_i32_157 k0_t4
  let c16_i32_252 : BitVec 32 := 16#32
  let v472 : BitVec 32 := Scalar.muli arg13 c16_i32_252
  let v476 : Index := Scalar.indexCast v472
  ![1, 1, 2, v476.toNat]

def k0_chk76 (v479 : IVec S16 32) : Prop :=
  (∀ a x, ((![v479] : Fin 1 → IVec S16 32) a x).toNat < S6565.size a)
theorem k0_idx76_inb : ∀ (v479 : IVec S16 32) (k0_hw76 : k0_chk76 v479), ∀ a x, ((![v479] : Fin 1 → IVec S16 32) a x).toNat < S6565.size a := fun v479 k0_hw76 => k0_hw76
def k0_off83 (k0_t4 : Fin k0_t4_loop.trips) : Fin 4 → Nat :=
  let c1_i32_258 : BitVec 32 := 1#32
  let v482 : Index := Scalar.indexCast c1_i32_258
  let c1_i32_259 : BitVec 32 := 1#32
  let v483 : Index := Scalar.indexCast c1_i32_259
  let c3_i32_260 : BitVec 32 := 3#32
  let v484 : Index := Scalar.indexCast c3_i32_260
  let c0_i32_155 : BitVec 32 := 0#32
  let c1_i32_157 : BitVec 32 := 1#32
  let arg13 : BitVec 32 := Scf.iv c0_i32_155 c1_i32_157 k0_t4
  let c16_i32_257 : BitVec 32 := 16#32
  let v481 : BitVec 32 := Scalar.muli arg13 c16_i32_257
  let v485 : Index := Scalar.indexCast v481
  ![1, 1, 3, v485.toNat]

def k0_chk77 (v488 : IVec S16 32) : Prop :=
  (∀ a x, ((![v488] : Fin 1 → IVec S16 32) a x).toNat < S6565.size a)
theorem k0_idx77_inb : ∀ (v488 : IVec S16 32) (k0_hw77 : k0_chk77 v488), ∀ a x, ((![v488] : Fin 1 → IVec S16 32) a x).toNat < S6565.size a := fun v488 k0_hw77 => k0_hw77
def k0_off84 (k0_t4 : Fin k0_t4_loop.trips) : Fin 4 → Nat :=
  let c1_i32_263 : BitVec 32 := 1#32
  let v491 : Index := Scalar.indexCast c1_i32_263
  let c1_i32_264 : BitVec 32 := 1#32
  let v492 : Index := Scalar.indexCast c1_i32_264
  let c4_i32_265 : BitVec 32 := 4#32
  let v493 : Index := Scalar.indexCast c4_i32_265
  let c0_i32_155 : BitVec 32 := 0#32
  let c1_i32_157 : BitVec 32 := 1#32
  let arg13 : BitVec 32 := Scf.iv c0_i32_155 c1_i32_157 k0_t4
  let c16_i32_262 : BitVec 32 := 16#32
  let v490 : BitVec 32 := Scalar.muli arg13 c16_i32_262
  let v494 : Index := Scalar.indexCast v490
  ![1, 1, 4, v494.toNat]

def k0_chk78 (v497 : IVec S16 32) : Prop :=
  (∀ a x, ((![v497] : Fin 1 → IVec S16 32) a x).toNat < S6565.size a)
theorem k0_idx78_inb : ∀ (v497 : IVec S16 32) (k0_hw78 : k0_chk78 v497), ∀ a x, ((![v497] : Fin 1 → IVec S16 32) a x).toNat < S6565.size a := fun v497 k0_hw78 => k0_hw78
def k0_off85 (k0_t4 : Fin k0_t4_loop.trips) : Fin 4 → Nat :=
  let c1_i32_268 : BitVec 32 := 1#32
  let v500 : Index := Scalar.indexCast c1_i32_268
  let c1_i32_269 : BitVec 32 := 1#32
  let v501 : Index := Scalar.indexCast c1_i32_269
  let c5_i32_270 : BitVec 32 := 5#32
  let v502 : Index := Scalar.indexCast c5_i32_270
  let c0_i32_155 : BitVec 32 := 0#32
  let c1_i32_157 : BitVec 32 := 1#32
  let arg13 : BitVec 32 := Scf.iv c0_i32_155 c1_i32_157 k0_t4
  let c16_i32_267 : BitVec 32 := 16#32
  let v499 : BitVec 32 := Scalar.muli arg13 c16_i32_267
  let v503 : Index := Scalar.indexCast v499
  ![1, 1, 5, v503.toNat]

def k0_chk79 (v506 : IVec S16 32) : Prop :=
  (∀ a x, ((![v506] : Fin 1 → IVec S16 32) a x).toNat < S6565.size a)
theorem k0_idx79_inb : ∀ (v506 : IVec S16 32) (k0_hw79 : k0_chk79 v506), ∀ a x, ((![v506] : Fin 1 → IVec S16 32) a x).toNat < S6565.size a := fun v506 k0_hw79 => k0_hw79
def k0_off86 (k0_t4 : Fin k0_t4_loop.trips) : Fin 4 → Nat :=
  let c1_i32_273 : BitVec 32 := 1#32
  let v509 : Index := Scalar.indexCast c1_i32_273
  let c1_i32_274 : BitVec 32 := 1#32
  let v510 : Index := Scalar.indexCast c1_i32_274
  let c6_i32_275 : BitVec 32 := 6#32
  let v511 : Index := Scalar.indexCast c6_i32_275
  let c0_i32_155 : BitVec 32 := 0#32
  let c1_i32_157 : BitVec 32 := 1#32
  let arg13 : BitVec 32 := Scf.iv c0_i32_155 c1_i32_157 k0_t4
  let c16_i32_272 : BitVec 32 := 16#32
  let v508 : BitVec 32 := Scalar.muli arg13 c16_i32_272
  let v512 : Index := Scalar.indexCast v508
  ![1, 1, 6, v512.toNat]

def k0_chk80 (v515 : IVec S16 32) : Prop :=
  (∀ a x, ((![v515] : Fin 1 → IVec S16 32) a x).toNat < S6565.size a)
theorem k0_idx80_inb : ∀ (v515 : IVec S16 32) (k0_hw80 : k0_chk80 v515), ∀ a x, ((![v515] : Fin 1 → IVec S16 32) a x).toNat < S6565.size a := fun v515 k0_hw80 => k0_hw80
def k0_off87 (k0_t4 : Fin k0_t4_loop.trips) : Fin 4 → Nat :=
  let c1_i32_278 : BitVec 32 := 1#32
  let v518 : Index := Scalar.indexCast c1_i32_278
  let c1_i32_279 : BitVec 32 := 1#32
  let v519 : Index := Scalar.indexCast c1_i32_279
  let c7_i32_280 : BitVec 32 := 7#32
  let v520 : Index := Scalar.indexCast c7_i32_280
  let c0_i32_155 : BitVec 32 := 0#32
  let c1_i32_157 : BitVec 32 := 1#32
  let arg13 : BitVec 32 := Scf.iv c0_i32_155 c1_i32_157 k0_t4
  let c16_i32_277 : BitVec 32 := 16#32
  let v517 : BitVec 32 := Scalar.muli arg13 c16_i32_277
  let v521 : Index := Scalar.indexCast v517
  ![1, 1, 7, v521.toNat]

def k0_chk81 (v524 : IVec S16 32) : Prop :=
  (∀ a x, ((![v524] : Fin 1 → IVec S16 32) a x).toNat < S6565.size a)
theorem k0_idx81_inb : ∀ (v524 : IVec S16 32) (k0_hw81 : k0_chk81 v524), ∀ a x, ((![v524] : Fin 1 → IVec S16 32) a x).toNat < S6565.size a := fun v524 k0_hw81 => k0_hw81
def k0_off88 (k0_t4 : Fin k0_t4_loop.trips) : Fin 4 → Nat :=
  let c1_i32_283 : BitVec 32 := 1#32
  let v527 : Index := Scalar.indexCast c1_i32_283
  let c2_i32_284 : BitVec 32 := 2#32
  let v528 : Index := Scalar.indexCast c2_i32_284
  let c0_i32_285 : BitVec 32 := 0#32
  let v529 : Index := Scalar.indexCast c0_i32_285
  let c0_i32_155 : BitVec 32 := 0#32
  let c1_i32_157 : BitVec 32 := 1#32
  let arg13 : BitVec 32 := Scf.iv c0_i32_155 c1_i32_157 k0_t4
  let c16_i32_282 : BitVec 32 := 16#32
  let v526 : BitVec 32 := Scalar.muli arg13 c16_i32_282
  let v530 : Index := Scalar.indexCast v526
  ![1, 2, 0, v530.toNat]

def k0_chk82 (v533 : IVec S16 32) : Prop :=
  (∀ a x, ((![v533] : Fin 1 → IVec S16 32) a x).toNat < S6565.size a)
theorem k0_idx82_inb : ∀ (v533 : IVec S16 32) (k0_hw82 : k0_chk82 v533), ∀ a x, ((![v533] : Fin 1 → IVec S16 32) a x).toNat < S6565.size a := fun v533 k0_hw82 => k0_hw82
def k0_off89 (k0_t4 : Fin k0_t4_loop.trips) : Fin 4 → Nat :=
  let c1_i32_288 : BitVec 32 := 1#32
  let v536 : Index := Scalar.indexCast c1_i32_288
  let c2_i32_289 : BitVec 32 := 2#32
  let v537 : Index := Scalar.indexCast c2_i32_289
  let c1_i32_290 : BitVec 32 := 1#32
  let v538 : Index := Scalar.indexCast c1_i32_290
  let c0_i32_155 : BitVec 32 := 0#32
  let c1_i32_157 : BitVec 32 := 1#32
  let arg13 : BitVec 32 := Scf.iv c0_i32_155 c1_i32_157 k0_t4
  let c16_i32_287 : BitVec 32 := 16#32
  let v535 : BitVec 32 := Scalar.muli arg13 c16_i32_287
  let v539 : Index := Scalar.indexCast v535
  ![1, 2, 1, v539.toNat]

def k0_chk83 (v542 : IVec S16 32) : Prop :=
  (∀ a x, ((![v542] : Fin 1 → IVec S16 32) a x).toNat < S6565.size a)
theorem k0_idx83_inb : ∀ (v542 : IVec S16 32) (k0_hw83 : k0_chk83 v542), ∀ a x, ((![v542] : Fin 1 → IVec S16 32) a x).toNat < S6565.size a := fun v542 k0_hw83 => k0_hw83
def k0_off90 (k0_t4 : Fin k0_t4_loop.trips) : Fin 4 → Nat :=
  let c1_i32_293 : BitVec 32 := 1#32
  let v545 : Index := Scalar.indexCast c1_i32_293
  let c2_i32_294 : BitVec 32 := 2#32
  let v546 : Index := Scalar.indexCast c2_i32_294
  let c2_i32_295 : BitVec 32 := 2#32
  let v547 : Index := Scalar.indexCast c2_i32_295
  let c0_i32_155 : BitVec 32 := 0#32
  let c1_i32_157 : BitVec 32 := 1#32
  let arg13 : BitVec 32 := Scf.iv c0_i32_155 c1_i32_157 k0_t4
  let c16_i32_292 : BitVec 32 := 16#32
  let v544 : BitVec 32 := Scalar.muli arg13 c16_i32_292
  let v548 : Index := Scalar.indexCast v544
  ![1, 2, 2, v548.toNat]

def k0_chk84 (v551 : IVec S16 32) : Prop :=
  (∀ a x, ((![v551] : Fin 1 → IVec S16 32) a x).toNat < S6565.size a)
theorem k0_idx84_inb : ∀ (v551 : IVec S16 32) (k0_hw84 : k0_chk84 v551), ∀ a x, ((![v551] : Fin 1 → IVec S16 32) a x).toNat < S6565.size a := fun v551 k0_hw84 => k0_hw84
def k0_off91 (k0_t4 : Fin k0_t4_loop.trips) : Fin 4 → Nat :=
  let c1_i32_298 : BitVec 32 := 1#32
  let v554 : Index := Scalar.indexCast c1_i32_298
  let c2_i32_299 : BitVec 32 := 2#32
  let v555 : Index := Scalar.indexCast c2_i32_299
  let c3_i32_300 : BitVec 32 := 3#32
  let v556 : Index := Scalar.indexCast c3_i32_300
  let c0_i32_155 : BitVec 32 := 0#32
  let c1_i32_157 : BitVec 32 := 1#32
  let arg13 : BitVec 32 := Scf.iv c0_i32_155 c1_i32_157 k0_t4
  let c16_i32_297 : BitVec 32 := 16#32
  let v553 : BitVec 32 := Scalar.muli arg13 c16_i32_297
  let v557 : Index := Scalar.indexCast v553
  ![1, 2, 3, v557.toNat]

def k0_chk85 (v560 : IVec S16 32) : Prop :=
  (∀ a x, ((![v560] : Fin 1 → IVec S16 32) a x).toNat < S6565.size a)
theorem k0_idx85_inb : ∀ (v560 : IVec S16 32) (k0_hw85 : k0_chk85 v560), ∀ a x, ((![v560] : Fin 1 → IVec S16 32) a x).toNat < S6565.size a := fun v560 k0_hw85 => k0_hw85
def k0_off92 (k0_t4 : Fin k0_t4_loop.trips) : Fin 4 → Nat :=
  let c1_i32_303 : BitVec 32 := 1#32
  let v563 : Index := Scalar.indexCast c1_i32_303
  let c2_i32_304 : BitVec 32 := 2#32
  let v564 : Index := Scalar.indexCast c2_i32_304
  let c4_i32_305 : BitVec 32 := 4#32
  let v565 : Index := Scalar.indexCast c4_i32_305
  let c0_i32_155 : BitVec 32 := 0#32
  let c1_i32_157 : BitVec 32 := 1#32
  let arg13 : BitVec 32 := Scf.iv c0_i32_155 c1_i32_157 k0_t4
  let c16_i32_302 : BitVec 32 := 16#32
  let v562 : BitVec 32 := Scalar.muli arg13 c16_i32_302
  let v566 : Index := Scalar.indexCast v562
  ![1, 2, 4, v566.toNat]

def k0_chk86 (v569 : IVec S16 32) : Prop :=
  (∀ a x, ((![v569] : Fin 1 → IVec S16 32) a x).toNat < S6565.size a)
theorem k0_idx86_inb : ∀ (v569 : IVec S16 32) (k0_hw86 : k0_chk86 v569), ∀ a x, ((![v569] : Fin 1 → IVec S16 32) a x).toNat < S6565.size a := fun v569 k0_hw86 => k0_hw86
def k0_off93 (k0_t4 : Fin k0_t4_loop.trips) : Fin 4 → Nat :=
  let c1_i32_308 : BitVec 32 := 1#32
  let v572 : Index := Scalar.indexCast c1_i32_308
  let c2_i32_309 : BitVec 32 := 2#32
  let v573 : Index := Scalar.indexCast c2_i32_309
  let c5_i32_310 : BitVec 32 := 5#32
  let v574 : Index := Scalar.indexCast c5_i32_310
  let c0_i32_155 : BitVec 32 := 0#32
  let c1_i32_157 : BitVec 32 := 1#32
  let arg13 : BitVec 32 := Scf.iv c0_i32_155 c1_i32_157 k0_t4
  let c16_i32_307 : BitVec 32 := 16#32
  let v571 : BitVec 32 := Scalar.muli arg13 c16_i32_307
  let v575 : Index := Scalar.indexCast v571
  ![1, 2, 5, v575.toNat]

def k0_chk87 (v578 : IVec S16 32) : Prop :=
  (∀ a x, ((![v578] : Fin 1 → IVec S16 32) a x).toNat < S6565.size a)
theorem k0_idx87_inb : ∀ (v578 : IVec S16 32) (k0_hw87 : k0_chk87 v578), ∀ a x, ((![v578] : Fin 1 → IVec S16 32) a x).toNat < S6565.size a := fun v578 k0_hw87 => k0_hw87
def k0_off94 (k0_t4 : Fin k0_t4_loop.trips) : Fin 4 → Nat :=
  let c1_i32_313 : BitVec 32 := 1#32
  let v581 : Index := Scalar.indexCast c1_i32_313
  let c2_i32_314 : BitVec 32 := 2#32
  let v582 : Index := Scalar.indexCast c2_i32_314
  let c6_i32_315 : BitVec 32 := 6#32
  let v583 : Index := Scalar.indexCast c6_i32_315
  let c0_i32_155 : BitVec 32 := 0#32
  let c1_i32_157 : BitVec 32 := 1#32
  let arg13 : BitVec 32 := Scf.iv c0_i32_155 c1_i32_157 k0_t4
  let c16_i32_312 : BitVec 32 := 16#32
  let v580 : BitVec 32 := Scalar.muli arg13 c16_i32_312
  let v584 : Index := Scalar.indexCast v580
  ![1, 2, 6, v584.toNat]

def k0_chk88 (v587 : IVec S16 32) : Prop :=
  (∀ a x, ((![v587] : Fin 1 → IVec S16 32) a x).toNat < S6565.size a)
theorem k0_idx88_inb : ∀ (v587 : IVec S16 32) (k0_hw88 : k0_chk88 v587), ∀ a x, ((![v587] : Fin 1 → IVec S16 32) a x).toNat < S6565.size a := fun v587 k0_hw88 => k0_hw88
def k0_off95 (k0_t4 : Fin k0_t4_loop.trips) : Fin 4 → Nat :=
  let c1_i32_318 : BitVec 32 := 1#32
  let v590 : Index := Scalar.indexCast c1_i32_318
  let c2_i32_319 : BitVec 32 := 2#32
  let v591 : Index := Scalar.indexCast c2_i32_319
  let c7_i32_320 : BitVec 32 := 7#32
  let v592 : Index := Scalar.indexCast c7_i32_320
  let c0_i32_155 : BitVec 32 := 0#32
  let c1_i32_157 : BitVec 32 := 1#32
  let arg13 : BitVec 32 := Scf.iv c0_i32_155 c1_i32_157 k0_t4
  let c16_i32_317 : BitVec 32 := 16#32
  let v589 : BitVec 32 := Scalar.muli arg13 c16_i32_317
  let v593 : Index := Scalar.indexCast v589
  ![1, 2, 7, v593.toNat]

def k0_chk89 (v596 : IVec S16 32) : Prop :=
  (∀ a x, ((![v596] : Fin 1 → IVec S16 32) a x).toNat < S6565.size a)
theorem k0_idx89_inb : ∀ (v596 : IVec S16 32) (k0_hw89 : k0_chk89 v596), ∀ a x, ((![v596] : Fin 1 → IVec S16 32) a x).toNat < S6565.size a := fun v596 k0_hw89 => k0_hw89
def k0_off96 (k0_t4 : Fin k0_t4_loop.trips) : Fin 4 → Nat :=
  let c1_i32_323 : BitVec 32 := 1#32
  let v599 : Index := Scalar.indexCast c1_i32_323
  let c3_i32_324 : BitVec 32 := 3#32
  let v600 : Index := Scalar.indexCast c3_i32_324
  let c0_i32_325 : BitVec 32 := 0#32
  let v601 : Index := Scalar.indexCast c0_i32_325
  let c0_i32_155 : BitVec 32 := 0#32
  let c1_i32_157 : BitVec 32 := 1#32
  let arg13 : BitVec 32 := Scf.iv c0_i32_155 c1_i32_157 k0_t4
  let c16_i32_322 : BitVec 32 := 16#32
  let v598 : BitVec 32 := Scalar.muli arg13 c16_i32_322
  let v602 : Index := Scalar.indexCast v598
  ![1, 3, 0, v602.toNat]

def k0_chk90 (v605 : IVec S16 32) : Prop :=
  (∀ a x, ((![v605] : Fin 1 → IVec S16 32) a x).toNat < S6565.size a)
theorem k0_idx90_inb : ∀ (v605 : IVec S16 32) (k0_hw90 : k0_chk90 v605), ∀ a x, ((![v605] : Fin 1 → IVec S16 32) a x).toNat < S6565.size a := fun v605 k0_hw90 => k0_hw90
def k0_off97 (k0_t4 : Fin k0_t4_loop.trips) : Fin 4 → Nat :=
  let c1_i32_328 : BitVec 32 := 1#32
  let v608 : Index := Scalar.indexCast c1_i32_328
  let c3_i32_329 : BitVec 32 := 3#32
  let v609 : Index := Scalar.indexCast c3_i32_329
  let c1_i32_330 : BitVec 32 := 1#32
  let v610 : Index := Scalar.indexCast c1_i32_330
  let c0_i32_155 : BitVec 32 := 0#32
  let c1_i32_157 : BitVec 32 := 1#32
  let arg13 : BitVec 32 := Scf.iv c0_i32_155 c1_i32_157 k0_t4
  let c16_i32_327 : BitVec 32 := 16#32
  let v607 : BitVec 32 := Scalar.muli arg13 c16_i32_327
  let v611 : Index := Scalar.indexCast v607
  ![1, 3, 1, v611.toNat]

def k0_chk91 (v614 : IVec S16 32) : Prop :=
  (∀ a x, ((![v614] : Fin 1 → IVec S16 32) a x).toNat < S6565.size a)
theorem k0_idx91_inb : ∀ (v614 : IVec S16 32) (k0_hw91 : k0_chk91 v614), ∀ a x, ((![v614] : Fin 1 → IVec S16 32) a x).toNat < S6565.size a := fun v614 k0_hw91 => k0_hw91
def k0_off98 (k0_t4 : Fin k0_t4_loop.trips) : Fin 4 → Nat :=
  let c1_i32_332 : BitVec 32 := 1#32
  let v617 : Index := Scalar.indexCast c1_i32_332
  let c3_i32_333 : BitVec 32 := 3#32
  let v618 : Index := Scalar.indexCast c3_i32_333
  let c2_i32_334 : BitVec 32 := 2#32
  let v619 : Index := Scalar.indexCast c2_i32_334
  let c0_i32_155 : BitVec 32 := 0#32
  let c1_i32_157 : BitVec 32 := 1#32
  let arg13 : BitVec 32 := Scf.iv c0_i32_155 c1_i32_157 k0_t4
  let c16_i32_331 : BitVec 32 := 16#32
  let v616 : BitVec 32 := Scalar.muli arg13 c16_i32_331
  let v620 : Index := Scalar.indexCast v616
  ![1, 3, 2, v620.toNat]

def k0_chk92 (v623 : IVec S16 32) : Prop :=
  (∀ a x, ((![v623] : Fin 1 → IVec S16 32) a x).toNat < S6565.size a)
theorem k0_idx92_inb : ∀ (v623 : IVec S16 32) (k0_hw92 : k0_chk92 v623), ∀ a x, ((![v623] : Fin 1 → IVec S16 32) a x).toNat < S6565.size a := fun v623 k0_hw92 => k0_hw92
def k0_off99 (k0_t4 : Fin k0_t4_loop.trips) : Fin 4 → Nat :=
  let c1_i32_336 : BitVec 32 := 1#32
  let v626 : Index := Scalar.indexCast c1_i32_336
  let c3_i32_337 : BitVec 32 := 3#32
  let v627 : Index := Scalar.indexCast c3_i32_337
  let c3_i32_338 : BitVec 32 := 3#32
  let v628 : Index := Scalar.indexCast c3_i32_338
  let c0_i32_155 : BitVec 32 := 0#32
  let c1_i32_157 : BitVec 32 := 1#32
  let arg13 : BitVec 32 := Scf.iv c0_i32_155 c1_i32_157 k0_t4
  let c16_i32_335 : BitVec 32 := 16#32
  let v625 : BitVec 32 := Scalar.muli arg13 c16_i32_335
  let v629 : Index := Scalar.indexCast v625
  ![1, 3, 3, v629.toNat]

def k0_chk93 (v632 : IVec S16 32) : Prop :=
  (∀ a x, ((![v632] : Fin 1 → IVec S16 32) a x).toNat < S6565.size a)
theorem k0_idx93_inb : ∀ (v632 : IVec S16 32) (k0_hw93 : k0_chk93 v632), ∀ a x, ((![v632] : Fin 1 → IVec S16 32) a x).toNat < S6565.size a := fun v632 k0_hw93 => k0_hw93
def k0_off100 (k0_t4 : Fin k0_t4_loop.trips) : Fin 4 → Nat :=
  let c1_i32_340 : BitVec 32 := 1#32
  let v635 : Index := Scalar.indexCast c1_i32_340
  let c3_i32_341 : BitVec 32 := 3#32
  let v636 : Index := Scalar.indexCast c3_i32_341
  let c4_i32_342 : BitVec 32 := 4#32
  let v637 : Index := Scalar.indexCast c4_i32_342
  let c0_i32_155 : BitVec 32 := 0#32
  let c1_i32_157 : BitVec 32 := 1#32
  let arg13 : BitVec 32 := Scf.iv c0_i32_155 c1_i32_157 k0_t4
  let c16_i32_339 : BitVec 32 := 16#32
  let v634 : BitVec 32 := Scalar.muli arg13 c16_i32_339
  let v638 : Index := Scalar.indexCast v634
  ![1, 3, 4, v638.toNat]

def k0_chk94 (v641 : IVec S16 32) : Prop :=
  (∀ a x, ((![v641] : Fin 1 → IVec S16 32) a x).toNat < S6565.size a)
theorem k0_idx94_inb : ∀ (v641 : IVec S16 32) (k0_hw94 : k0_chk94 v641), ∀ a x, ((![v641] : Fin 1 → IVec S16 32) a x).toNat < S6565.size a := fun v641 k0_hw94 => k0_hw94
def k0_off101 (k0_t4 : Fin k0_t4_loop.trips) : Fin 4 → Nat :=
  let c1_i32_344 : BitVec 32 := 1#32
  let v644 : Index := Scalar.indexCast c1_i32_344
  let c3_i32_345 : BitVec 32 := 3#32
  let v645 : Index := Scalar.indexCast c3_i32_345
  let c5_i32_346 : BitVec 32 := 5#32
  let v646 : Index := Scalar.indexCast c5_i32_346
  let c0_i32_155 : BitVec 32 := 0#32
  let c1_i32_157 : BitVec 32 := 1#32
  let arg13 : BitVec 32 := Scf.iv c0_i32_155 c1_i32_157 k0_t4
  let c16_i32_343 : BitVec 32 := 16#32
  let v643 : BitVec 32 := Scalar.muli arg13 c16_i32_343
  let v647 : Index := Scalar.indexCast v643
  ![1, 3, 5, v647.toNat]

def k0_chk95 (v650 : IVec S16 32) : Prop :=
  (∀ a x, ((![v650] : Fin 1 → IVec S16 32) a x).toNat < S6565.size a)
theorem k0_idx95_inb : ∀ (v650 : IVec S16 32) (k0_hw95 : k0_chk95 v650), ∀ a x, ((![v650] : Fin 1 → IVec S16 32) a x).toNat < S6565.size a := fun v650 k0_hw95 => k0_hw95
def k0_off102 (k0_t4 : Fin k0_t4_loop.trips) : Fin 4 → Nat :=
  let c1_i32_348 : BitVec 32 := 1#32
  let v653 : Index := Scalar.indexCast c1_i32_348
  let c3_i32_349 : BitVec 32 := 3#32
  let v654 : Index := Scalar.indexCast c3_i32_349
  let c6_i32_350 : BitVec 32 := 6#32
  let v655 : Index := Scalar.indexCast c6_i32_350
  let c0_i32_155 : BitVec 32 := 0#32
  let c1_i32_157 : BitVec 32 := 1#32
  let arg13 : BitVec 32 := Scf.iv c0_i32_155 c1_i32_157 k0_t4
  let c16_i32_347 : BitVec 32 := 16#32
  let v652 : BitVec 32 := Scalar.muli arg13 c16_i32_347
  let v656 : Index := Scalar.indexCast v652
  ![1, 3, 6, v656.toNat]

def k0_chk96 (v659 : IVec S16 32) : Prop :=
  (∀ a x, ((![v659] : Fin 1 → IVec S16 32) a x).toNat < S6565.size a)
theorem k0_idx96_inb : ∀ (v659 : IVec S16 32) (k0_hw96 : k0_chk96 v659), ∀ a x, ((![v659] : Fin 1 → IVec S16 32) a x).toNat < S6565.size a := fun v659 k0_hw96 => k0_hw96
def k0_off103 (k0_t4 : Fin k0_t4_loop.trips) : Fin 4 → Nat :=
  let c1_i32_352 : BitVec 32 := 1#32
  let v662 : Index := Scalar.indexCast c1_i32_352
  let c3_i32_353 : BitVec 32 := 3#32
  let v663 : Index := Scalar.indexCast c3_i32_353
  let c7_i32_354 : BitVec 32 := 7#32
  let v664 : Index := Scalar.indexCast c7_i32_354
  let c0_i32_155 : BitVec 32 := 0#32
  let c1_i32_157 : BitVec 32 := 1#32
  let arg13 : BitVec 32 := Scf.iv c0_i32_155 c1_i32_157 k0_t4
  let c16_i32_351 : BitVec 32 := 16#32
  let v661 : BitVec 32 := Scalar.muli arg13 c16_i32_351
  let v665 : Index := Scalar.indexCast v661
  ![1, 3, 7, v665.toNat]

def k0_chk97 (v668 : IVec S16 32) : Prop :=
  (∀ a x, ((![v668] : Fin 1 → IVec S16 32) a x).toNat < S6565.size a)
theorem k0_idx97_inb : ∀ (v668 : IVec S16 32) (k0_hw97 : k0_chk97 v668), ∀ a x, ((![v668] : Fin 1 → IVec S16 32) a x).toNat < S6565.size a := fun v668 k0_hw97 => k0_hw97
def k0_off104 (k0_t4 : Fin k0_t4_loop.trips) : Fin 4 → Nat :=
  let c1_i32_356 : BitVec 32 := 1#32
  let v671 : Index := Scalar.indexCast c1_i32_356
  let c4_i32_357 : BitVec 32 := 4#32
  let v672 : Index := Scalar.indexCast c4_i32_357
  let c0_i32_358 : BitVec 32 := 0#32
  let v673 : Index := Scalar.indexCast c0_i32_358
  let c0_i32_155 : BitVec 32 := 0#32
  let c1_i32_157 : BitVec 32 := 1#32
  let arg13 : BitVec 32 := Scf.iv c0_i32_155 c1_i32_157 k0_t4
  let c16_i32_355 : BitVec 32 := 16#32
  let v670 : BitVec 32 := Scalar.muli arg13 c16_i32_355
  let v674 : Index := Scalar.indexCast v670
  ![1, 4, 0, v674.toNat]

def k0_chk98 (v677 : IVec S16 32) : Prop :=
  (∀ a x, ((![v677] : Fin 1 → IVec S16 32) a x).toNat < S6565.size a)
theorem k0_idx98_inb : ∀ (v677 : IVec S16 32) (k0_hw98 : k0_chk98 v677), ∀ a x, ((![v677] : Fin 1 → IVec S16 32) a x).toNat < S6565.size a := fun v677 k0_hw98 => k0_hw98
def k0_off105 (k0_t4 : Fin k0_t4_loop.trips) : Fin 4 → Nat :=
  let c1_i32_360 : BitVec 32 := 1#32
  let v680 : Index := Scalar.indexCast c1_i32_360
  let c4_i32_361 : BitVec 32 := 4#32
  let v681 : Index := Scalar.indexCast c4_i32_361
  let c1_i32_362 : BitVec 32 := 1#32
  let v682 : Index := Scalar.indexCast c1_i32_362
  let c0_i32_155 : BitVec 32 := 0#32
  let c1_i32_157 : BitVec 32 := 1#32
  let arg13 : BitVec 32 := Scf.iv c0_i32_155 c1_i32_157 k0_t4
  let c16_i32_359 : BitVec 32 := 16#32
  let v679 : BitVec 32 := Scalar.muli arg13 c16_i32_359
  let v683 : Index := Scalar.indexCast v679
  ![1, 4, 1, v683.toNat]

def k0_chk99 (v686 : IVec S16 32) : Prop :=
  (∀ a x, ((![v686] : Fin 1 → IVec S16 32) a x).toNat < S6565.size a)
theorem k0_idx99_inb : ∀ (v686 : IVec S16 32) (k0_hw99 : k0_chk99 v686), ∀ a x, ((![v686] : Fin 1 → IVec S16 32) a x).toNat < S6565.size a := fun v686 k0_hw99 => k0_hw99
def k0_off106 (k0_t4 : Fin k0_t4_loop.trips) : Fin 4 → Nat :=
  let c1_i32_364 : BitVec 32 := 1#32
  let v689 : Index := Scalar.indexCast c1_i32_364
  let c4_i32_365 : BitVec 32 := 4#32
  let v690 : Index := Scalar.indexCast c4_i32_365
  let c2_i32_366 : BitVec 32 := 2#32
  let v691 : Index := Scalar.indexCast c2_i32_366
  let c0_i32_155 : BitVec 32 := 0#32
  let c1_i32_157 : BitVec 32 := 1#32
  let arg13 : BitVec 32 := Scf.iv c0_i32_155 c1_i32_157 k0_t4
  let c16_i32_363 : BitVec 32 := 16#32
  let v688 : BitVec 32 := Scalar.muli arg13 c16_i32_363
  let v692 : Index := Scalar.indexCast v688
  ![1, 4, 2, v692.toNat]

def k0_chk100 (v695 : IVec S16 32) : Prop :=
  (∀ a x, ((![v695] : Fin 1 → IVec S16 32) a x).toNat < S6565.size a)
theorem k0_idx100_inb : ∀ (v695 : IVec S16 32) (k0_hw100 : k0_chk100 v695), ∀ a x, ((![v695] : Fin 1 → IVec S16 32) a x).toNat < S6565.size a := fun v695 k0_hw100 => k0_hw100
def k0_off107 (k0_t4 : Fin k0_t4_loop.trips) : Fin 4 → Nat :=
  let c1_i32_368 : BitVec 32 := 1#32
  let v698 : Index := Scalar.indexCast c1_i32_368
  let c4_i32_369 : BitVec 32 := 4#32
  let v699 : Index := Scalar.indexCast c4_i32_369
  let c3_i32_370 : BitVec 32 := 3#32
  let v700 : Index := Scalar.indexCast c3_i32_370
  let c0_i32_155 : BitVec 32 := 0#32
  let c1_i32_157 : BitVec 32 := 1#32
  let arg13 : BitVec 32 := Scf.iv c0_i32_155 c1_i32_157 k0_t4
  let c16_i32_367 : BitVec 32 := 16#32
  let v697 : BitVec 32 := Scalar.muli arg13 c16_i32_367
  let v701 : Index := Scalar.indexCast v697
  ![1, 4, 3, v701.toNat]

def k0_chk101 (v704 : IVec S16 32) : Prop :=
  (∀ a x, ((![v704] : Fin 1 → IVec S16 32) a x).toNat < S6565.size a)
theorem k0_idx101_inb : ∀ (v704 : IVec S16 32) (k0_hw101 : k0_chk101 v704), ∀ a x, ((![v704] : Fin 1 → IVec S16 32) a x).toNat < S6565.size a := fun v704 k0_hw101 => k0_hw101
def k0_off108 (k0_t4 : Fin k0_t4_loop.trips) : Fin 4 → Nat :=
  let c1_i32_372 : BitVec 32 := 1#32
  let v707 : Index := Scalar.indexCast c1_i32_372
  let c4_i32_373 : BitVec 32 := 4#32
  let v708 : Index := Scalar.indexCast c4_i32_373
  let c4_i32_374 : BitVec 32 := 4#32
  let v709 : Index := Scalar.indexCast c4_i32_374
  let c0_i32_155 : BitVec 32 := 0#32
  let c1_i32_157 : BitVec 32 := 1#32
  let arg13 : BitVec 32 := Scf.iv c0_i32_155 c1_i32_157 k0_t4
  let c16_i32_371 : BitVec 32 := 16#32
  let v706 : BitVec 32 := Scalar.muli arg13 c16_i32_371
  let v710 : Index := Scalar.indexCast v706
  ![1, 4, 4, v710.toNat]

def k0_chk102 (v713 : IVec S16 32) : Prop :=
  (∀ a x, ((![v713] : Fin 1 → IVec S16 32) a x).toNat < S6565.size a)
theorem k0_idx102_inb : ∀ (v713 : IVec S16 32) (k0_hw102 : k0_chk102 v713), ∀ a x, ((![v713] : Fin 1 → IVec S16 32) a x).toNat < S6565.size a := fun v713 k0_hw102 => k0_hw102
def k0_off109 (k0_t4 : Fin k0_t4_loop.trips) : Fin 4 → Nat :=
  let c1_i32_376 : BitVec 32 := 1#32
  let v716 : Index := Scalar.indexCast c1_i32_376
  let c4_i32_377 : BitVec 32 := 4#32
  let v717 : Index := Scalar.indexCast c4_i32_377
  let c5_i32_378 : BitVec 32 := 5#32
  let v718 : Index := Scalar.indexCast c5_i32_378
  let c0_i32_155 : BitVec 32 := 0#32
  let c1_i32_157 : BitVec 32 := 1#32
  let arg13 : BitVec 32 := Scf.iv c0_i32_155 c1_i32_157 k0_t4
  let c16_i32_375 : BitVec 32 := 16#32
  let v715 : BitVec 32 := Scalar.muli arg13 c16_i32_375
  let v719 : Index := Scalar.indexCast v715
  ![1, 4, 5, v719.toNat]

def k0_chk103 (v722 : IVec S16 32) : Prop :=
  (∀ a x, ((![v722] : Fin 1 → IVec S16 32) a x).toNat < S6565.size a)
theorem k0_idx103_inb : ∀ (v722 : IVec S16 32) (k0_hw103 : k0_chk103 v722), ∀ a x, ((![v722] : Fin 1 → IVec S16 32) a x).toNat < S6565.size a := fun v722 k0_hw103 => k0_hw103
def k0_off110 (k0_t4 : Fin k0_t4_loop.trips) : Fin 4 → Nat :=
  let c1_i32_380 : BitVec 32 := 1#32
  let v725 : Index := Scalar.indexCast c1_i32_380
  let c4_i32_381 : BitVec 32 := 4#32
  let v726 : Index := Scalar.indexCast c4_i32_381
  let c6_i32_382 : BitVec 32 := 6#32
  let v727 : Index := Scalar.indexCast c6_i32_382
  let c0_i32_155 : BitVec 32 := 0#32
  let c1_i32_157 : BitVec 32 := 1#32
  let arg13 : BitVec 32 := Scf.iv c0_i32_155 c1_i32_157 k0_t4
  let c16_i32_379 : BitVec 32 := 16#32
  let v724 : BitVec 32 := Scalar.muli arg13 c16_i32_379
  let v728 : Index := Scalar.indexCast v724
  ![1, 4, 6, v728.toNat]

def k0_chk104 (v731 : IVec S16 32) : Prop :=
  (∀ a x, ((![v731] : Fin 1 → IVec S16 32) a x).toNat < S6565.size a)
theorem k0_idx104_inb : ∀ (v731 : IVec S16 32) (k0_hw104 : k0_chk104 v731), ∀ a x, ((![v731] : Fin 1 → IVec S16 32) a x).toNat < S6565.size a := fun v731 k0_hw104 => k0_hw104
def k0_off111 (k0_t4 : Fin k0_t4_loop.trips) : Fin 4 → Nat :=
  let c1_i32_384 : BitVec 32 := 1#32
  let v734 : Index := Scalar.indexCast c1_i32_384
  let c4_i32_385 : BitVec 32 := 4#32
  let v735 : Index := Scalar.indexCast c4_i32_385
  let c7_i32_386 : BitVec 32 := 7#32
  let v736 : Index := Scalar.indexCast c7_i32_386
  let c0_i32_155 : BitVec 32 := 0#32
  let c1_i32_157 : BitVec 32 := 1#32
  let arg13 : BitVec 32 := Scf.iv c0_i32_155 c1_i32_157 k0_t4
  let c16_i32_383 : BitVec 32 := 16#32
  let v733 : BitVec 32 := Scalar.muli arg13 c16_i32_383
  let v737 : Index := Scalar.indexCast v733
  ![1, 4, 7, v737.toNat]

def k0_chk105 (v740 : IVec S16 32) : Prop :=
  (∀ a x, ((![v740] : Fin 1 → IVec S16 32) a x).toNat < S6565.size a)
theorem k0_idx105_inb : ∀ (v740 : IVec S16 32) (k0_hw105 : k0_chk105 v740), ∀ a x, ((![v740] : Fin 1 → IVec S16 32) a x).toNat < S6565.size a := fun v740 k0_hw105 => k0_hw105
def k0_off112 (k0_t4 : Fin k0_t4_loop.trips) : Fin 4 → Nat :=
  let c1_i32_388 : BitVec 32 := 1#32
  let v743 : Index := Scalar.indexCast c1_i32_388
  let c5_i32_389 : BitVec 32 := 5#32
  let v744 : Index := Scalar.indexCast c5_i32_389
  let c0_i32_390 : BitVec 32 := 0#32
  let v745 : Index := Scalar.indexCast c0_i32_390
  let c0_i32_155 : BitVec 32 := 0#32
  let c1_i32_157 : BitVec 32 := 1#32
  let arg13 : BitVec 32 := Scf.iv c0_i32_155 c1_i32_157 k0_t4
  let c16_i32_387 : BitVec 32 := 16#32
  let v742 : BitVec 32 := Scalar.muli arg13 c16_i32_387
  let v746 : Index := Scalar.indexCast v742
  ![1, 5, 0, v746.toNat]

def k0_chk106 (v749 : IVec S16 32) : Prop :=
  (∀ a x, ((![v749] : Fin 1 → IVec S16 32) a x).toNat < S6565.size a)
theorem k0_idx106_inb : ∀ (v749 : IVec S16 32) (k0_hw106 : k0_chk106 v749), ∀ a x, ((![v749] : Fin 1 → IVec S16 32) a x).toNat < S6565.size a := fun v749 k0_hw106 => k0_hw106
def k0_off113 (k0_t4 : Fin k0_t4_loop.trips) : Fin 4 → Nat :=
  let c1_i32_392 : BitVec 32 := 1#32
  let v752 : Index := Scalar.indexCast c1_i32_392
  let c5_i32_393 : BitVec 32 := 5#32
  let v753 : Index := Scalar.indexCast c5_i32_393
  let c1_i32_394 : BitVec 32 := 1#32
  let v754 : Index := Scalar.indexCast c1_i32_394
  let c0_i32_155 : BitVec 32 := 0#32
  let c1_i32_157 : BitVec 32 := 1#32
  let arg13 : BitVec 32 := Scf.iv c0_i32_155 c1_i32_157 k0_t4
  let c16_i32_391 : BitVec 32 := 16#32
  let v751 : BitVec 32 := Scalar.muli arg13 c16_i32_391
  let v755 : Index := Scalar.indexCast v751
  ![1, 5, 1, v755.toNat]

def k0_chk107 (v758 : IVec S16 32) : Prop :=
  (∀ a x, ((![v758] : Fin 1 → IVec S16 32) a x).toNat < S6565.size a)
theorem k0_idx107_inb : ∀ (v758 : IVec S16 32) (k0_hw107 : k0_chk107 v758), ∀ a x, ((![v758] : Fin 1 → IVec S16 32) a x).toNat < S6565.size a := fun v758 k0_hw107 => k0_hw107
def k0_off114 (k0_t4 : Fin k0_t4_loop.trips) : Fin 4 → Nat :=
  let c1_i32_396 : BitVec 32 := 1#32
  let v761 : Index := Scalar.indexCast c1_i32_396
  let c5_i32_397 : BitVec 32 := 5#32
  let v762 : Index := Scalar.indexCast c5_i32_397
  let c2_i32_398 : BitVec 32 := 2#32
  let v763 : Index := Scalar.indexCast c2_i32_398
  let c0_i32_155 : BitVec 32 := 0#32
  let c1_i32_157 : BitVec 32 := 1#32
  let arg13 : BitVec 32 := Scf.iv c0_i32_155 c1_i32_157 k0_t4
  let c16_i32_395 : BitVec 32 := 16#32
  let v760 : BitVec 32 := Scalar.muli arg13 c16_i32_395
  let v764 : Index := Scalar.indexCast v760
  ![1, 5, 2, v764.toNat]

def k0_chk108 (v767 : IVec S16 32) : Prop :=
  (∀ a x, ((![v767] : Fin 1 → IVec S16 32) a x).toNat < S6565.size a)
theorem k0_idx108_inb : ∀ (v767 : IVec S16 32) (k0_hw108 : k0_chk108 v767), ∀ a x, ((![v767] : Fin 1 → IVec S16 32) a x).toNat < S6565.size a := fun v767 k0_hw108 => k0_hw108
def k0_off115 (k0_t4 : Fin k0_t4_loop.trips) : Fin 4 → Nat :=
  let c1_i32_400 : BitVec 32 := 1#32
  let v770 : Index := Scalar.indexCast c1_i32_400
  let c5_i32_401 : BitVec 32 := 5#32
  let v771 : Index := Scalar.indexCast c5_i32_401
  let c3_i32_402 : BitVec 32 := 3#32
  let v772 : Index := Scalar.indexCast c3_i32_402
  let c0_i32_155 : BitVec 32 := 0#32
  let c1_i32_157 : BitVec 32 := 1#32
  let arg13 : BitVec 32 := Scf.iv c0_i32_155 c1_i32_157 k0_t4
  let c16_i32_399 : BitVec 32 := 16#32
  let v769 : BitVec 32 := Scalar.muli arg13 c16_i32_399
  let v773 : Index := Scalar.indexCast v769
  ![1, 5, 3, v773.toNat]

def k0_chk109 (v776 : IVec S16 32) : Prop :=
  (∀ a x, ((![v776] : Fin 1 → IVec S16 32) a x).toNat < S6565.size a)
theorem k0_idx109_inb : ∀ (v776 : IVec S16 32) (k0_hw109 : k0_chk109 v776), ∀ a x, ((![v776] : Fin 1 → IVec S16 32) a x).toNat < S6565.size a := fun v776 k0_hw109 => k0_hw109
def k0_off116 (k0_t4 : Fin k0_t4_loop.trips) : Fin 4 → Nat :=
  let c1_i32_404 : BitVec 32 := 1#32
  let v779 : Index := Scalar.indexCast c1_i32_404
  let c5_i32_405 : BitVec 32 := 5#32
  let v780 : Index := Scalar.indexCast c5_i32_405
  let c4_i32_406 : BitVec 32 := 4#32
  let v781 : Index := Scalar.indexCast c4_i32_406
  let c0_i32_155 : BitVec 32 := 0#32
  let c1_i32_157 : BitVec 32 := 1#32
  let arg13 : BitVec 32 := Scf.iv c0_i32_155 c1_i32_157 k0_t4
  let c16_i32_403 : BitVec 32 := 16#32
  let v778 : BitVec 32 := Scalar.muli arg13 c16_i32_403
  let v782 : Index := Scalar.indexCast v778
  ![1, 5, 4, v782.toNat]

def k0_chk110 (v785 : IVec S16 32) : Prop :=
  (∀ a x, ((![v785] : Fin 1 → IVec S16 32) a x).toNat < S6565.size a)
theorem k0_idx110_inb : ∀ (v785 : IVec S16 32) (k0_hw110 : k0_chk110 v785), ∀ a x, ((![v785] : Fin 1 → IVec S16 32) a x).toNat < S6565.size a := fun v785 k0_hw110 => k0_hw110
def k0_off117 (k0_t4 : Fin k0_t4_loop.trips) : Fin 4 → Nat :=
  let c1_i32_408 : BitVec 32 := 1#32
  let v788 : Index := Scalar.indexCast c1_i32_408
  let c5_i32_409 : BitVec 32 := 5#32
  let v789 : Index := Scalar.indexCast c5_i32_409
  let c5_i32_410 : BitVec 32 := 5#32
  let v790 : Index := Scalar.indexCast c5_i32_410
  let c0_i32_155 : BitVec 32 := 0#32
  let c1_i32_157 : BitVec 32 := 1#32
  let arg13 : BitVec 32 := Scf.iv c0_i32_155 c1_i32_157 k0_t4
  let c16_i32_407 : BitVec 32 := 16#32
  let v787 : BitVec 32 := Scalar.muli arg13 c16_i32_407
  let v791 : Index := Scalar.indexCast v787
  ![1, 5, 5, v791.toNat]

def k0_chk111 (v794 : IVec S16 32) : Prop :=
  (∀ a x, ((![v794] : Fin 1 → IVec S16 32) a x).toNat < S6565.size a)
theorem k0_idx111_inb : ∀ (v794 : IVec S16 32) (k0_hw111 : k0_chk111 v794), ∀ a x, ((![v794] : Fin 1 → IVec S16 32) a x).toNat < S6565.size a := fun v794 k0_hw111 => k0_hw111
def k0_off118 (k0_t4 : Fin k0_t4_loop.trips) : Fin 4 → Nat :=
  let c1_i32_412 : BitVec 32 := 1#32
  let v797 : Index := Scalar.indexCast c1_i32_412
  let c5_i32_413 : BitVec 32 := 5#32
  let v798 : Index := Scalar.indexCast c5_i32_413
  let c6_i32_414 : BitVec 32 := 6#32
  let v799 : Index := Scalar.indexCast c6_i32_414
  let c0_i32_155 : BitVec 32 := 0#32
  let c1_i32_157 : BitVec 32 := 1#32
  let arg13 : BitVec 32 := Scf.iv c0_i32_155 c1_i32_157 k0_t4
  let c16_i32_411 : BitVec 32 := 16#32
  let v796 : BitVec 32 := Scalar.muli arg13 c16_i32_411
  let v800 : Index := Scalar.indexCast v796
  ![1, 5, 6, v800.toNat]

def k0_chk112 (v803 : IVec S16 32) : Prop :=
  (∀ a x, ((![v803] : Fin 1 → IVec S16 32) a x).toNat < S6565.size a)
theorem k0_idx112_inb : ∀ (v803 : IVec S16 32) (k0_hw112 : k0_chk112 v803), ∀ a x, ((![v803] : Fin 1 → IVec S16 32) a x).toNat < S6565.size a := fun v803 k0_hw112 => k0_hw112
def k0_off119 (k0_t4 : Fin k0_t4_loop.trips) : Fin 4 → Nat :=
  let c1_i32_416 : BitVec 32 := 1#32
  let v806 : Index := Scalar.indexCast c1_i32_416
  let c5_i32_417 : BitVec 32 := 5#32
  let v807 : Index := Scalar.indexCast c5_i32_417
  let c7_i32_418 : BitVec 32 := 7#32
  let v808 : Index := Scalar.indexCast c7_i32_418
  let c0_i32_155 : BitVec 32 := 0#32
  let c1_i32_157 : BitVec 32 := 1#32
  let arg13 : BitVec 32 := Scf.iv c0_i32_155 c1_i32_157 k0_t4
  let c16_i32_415 : BitVec 32 := 16#32
  let v805 : BitVec 32 := Scalar.muli arg13 c16_i32_415
  let v809 : Index := Scalar.indexCast v805
  ![1, 5, 7, v809.toNat]

def k0_chk113 (v812 : IVec S16 32) : Prop :=
  (∀ a x, ((![v812] : Fin 1 → IVec S16 32) a x).toNat < S6565.size a)
theorem k0_idx113_inb : ∀ (v812 : IVec S16 32) (k0_hw113 : k0_chk113 v812), ∀ a x, ((![v812] : Fin 1 → IVec S16 32) a x).toNat < S6565.size a := fun v812 k0_hw113 => k0_hw113
def k0_off120 (k0_t4 : Fin k0_t4_loop.trips) : Fin 4 → Nat :=
  let c1_i32_420 : BitVec 32 := 1#32
  let v815 : Index := Scalar.indexCast c1_i32_420
  let c6_i32_421 : BitVec 32 := 6#32
  let v816 : Index := Scalar.indexCast c6_i32_421
  let c0_i32_422 : BitVec 32 := 0#32
  let v817 : Index := Scalar.indexCast c0_i32_422
  let c0_i32_155 : BitVec 32 := 0#32
  let c1_i32_157 : BitVec 32 := 1#32
  let arg13 : BitVec 32 := Scf.iv c0_i32_155 c1_i32_157 k0_t4
  let c16_i32_419 : BitVec 32 := 16#32
  let v814 : BitVec 32 := Scalar.muli arg13 c16_i32_419
  let v818 : Index := Scalar.indexCast v814
  ![1, 6, 0, v818.toNat]

def k0_chk114 (v821 : IVec S16 32) : Prop :=
  (∀ a x, ((![v821] : Fin 1 → IVec S16 32) a x).toNat < S6565.size a)
theorem k0_idx114_inb : ∀ (v821 : IVec S16 32) (k0_hw114 : k0_chk114 v821), ∀ a x, ((![v821] : Fin 1 → IVec S16 32) a x).toNat < S6565.size a := fun v821 k0_hw114 => k0_hw114
def k0_off121 (k0_t4 : Fin k0_t4_loop.trips) : Fin 4 → Nat :=
  let c1_i32_424 : BitVec 32 := 1#32
  let v824 : Index := Scalar.indexCast c1_i32_424
  let c6_i32_425 : BitVec 32 := 6#32
  let v825 : Index := Scalar.indexCast c6_i32_425
  let c1_i32_426 : BitVec 32 := 1#32
  let v826 : Index := Scalar.indexCast c1_i32_426
  let c0_i32_155 : BitVec 32 := 0#32
  let c1_i32_157 : BitVec 32 := 1#32
  let arg13 : BitVec 32 := Scf.iv c0_i32_155 c1_i32_157 k0_t4
  let c16_i32_423 : BitVec 32 := 16#32
  let v823 : BitVec 32 := Scalar.muli arg13 c16_i32_423
  let v827 : Index := Scalar.indexCast v823
  ![1, 6, 1, v827.toNat]

def k0_chk115 (v830 : IVec S16 32) : Prop :=
  (∀ a x, ((![v830] : Fin 1 → IVec S16 32) a x).toNat < S6565.size a)
theorem k0_idx115_inb : ∀ (v830 : IVec S16 32) (k0_hw115 : k0_chk115 v830), ∀ a x, ((![v830] : Fin 1 → IVec S16 32) a x).toNat < S6565.size a := fun v830 k0_hw115 => k0_hw115
def k0_off122 (k0_t4 : Fin k0_t4_loop.trips) : Fin 4 → Nat :=
  let c1_i32_428 : BitVec 32 := 1#32
  let v833 : Index := Scalar.indexCast c1_i32_428
  let c6_i32_429 : BitVec 32 := 6#32
  let v834 : Index := Scalar.indexCast c6_i32_429
  let c2_i32_430 : BitVec 32 := 2#32
  let v835 : Index := Scalar.indexCast c2_i32_430
  let c0_i32_155 : BitVec 32 := 0#32
  let c1_i32_157 : BitVec 32 := 1#32
  let arg13 : BitVec 32 := Scf.iv c0_i32_155 c1_i32_157 k0_t4
  let c16_i32_427 : BitVec 32 := 16#32
  let v832 : BitVec 32 := Scalar.muli arg13 c16_i32_427
  let v836 : Index := Scalar.indexCast v832
  ![1, 6, 2, v836.toNat]

def k0_chk116 (v839 : IVec S16 32) : Prop :=
  (∀ a x, ((![v839] : Fin 1 → IVec S16 32) a x).toNat < S6565.size a)
theorem k0_idx116_inb : ∀ (v839 : IVec S16 32) (k0_hw116 : k0_chk116 v839), ∀ a x, ((![v839] : Fin 1 → IVec S16 32) a x).toNat < S6565.size a := fun v839 k0_hw116 => k0_hw116
def k0_off123 (k0_t4 : Fin k0_t4_loop.trips) : Fin 4 → Nat :=
  let c1_i32_432 : BitVec 32 := 1#32
  let v842 : Index := Scalar.indexCast c1_i32_432
  let c6_i32_433 : BitVec 32 := 6#32
  let v843 : Index := Scalar.indexCast c6_i32_433
  let c3_i32_434 : BitVec 32 := 3#32
  let v844 : Index := Scalar.indexCast c3_i32_434
  let c0_i32_155 : BitVec 32 := 0#32
  let c1_i32_157 : BitVec 32 := 1#32
  let arg13 : BitVec 32 := Scf.iv c0_i32_155 c1_i32_157 k0_t4
  let c16_i32_431 : BitVec 32 := 16#32
  let v841 : BitVec 32 := Scalar.muli arg13 c16_i32_431
  let v845 : Index := Scalar.indexCast v841
  ![1, 6, 3, v845.toNat]

def k0_chk117 (v848 : IVec S16 32) : Prop :=
  (∀ a x, ((![v848] : Fin 1 → IVec S16 32) a x).toNat < S6565.size a)
theorem k0_idx117_inb : ∀ (v848 : IVec S16 32) (k0_hw117 : k0_chk117 v848), ∀ a x, ((![v848] : Fin 1 → IVec S16 32) a x).toNat < S6565.size a := fun v848 k0_hw117 => k0_hw117
def k0_off124 (k0_t4 : Fin k0_t4_loop.trips) : Fin 4 → Nat :=
  let c1_i32_436 : BitVec 32 := 1#32
  let v851 : Index := Scalar.indexCast c1_i32_436
  let c6_i32_437 : BitVec 32 := 6#32
  let v852 : Index := Scalar.indexCast c6_i32_437
  let c4_i32_438 : BitVec 32 := 4#32
  let v853 : Index := Scalar.indexCast c4_i32_438
  let c0_i32_155 : BitVec 32 := 0#32
  let c1_i32_157 : BitVec 32 := 1#32
  let arg13 : BitVec 32 := Scf.iv c0_i32_155 c1_i32_157 k0_t4
  let c16_i32_435 : BitVec 32 := 16#32
  let v850 : BitVec 32 := Scalar.muli arg13 c16_i32_435
  let v854 : Index := Scalar.indexCast v850
  ![1, 6, 4, v854.toNat]

def k0_chk118 (v857 : IVec S16 32) : Prop :=
  (∀ a x, ((![v857] : Fin 1 → IVec S16 32) a x).toNat < S6565.size a)
theorem k0_idx118_inb : ∀ (v857 : IVec S16 32) (k0_hw118 : k0_chk118 v857), ∀ a x, ((![v857] : Fin 1 → IVec S16 32) a x).toNat < S6565.size a := fun v857 k0_hw118 => k0_hw118
def k0_off125 (k0_t4 : Fin k0_t4_loop.trips) : Fin 4 → Nat :=
  let c1_i32_440 : BitVec 32 := 1#32
  let v860 : Index := Scalar.indexCast c1_i32_440
  let c6_i32_441 : BitVec 32 := 6#32
  let v861 : Index := Scalar.indexCast c6_i32_441
  let c5_i32_442 : BitVec 32 := 5#32
  let v862 : Index := Scalar.indexCast c5_i32_442
  let c0_i32_155 : BitVec 32 := 0#32
  let c1_i32_157 : BitVec 32 := 1#32
  let arg13 : BitVec 32 := Scf.iv c0_i32_155 c1_i32_157 k0_t4
  let c16_i32_439 : BitVec 32 := 16#32
  let v859 : BitVec 32 := Scalar.muli arg13 c16_i32_439
  let v863 : Index := Scalar.indexCast v859
  ![1, 6, 5, v863.toNat]

def k0_chk119 (v866 : IVec S16 32) : Prop :=
  (∀ a x, ((![v866] : Fin 1 → IVec S16 32) a x).toNat < S6565.size a)
theorem k0_idx119_inb : ∀ (v866 : IVec S16 32) (k0_hw119 : k0_chk119 v866), ∀ a x, ((![v866] : Fin 1 → IVec S16 32) a x).toNat < S6565.size a := fun v866 k0_hw119 => k0_hw119
def k0_off126 (k0_t4 : Fin k0_t4_loop.trips) : Fin 4 → Nat :=
  let c1_i32_444 : BitVec 32 := 1#32
  let v869 : Index := Scalar.indexCast c1_i32_444
  let c6_i32_445 : BitVec 32 := 6#32
  let v870 : Index := Scalar.indexCast c6_i32_445
  let c6_i32_446 : BitVec 32 := 6#32
  let v871 : Index := Scalar.indexCast c6_i32_446
  let c0_i32_155 : BitVec 32 := 0#32
  let c1_i32_157 : BitVec 32 := 1#32
  let arg13 : BitVec 32 := Scf.iv c0_i32_155 c1_i32_157 k0_t4
  let c16_i32_443 : BitVec 32 := 16#32
  let v868 : BitVec 32 := Scalar.muli arg13 c16_i32_443
  let v872 : Index := Scalar.indexCast v868
  ![1, 6, 6, v872.toNat]

def k0_chk120 (v875 : IVec S16 32) : Prop :=
  (∀ a x, ((![v875] : Fin 1 → IVec S16 32) a x).toNat < S6565.size a)
theorem k0_idx120_inb : ∀ (v875 : IVec S16 32) (k0_hw120 : k0_chk120 v875), ∀ a x, ((![v875] : Fin 1 → IVec S16 32) a x).toNat < S6565.size a := fun v875 k0_hw120 => k0_hw120
def k0_off127 (k0_t4 : Fin k0_t4_loop.trips) : Fin 4 → Nat :=
  let c1_i32_448 : BitVec 32 := 1#32
  let v878 : Index := Scalar.indexCast c1_i32_448
  let c6_i32_449 : BitVec 32 := 6#32
  let v879 : Index := Scalar.indexCast c6_i32_449
  let c7_i32_450 : BitVec 32 := 7#32
  let v880 : Index := Scalar.indexCast c7_i32_450
  let c0_i32_155 : BitVec 32 := 0#32
  let c1_i32_157 : BitVec 32 := 1#32
  let arg13 : BitVec 32 := Scf.iv c0_i32_155 c1_i32_157 k0_t4
  let c16_i32_447 : BitVec 32 := 16#32
  let v877 : BitVec 32 := Scalar.muli arg13 c16_i32_447
  let v881 : Index := Scalar.indexCast v877
  ![1, 6, 7, v881.toNat]

def k0_chk121 (v884 : IVec S16 32) : Prop :=
  (∀ a x, ((![v884] : Fin 1 → IVec S16 32) a x).toNat < S6565.size a)
theorem k0_idx121_inb : ∀ (v884 : IVec S16 32) (k0_hw121 : k0_chk121 v884), ∀ a x, ((![v884] : Fin 1 → IVec S16 32) a x).toNat < S6565.size a := fun v884 k0_hw121 => k0_hw121
def k0_off128 (k0_t4 : Fin k0_t4_loop.trips) : Fin 4 → Nat :=
  let c1_i32_452 : BitVec 32 := 1#32
  let v887 : Index := Scalar.indexCast c1_i32_452
  let c7_i32_453 : BitVec 32 := 7#32
  let v888 : Index := Scalar.indexCast c7_i32_453
  let c0_i32_454 : BitVec 32 := 0#32
  let v889 : Index := Scalar.indexCast c0_i32_454
  let c0_i32_155 : BitVec 32 := 0#32
  let c1_i32_157 : BitVec 32 := 1#32
  let arg13 : BitVec 32 := Scf.iv c0_i32_155 c1_i32_157 k0_t4
  let c16_i32_451 : BitVec 32 := 16#32
  let v886 : BitVec 32 := Scalar.muli arg13 c16_i32_451
  let v890 : Index := Scalar.indexCast v886
  ![1, 7, 0, v890.toNat]

def k0_chk122 (v893 : IVec S16 32) : Prop :=
  (∀ a x, ((![v893] : Fin 1 → IVec S16 32) a x).toNat < S6565.size a)
theorem k0_idx122_inb : ∀ (v893 : IVec S16 32) (k0_hw122 : k0_chk122 v893), ∀ a x, ((![v893] : Fin 1 → IVec S16 32) a x).toNat < S6565.size a := fun v893 k0_hw122 => k0_hw122
def k0_off129 (k0_t4 : Fin k0_t4_loop.trips) : Fin 4 → Nat :=
  let c1_i32_456 : BitVec 32 := 1#32
  let v896 : Index := Scalar.indexCast c1_i32_456
  let c7_i32_457 : BitVec 32 := 7#32
  let v897 : Index := Scalar.indexCast c7_i32_457
  let c1_i32_458 : BitVec 32 := 1#32
  let v898 : Index := Scalar.indexCast c1_i32_458
  let c0_i32_155 : BitVec 32 := 0#32
  let c1_i32_157 : BitVec 32 := 1#32
  let arg13 : BitVec 32 := Scf.iv c0_i32_155 c1_i32_157 k0_t4
  let c16_i32_455 : BitVec 32 := 16#32
  let v895 : BitVec 32 := Scalar.muli arg13 c16_i32_455
  let v899 : Index := Scalar.indexCast v895
  ![1, 7, 1, v899.toNat]

def k0_chk123 (v902 : IVec S16 32) : Prop :=
  (∀ a x, ((![v902] : Fin 1 → IVec S16 32) a x).toNat < S6565.size a)
theorem k0_idx123_inb : ∀ (v902 : IVec S16 32) (k0_hw123 : k0_chk123 v902), ∀ a x, ((![v902] : Fin 1 → IVec S16 32) a x).toNat < S6565.size a := fun v902 k0_hw123 => k0_hw123
def k0_off130 (k0_t4 : Fin k0_t4_loop.trips) : Fin 4 → Nat :=
  let c1_i32_460 : BitVec 32 := 1#32
  let v905 : Index := Scalar.indexCast c1_i32_460
  let c7_i32_461 : BitVec 32 := 7#32
  let v906 : Index := Scalar.indexCast c7_i32_461
  let c2_i32_462 : BitVec 32 := 2#32
  let v907 : Index := Scalar.indexCast c2_i32_462
  let c0_i32_155 : BitVec 32 := 0#32
  let c1_i32_157 : BitVec 32 := 1#32
  let arg13 : BitVec 32 := Scf.iv c0_i32_155 c1_i32_157 k0_t4
  let c16_i32_459 : BitVec 32 := 16#32
  let v904 : BitVec 32 := Scalar.muli arg13 c16_i32_459
  let v908 : Index := Scalar.indexCast v904
  ![1, 7, 2, v908.toNat]

def k0_chk124 (v911 : IVec S16 32) : Prop :=
  (∀ a x, ((![v911] : Fin 1 → IVec S16 32) a x).toNat < S6565.size a)
theorem k0_idx124_inb : ∀ (v911 : IVec S16 32) (k0_hw124 : k0_chk124 v911), ∀ a x, ((![v911] : Fin 1 → IVec S16 32) a x).toNat < S6565.size a := fun v911 k0_hw124 => k0_hw124
def k0_off131 (k0_t4 : Fin k0_t4_loop.trips) : Fin 4 → Nat :=
  let c1_i32_464 : BitVec 32 := 1#32
  let v914 : Index := Scalar.indexCast c1_i32_464
  let c7_i32_465 : BitVec 32 := 7#32
  let v915 : Index := Scalar.indexCast c7_i32_465
  let c3_i32_466 : BitVec 32 := 3#32
  let v916 : Index := Scalar.indexCast c3_i32_466
  let c0_i32_155 : BitVec 32 := 0#32
  let c1_i32_157 : BitVec 32 := 1#32
  let arg13 : BitVec 32 := Scf.iv c0_i32_155 c1_i32_157 k0_t4
  let c16_i32_463 : BitVec 32 := 16#32
  let v913 : BitVec 32 := Scalar.muli arg13 c16_i32_463
  let v917 : Index := Scalar.indexCast v913
  ![1, 7, 3, v917.toNat]

def k0_chk125 (v920 : IVec S16 32) : Prop :=
  (∀ a x, ((![v920] : Fin 1 → IVec S16 32) a x).toNat < S6565.size a)
theorem k0_idx125_inb : ∀ (v920 : IVec S16 32) (k0_hw125 : k0_chk125 v920), ∀ a x, ((![v920] : Fin 1 → IVec S16 32) a x).toNat < S6565.size a := fun v920 k0_hw125 => k0_hw125
def k0_off132 (k0_t4 : Fin k0_t4_loop.trips) : Fin 4 → Nat :=
  let c1_i32_468 : BitVec 32 := 1#32
  let v923 : Index := Scalar.indexCast c1_i32_468
  let c7_i32_469 : BitVec 32 := 7#32
  let v924 : Index := Scalar.indexCast c7_i32_469
  let c4_i32_470 : BitVec 32 := 4#32
  let v925 : Index := Scalar.indexCast c4_i32_470
  let c0_i32_155 : BitVec 32 := 0#32
  let c1_i32_157 : BitVec 32 := 1#32
  let arg13 : BitVec 32 := Scf.iv c0_i32_155 c1_i32_157 k0_t4
  let c16_i32_467 : BitVec 32 := 16#32
  let v922 : BitVec 32 := Scalar.muli arg13 c16_i32_467
  let v926 : Index := Scalar.indexCast v922
  ![1, 7, 4, v926.toNat]

def k0_chk126 (v929 : IVec S16 32) : Prop :=
  (∀ a x, ((![v929] : Fin 1 → IVec S16 32) a x).toNat < S6565.size a)
theorem k0_idx126_inb : ∀ (v929 : IVec S16 32) (k0_hw126 : k0_chk126 v929), ∀ a x, ((![v929] : Fin 1 → IVec S16 32) a x).toNat < S6565.size a := fun v929 k0_hw126 => k0_hw126
def k0_off133 (k0_t4 : Fin k0_t4_loop.trips) : Fin 4 → Nat :=
  let c1_i32_472 : BitVec 32 := 1#32
  let v932 : Index := Scalar.indexCast c1_i32_472
  let c7_i32_473 : BitVec 32 := 7#32
  let v933 : Index := Scalar.indexCast c7_i32_473
  let c5_i32_474 : BitVec 32 := 5#32
  let v934 : Index := Scalar.indexCast c5_i32_474
  let c0_i32_155 : BitVec 32 := 0#32
  let c1_i32_157 : BitVec 32 := 1#32
  let arg13 : BitVec 32 := Scf.iv c0_i32_155 c1_i32_157 k0_t4
  let c16_i32_471 : BitVec 32 := 16#32
  let v931 : BitVec 32 := Scalar.muli arg13 c16_i32_471
  let v935 : Index := Scalar.indexCast v931
  ![1, 7, 5, v935.toNat]

def k0_chk127 (v938 : IVec S16 32) : Prop :=
  (∀ a x, ((![v938] : Fin 1 → IVec S16 32) a x).toNat < S6565.size a)
theorem k0_idx127_inb : ∀ (v938 : IVec S16 32) (k0_hw127 : k0_chk127 v938), ∀ a x, ((![v938] : Fin 1 → IVec S16 32) a x).toNat < S6565.size a := fun v938 k0_hw127 => k0_hw127
def k0_off134 (k0_t4 : Fin k0_t4_loop.trips) : Fin 4 → Nat :=
  let c1_i32_476 : BitVec 32 := 1#32
  let v941 : Index := Scalar.indexCast c1_i32_476
  let c7_i32_477 : BitVec 32 := 7#32
  let v942 : Index := Scalar.indexCast c7_i32_477
  let c6_i32_478 : BitVec 32 := 6#32
  let v943 : Index := Scalar.indexCast c6_i32_478
  let c0_i32_155 : BitVec 32 := 0#32
  let c1_i32_157 : BitVec 32 := 1#32
  let arg13 : BitVec 32 := Scf.iv c0_i32_155 c1_i32_157 k0_t4
  let c16_i32_475 : BitVec 32 := 16#32
  let v940 : BitVec 32 := Scalar.muli arg13 c16_i32_475
  let v944 : Index := Scalar.indexCast v940
  ![1, 7, 6, v944.toNat]

def k0_chk128 (v947 : IVec S16 32) : Prop :=
  (∀ a x, ((![v947] : Fin 1 → IVec S16 32) a x).toNat < S6565.size a)
theorem k0_idx128_inb : ∀ (v947 : IVec S16 32) (k0_hw128 : k0_chk128 v947), ∀ a x, ((![v947] : Fin 1 → IVec S16 32) a x).toNat < S6565.size a := fun v947 k0_hw128 => k0_hw128
def k0_off135 (k0_t4 : Fin k0_t4_loop.trips) : Fin 4 → Nat :=
  let c1_i32_480 : BitVec 32 := 1#32
  let v950 : Index := Scalar.indexCast c1_i32_480
  let c7_i32_481 : BitVec 32 := 7#32
  let v951 : Index := Scalar.indexCast c7_i32_481
  let c7_i32_482 : BitVec 32 := 7#32
  let v952 : Index := Scalar.indexCast c7_i32_482
  let c0_i32_155 : BitVec 32 := 0#32
  let c1_i32_157 : BitVec 32 := 1#32
  let arg13 : BitVec 32 := Scf.iv c0_i32_155 c1_i32_157 k0_t4
  let c16_i32_479 : BitVec 32 := 16#32
  let v949 : BitVec 32 := Scalar.muli arg13 c16_i32_479
  let v953 : Index := Scalar.indexCast v949
  ![1, 7, 7, v953.toNat]
def k0_off136 (i : grid0.Coords) (k0_t2 : Fin k0_t2_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c25_i32 : BitVec 32 := 25#32
  let v21 : BitVec 32 := Scalar.muli v18 c25_i32
  let c0_i32_122 : BitVec 32 := 0#32
  let c1_i32_123 : BitVec 32 := 1#32
  let arg12 : BitVec 32 := Scf.iv c0_i32_122 c1_i32_123 k0_t2
  let c0_i32_126 : BitVec 32 := 0#32
  let v312 : BitVec 1 := Scalar.cmpi .sgt arg12 c0_i32_126
  let v313 : BitVec 32 := Scalar.extui v312
  let c0_i32_127 : BitVec 32 := 0#32
  let v314 : BitVec 1 := Scalar.cmpi .slt arg12 c0_i32_127
  let v315 : BitVec 32 := Scalar.extui v314
  let v316 : BitVec 32 := Scalar.subi v313 v315
  let c4_i32_125 : BitVec 32 := 4#32
  let c0_i32_128 : BitVec 32 := 0#32
  let v317 : BitVec 1 := Scalar.cmpi .sgt c4_i32_125 c0_i32_128
  let v318 : BitVec 32 := Scalar.extui v317
  let c0_i32_129 : BitVec 32 := 0#32
  let v319 : BitVec 1 := Scalar.cmpi .slt c4_i32_125 c0_i32_129
  let v320 : BitVec 32 := Scalar.extui v319
  let v321 : BitVec 32 := Scalar.subi v318 v320
  let v322 : BitVec 1 := Scalar.cmpi .ne v316 v321
  let v323 : BitVec 32 := Scalar.remsi arg12 c4_i32_125
  let c0_i32_130 : BitVec 32 := 0#32
  let v324 : BitVec 1 := Scalar.cmpi .ne v323 c0_i32_130
  let v325 : BitVec 1 := Scalar.andi v322 v324
  let v311 : BitVec 32 := Scalar.divsi arg12 c4_i32_125
  let c1_i32_131 : BitVec 32 := 1#32
  let v326 : BitVec 32 := Scalar.subi v311 c1_i32_131
  let v327 : BitVec 32 := Scalar.select v325 v326 v311
  let v345 : BitVec 32 := Scalar.addi v21 v327
  let c0_i32_164 : BitVec 32 := 0#32
  let c8_i32_159 : BitVec 32 := 8#32
  let c4_i32_4 : BitVec 32 := 4#32
  let v19 : BitVec 32 := Scalar.muli v18 c4_i32_4
  let v20 : BitVec 32 := Scalar.subi v1 v19
  let v346 : BitVec 32 := Scalar.muli c8_i32_159 v20
  let c2_i32_133 : BitVec 32 := 2#32
  let c4_i32_132 : BitVec 32 := 4#32
  let v328 : BitVec 32 := Scalar.muli v327 c4_i32_132
  let v329 : BitVec 32 := Scalar.subi arg12 v328
  let v330 : BitVec 32 := Scalar.muli c2_i32_133 v329
  let c1_i32_153 : BitVec 32 := 1#32
  let v343 : BitVec 32 := Scalar.addi v330 c1_i32_153
  let v347 : BitVec 32 := Scalar.addi v346 v343
  let c0_i32_165 : BitVec 32 := 0#32
  let c0_i32_166 : BitVec 32 := 0#32
  ![v345.toNat, 0, v347.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S4096x201 : Shape := ⟨2, ![4096, 201]⟩
abbrev S_ : Shape := ⟨0, ![]⟩
abbrev S64x101 : Shape := ⟨2, ![64, 101]⟩
abbrev S64 : Shape := ⟨1, ![64]⟩
abbrev S819200 : Shape := ⟨1, ![819200]⟩
abbrev S819200x101 : Shape := ⟨2, ![819200, 101]⟩
abbrev S819200x1 : Shape := ⟨2, ![819200, 1]⟩
abbrev S819200x2 : Shape := ⟨2, ![819200, 2]⟩
abbrev S101x64 : Shape := ⟨2, ![101, 64]⟩
abbrev S819200x64 : Shape := ⟨2, ![819200, 64]⟩
abbrev S1x64 : Shape := ⟨2, ![1, 64]⟩
abbrev S4096x200x64 : Shape := ⟨3, ![4096, 200, 64]⟩

abbrev nBuf : Space → Nat
  | .hbm => 49
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x201, .f32⟩
  | .hbm, ⟨2, _⟩ => ⟨S_, .i32⟩
  | .hbm, ⟨3, _⟩ => ⟨S64x101, .f32⟩
  | .hbm, ⟨4, _⟩ => ⟨S64, .f32⟩
  | .hbm, ⟨5, _⟩ => ⟨S4096x200, .f32⟩
  | .hbm, ⟨6, _⟩ => ⟨S4096x200, .f32⟩
  | .hbm, ⟨7, _⟩ => ⟨S4096x200, .f32⟩
  | .hbm, ⟨8, _⟩ => ⟨S_, .f32⟩
  | .hbm, ⟨9, _⟩ => ⟨S4096x200, .f32⟩
  | .hbm, ⟨10, _⟩ => ⟨S4096x200, .f32⟩
  | .hbm, ⟨11, _⟩ => ⟨S_, .f32⟩
  | .hbm, ⟨12, _⟩ => ⟨S4096x200, .f32⟩
  | .hbm, ⟨13, _⟩ => ⟨S4096x200, .f32⟩
  | .hbm, ⟨14, _⟩ => ⟨S4096x200, .i32⟩
  | .hbm, ⟨15, _⟩ => ⟨S_, .i32⟩
  | .hbm, ⟨16, _⟩ => ⟨S4096x200, .i32⟩
  | .hbm, ⟨17, _⟩ => ⟨S4096x200, .i32⟩
  | .hbm, ⟨18, _⟩ => ⟨S819200, .i32⟩
  | .hbm, ⟨19, _⟩ => ⟨S_, .f32⟩
  | .hbm, ⟨20, _⟩ => ⟨S819200x101, .f32⟩
  | .hbm, ⟨21, _⟩ => ⟨S819200, .i32⟩
  | .hbm, ⟨22, _⟩ => ⟨S_, .i32⟩
  | .hbm, ⟨23, _⟩ => ⟨S819200, .i32⟩
  | .hbm, ⟨24, _⟩ => ⟨S819200, .i1⟩
  | .hbm, ⟨25, _⟩ => ⟨S_, .i32⟩
  | .hbm, ⟨26, _⟩ => ⟨S819200, .i32⟩
  | .hbm, ⟨27, _⟩ => ⟨S819200, .i32⟩
  | .hbm, ⟨28, _⟩ => ⟨S819200, .i32⟩
  | .hbm, ⟨29, _⟩ => ⟨S_, .i32⟩
  | .hbm, ⟨30, _⟩ => ⟨S819200, .i32⟩
  | .hbm, ⟨31, _⟩ => ⟨S819200, .i1⟩
  | .hbm, ⟨32, _⟩ => ⟨S_, .i32⟩
  | .hbm, ⟨33, _⟩ => ⟨S819200, .i32⟩
  | .hbm, ⟨34, _⟩ => ⟨S819200, .i32⟩
  | .hbm, ⟨35, _⟩ => ⟨S819200, .i32⟩
  | .hbm, ⟨36, _⟩ => ⟨S819200x1, .i32⟩
  | .hbm, ⟨37, _⟩ => ⟨S819200x1, .i32⟩
  | .hbm, ⟨38, _⟩ => ⟨S819200x2, .i32⟩
  | .hbm, ⟨39, _⟩ => ⟨S_, .f32⟩
  | .hbm, ⟨40, _⟩ => ⟨S819200, .f32⟩
  | .hbm, ⟨41, _⟩ => ⟨S819200x101, .f32⟩
  | .hbm, ⟨42, _⟩ => ⟨S101x64, .f32⟩
  | .hbm, ⟨43, _⟩ => ⟨S819200x64, .f32⟩
  | .hbm, ⟨44, _⟩ => ⟨S1x64, .f32⟩
  | .hbm, ⟨45, _⟩ => ⟨S819200x64, .f32⟩
  | .hbm, ⟨46, _⟩ => ⟨S819200x64, .f32⟩
  | .hbm, ⟨47, _⟩ => ⟨S4096x200x64, .f32⟩
  | .hbm, ⟨48, _⟩ => ⟨S4096x200, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Unroll.lean ====
/-
  The kernel's unrolled bodies as what they are: repetitions of one step. The printed body of a fill loop is 64
  times "gather sixteen table entries, store them in row `d` of a staging buffer"; the printed body of the binning
  loop is 64 times "difference two rows' chunks, store the chunk's bins". Each is stated here as a repetition of ONE
  step over a symbolic index, and the printed body is that repetition by definitional unfolding.
-/
module

public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-- `step k`, `step (k + 1)`, …, `n` steps in all, one after another. -/
def steps {E : Type → Type} (step : ℕ → Prog E Unit) : ℕ → ℕ → Prog E Unit
  | 0, _ => pure ⟨⟩
  | n + 1, k => step k >>= fun _ => steps step n (k + 1)

/-- The thread a tile's body runs on: SparseCore `i 0`, subcore `i 1`. -/
abbrev tileProc (i : grid0.Coords) : Proc τ := .scVector ((i 0).castLE hcore0) ((i 1).castLE hsub0)

/-- What a tile's body is a program of. -/
abbrev TileProg (F : FTy → Type) (i : grid0.Coords) (α : Type) : Type 1 := Prog (TpuEff nD τ sig (Elt F) Λ₀ (tileProc i)) α

/-- The timestamps, flat, row after row. -/
abbrev tsA : Memref sig .scVector .hbm S823296 .f32 := Memref.whole main_v7_scv
/-- The table, 65 words a bin. -/
abbrev tabA : Memref sig .scVector .hbm S6565 .f32 := Memref.whole main_v5_scv
/-- The result. -/
abbrev outA : Memref sig .scVector .hbm S200x8x32x8x128 .f32 := Memref.whole main_v8_scv
/-- A tile's copy of its 26 rows of timestamps. -/
abbrev tsV : Memref sig .scVector .vmem S26624 .f32 := Memref.whole cc0_scratch0
/-- A tile's table positions: 65 times the bin, 1024 a row. -/
abbrev posV : Memref sig .scVector .vmem S25600 .i32 := Memref.whole cc0_scratch1
/-- A tile's copy of the table. -/
abbrev tabV : Memref sig .scVector .vmem S6565 .f32 := Memref.whole cc0_scratch2
/-- A tile's two staging buffers. -/
abbrev stageV : Memref sig .scVector .vmem S2x8x8x128 .f32 := Memref.whole cc0_scratch3

/-- Row `r` of a tile's timestamps, in the flat array. -/
abbrev rowSrc (i : grid0.Coords) (r : Fin 26) : Memref sig .scVector .hbm S1024 .f32 :=
  tsA.slice (Rect.unit (s := S823296) (k0_off1 i (BitVec.ofNat 32 r.val)) S1024.size (k0_off1_inb i r)) (fun _ => rfl)

theorem row_inb (r : Fin 26) : ∀ a, (![1024 * r.val] : Fin 1 → Nat) a + S1024.size a ≤ S26624.size a := by
  intro a; have := r.isLt; fin_cases a; show 1024 * r.val + 1024 ≤ 26624; omega

/-- Row `r` of a tile's timestamps, in the tile's copy. -/
abbrev rowDst (r : Fin 26) : Memref sig .scVector .vmem S1024 .f32 :=
  tsV.slice (Rect.unit (s := S26624) ![1024 * r.val] S1024.size (row_inb r)) (fun _ => rfl)

/-- Issue the copy of row `r`. -/
def issueStep (i : grid0.Coords) (r : Fin 26) : TileProg F i Unit :=
  Prog.lift (.enqueueDma (rowSrc i r) (.here (rowDst r)) (.dma cc0_scratch6.sem) (View.wordExact_bits rfl) (View.wordExact_bits rfl) ⟨Or.inl rfl, trivial⟩)

/-- Wait for the copy of row `r`. -/
def awaitStep (i : grid0.Coords) (r : Fin 26) : TileProg F i Unit :=
  Prog.lift (.waitDma2 cc0_scratch6.sem (rowSrc i r) (rowDst r) (View.wordExact_bits rfl) (View.wordExact_bits rfl))

/-- One chunk of the binning loop: sixteen differences of row `k` from the next, binned, stored as table positions. -/
def binStep (i : grid0.Coords) (k : Fin k0_t1_loop.trips) (j : Fin 64) : TileProg F i Unit := do
  let cur : Vec F S16 .f32 ← Prog.lift (.load tsV (Rect.unit (s := S26624) (k0_off2 k (BitVec.ofNat 32 (16 * j.val))) S16.size (k0_off2_inb k j)).toLoadRect (View.loadsAt_vmem h_S16))
  let nxt : Vec F S16 .f32 ← Prog.lift (.load tsV (Rect.unit (s := S26624) (k0_off3 k (BitVec.ofNat 32 (16 * j.val))) S16.size (k0_off3_inb k j)).toLoadRect (View.loadsAt_vmem h_S16))
  let _ : Vec F S16 .i32 ← Prog.lift (.load posV (Rect.unit (s := S25600) (k0_off4 k (BitVec.ofNat 32 (16 * j.val))) S16.size (k0_off4_inb k j)).toLoadRect (View.loadsAt_vmem h_S16))
  Prog.lift (.store posV (Rect.unit (s := S25600) (k0_off4 k (BitVec.ofNat 32 (16 * j.val))) S16.size (k0_off4_inb k j)) (k0_pay1 cur nxt) Finset.univ (View.stores_vmem_bits_univ h_S16 rfl) (.inl rfl))

/-- Where the chunk of trip `t` of a fill loop lies in row `d` of staging buffer `b`, in the kernel's words. -/
def fillOff (b : BitVec 32) (d : ℕ) (t : ℕ) : Fin 4 → Nat :=
  ![(Scalar.indexCast b).toNat, (Scalar.indexCast (BitVec.ofNat 32 (d / 8 % 8))).toNat, (Scalar.indexCast (BitVec.ofNat 32 (d % 8))).toNat,
    (Scalar.indexCast (Scalar.muli (Scf.iv 0#32 1#32 t) 16#32)).toNat]

/-- The table positions of feature `d`, from the positions of feature 0. -/
def featIdx (iv : IVec S16 32) (d : ℕ) : IVec S16 32 := addi iv (broadcast S16 (BitVec.ofNat 32 d))

theorem fillOff_eq (b : Fin 2) (d : ℕ) (t : Fin 8) :
    fillOff (BitVec.ofNat 32 b.val) d t.val = ![b.val, d / 8 % 8, d % 8, 16 * t.val] := by
  have h1 : d / 8 % 8 < 8 := Nat.mod_lt _ (by decide)
  have h2 : d % 8 < 8 := Nat.mod_lt _ (by decide)
  unfold fillOff
  generalize d / 8 % 8 = x at *
  generalize d % 8 = y at *
  have : ∀ (b : Fin 2) (x y t : Fin 8), (![(Scalar.indexCast (BitVec.ofNat 32 b.val)).toNat, (Scalar.indexCast (BitVec.ofNat 32 x.val)).toNat, (Scalar.indexCast (BitVec.ofNat 32 y.val)).toNat,
    (Scalar.indexCast (Scalar.muli (Scf.iv 0#32 1#32 t.val) 16#32)).toNat] : Fin 4 → ℕ) = ![b.val, x.val, y.val, 16 * t.val] := by decide +kernel
  exact this b ⟨x, h1⟩ ⟨y, h2⟩ t

theorem fillOff_inb (b : Fin 2) (d : ℕ) (t : Fin 8) : ∀ a, fillOff (BitVec.ofNat 32 b.val) d t.val a + S1x1x1x16.size a ≤ S2x8x8x128.size a := by
  rw [fillOff_eq]
  intro a
  have := b.isLt; have := t.isLt
  have h1 : d / 8 % 8 < 8 := Nat.mod_lt _ (by decide)
  have h2 : d % 8 < 8 := Nat.mod_lt _ (by decide)
  fin_cases a
  · show b.val + 1 ≤ 2; omega
  · show d / 8 % 8 + 1 ≤ 8; omega
  · show d % 8 + 1 ≤ 8; omega
  · show 16 * t.val + 16 ≤ 128; omega

/-- One step of a fill: gather feature `d` of the sixteen table rows `iv` points at, store it in row `d` of buffer `b`. -/
def fillStep (i : grid0.Coords) (b : Fin 2) (t : Fin 8) (iv : IVec S16 32) (d : ℕ) : TileProg F i Unit := do
  have hw : k0_chk1 (featIdx iv d) := (← Prog.lift (TpuEff.assume (k0_chk1 (featIdx iv d)) (k0_chk1.dec _))).down
  let v : Vec F S16 .f32 ← SparseCore.vectorLoadIdx tabV ![featIdx iv d] (k0_idx1_inb _ hw) (View.loads_vmem h_S6565)
  let _ : Vec F S1x1x1x16 .f32 ← Prog.lift (.load stageV (Rect.unit (s := S2x8x8x128) (fillOff (BitVec.ofNat 32 b.val) d t.val) S1x1x1x16.size (fillOff_inb b d t)).toLoadRect (View.loadsAt_vmem h_S1x1x1x16))
  Prog.lift (.store stageV (Rect.unit (s := S2x8x8x128) (fillOff (BitVec.ofNat 32 b.val) d t.val) S1x1x1x16.size (fillOff_inb b d t)) (shapeCast S1x1x1x16 v shapeCasts_S16_S1x1x1x16) Finset.univ (View.stores_vmem_bits_univ h_S1x1x1x16 rfl) (.inl rfl))
  pure ⟨⟩

/-- Where trip `t` of the fill of buffer `b` reads its sixteen positions, in the kernel's words. -/
def posOff (b : Fin 2) (p : Fin k0_t2_loop.trips) (t : Fin 8) : Fin 1 → Nat :=
  match b with
  | 0 => k0_off5 p t
  | 1 => k0_off71 p t

theorem posOff_inb (b : Fin 2) (p : Fin k0_t2_loop.trips) (t : Fin 8) : ∀ a, posOff b p t a + S16.size a ≤ S25600.size a :=
  match b with
  | 0 => k0_off5_inb p t
  | 1 => k0_off71_inb p t

/-- One trip of a fill: sixteen positions, then their 64 features. -/
def fillTrip (i : grid0.Coords) (b : Fin 2) (p : Fin k0_t2_loop.trips) (t : Fin 8) : TileProg F i Unit := do
  let iv : Vec F S16 .i32 ← Prog.lift (.load posV (Rect.unit (s := S25600) (posOff b p t) S16.size (posOff_inb b p t)).toLoadRect (View.loadsAt_vmem h_S16))
  steps (fillStep i b t iv) 64 0

/-- Where pair `p`'s block `b` of the result starts, in the kernel's words. -/
def outOff (b : Fin 2) (i : grid0.Coords) (p : Fin k0_t2_loop.trips) : Fin 5 → Nat :=
  match b with
  | 0 => k0_off70 i p
  | 1 => k0_off136 i p

theorem outOff_inb (b : Fin 2) (i : grid0.Coords) (p : Fin k0_t2_loop.trips) : ∀ a, outOff b i p a + S1x8x1x8x128.size a ≤ S200x8x32x8x128.size a :=
  match b with
  | 0 => k0_off70_inb i p
  | 1 => k0_off136_inb i p

theorem half_inb (b : Fin 2) : ∀ a, (![b.val, 0, 0, 0] : Fin 4 → Nat) a + S1x8x8x128.size a ≤ S2x8x8x128.size a := by
  revert b; decide

/-- Staging buffer `b`. -/
abbrev half (b : Fin 2) : Memref sig .scVector .vmem S8x8x128 .f32 :=
  (stageV.slice (Rect.unit (s := S2x8x8x128) ![b.val, 0, 0, 0] S1x8x8x128.size (half_inb b)) (fun _ => rfl)).squeeze S8x8x128 squeezes_S1x8x8x128_S8x8x128

/-- Pair `p`'s block `b` of the result. -/
abbrev block (b : Fin 2) (i : grid0.Coords) (p : Fin k0_t2_loop.trips) : Memref sig .scVector .hbm S8x8x128 .f32 :=
  (outA.slice (Rect.unit (s := S200x8x32x8x128) (outOff b i p) S1x8x1x8x128.size (outOff_inb b i p)) (fun _ => rfl)).squeeze S8x8x128 squeezes_S1x8x1x8x128_S8x8x128

/-- The semaphore buffer `b`'s copies complete on. -/
abbrev outSem (b : Fin 2) : DmaSems sig S_ :=
  match b with
  | 0 => cc0_scratch4
  | 1 => cc0_scratch5

/-- Send staging buffer `b` to its block of the result. -/
def sendStep (i : grid0.Coords) (b : Fin 2) (p : Fin k0_t2_loop.trips) : TileProg F i Unit :=
  Prog.lift (.enqueueDma (half b) (.here (block b i p)) (.dma (outSem b).sem) ((View.wordExact_bits rfl).reshape _ _) ((View.wordExact_bits rfl).reshape _ _) ⟨Or.inl rfl, trivial⟩)

/-- Wait for that send. -/
def sentStep (i : grid0.Coords) (b : Fin 2) (p : Fin k0_t2_loop.trips) : TileProg F i Unit :=
  Prog.lift (.waitDma2 (outSem b).sem (half b) (block b i p) ((View.wordExact_bits rfl).reshape _ _) ((View.wordExact_bits rfl).reshape _ _))

theorem trips_t3 : k0_t3_loop.trips = 8 := by decide +kernel
theorem trips_t4 : k0_t4_loop.trips = 8 := by decide +kernel

/-- One pair of blocks: fill and send each staging buffer, then wait for both sends. -/
def pairTrip (i : grid0.Coords) (p : Fin k0_t2_loop.trips) : TileProg F i Unit := do
  Scf.Loop.for k0_t3_loop k0_t3_ok ⟨⟩ (fun t _ => fillTrip i 0 p (t.cast trips_t3))
  sendStep i 0 p
  Scf.Loop.for k0_t4_loop k0_t4_ok ⟨⟩ (fun t _ => fillTrip i 1 p (t.cast trips_t4))
  sendStep i 1 p
  sentStep i 0 p
  sentStep i 1 p
  pure ⟨⟩

/-- A tile's whole body. -/
def tileProg (i : grid0.Coords) : TileProg F i Unit := do
  steps (fun k => issueStep i (Fin.ofNat 26 k)) 26 0
  Prog.lift (.enqueueDma tabA (.here tabV) (.dma cc0_scoped0.sem) (Memref.isWhole_whole _).wordExact (Memref.isWhole_whole _).wordExact ⟨Or.inl rfl, trivial⟩)
  Prog.lift (.waitDma2 cc0_scoped0.sem tabA tabV (Memref.isWhole_whole _).wordExact (Memref.isWhole_whole _).wordExact)
  steps (fun k => awaitStep i (Fin.ofNat 26 k)) 26 0
  Scf.Loop.for k0_t1_loop k0_t1_ok ⟨⟩ (fun k _ => steps (fun j => binStep i k (Fin.ofNat 64 j)) 64 0)
  Scf.Loop.for k0_t2_loop k0_t2_ok ⟨⟩ (fun p _ => pairTrip i p)
  pure ⟨⟩

/-- The printed body at the arrays and scratch it is called with. -/
abbrev printed (i : grid0.Coords) : TileProg F i Unit :=
  cc0__sc_body i tsA (Memref.isWhole_whole _) tabA (Memref.isWhole_whole _) outA (Memref.isWhole_whole _) tsV (Memref.isWhole_whole _) posV (Memref.isWhole_whole _) tabV (Memref.isWhole_whole _) stageV (Memref.isWhole_whole _) cc0_scratch4 cc0_scratch5 cc0_scratch6 cc0_scoped0

theorem t1_eq (i : grid0.Coords) :
    k0_t1_body (F := F) i tsA (Memref.isWhole_whole _) tabA (Memref.isWhole_whole _) outA (Memref.isWhole_whole _) tsV (Memref.isWhole_whole _) posV (Memref.isWhole_whole _) tabV (Memref.isWhole_whole _) stageV (Memref.isWhole_whole _) cc0_scratch4 cc0_scratch5 cc0_scratch6 cc0_scoped0
      = fun k _ => steps (fun j => binStep i k (Fin.ofNat 64 j)) 64 0 := by
  rfl

theorem t3_eq (i : grid0.Coords) (v20 v21 w0 w1 : BitVec 32) (p : Fin k0_t2_loop.trips) (v327 v330 : BitVec 32) :
    k0_t3_body (F := F) i tsA (Memref.isWhole_whole _) tabA (Memref.isWhole_whole _) outA (Memref.isWhole_whole _) tsV (Memref.isWhole_whole _) posV (Memref.isWhole_whole _) tabV (Memref.isWhole_whole _) stageV (Memref.isWhole_whole _) cc0_scratch4 cc0_scratch5 cc0_scratch6 cc0_scoped0 v20 v21 w0 w1 p v327 v330
      = fun t _ => fillTrip i 0 p (t.cast trips_t3) := by
  rfl

theorem t4_eq (i : grid0.Coords) (v20 v21 : BitVec 32) (p : Fin k0_t2_loop.trips) (v327 v330 v343 : BitVec 32) :
    k0_t4_body (F := F) i tsA (Memref.isWhole_whole _) tabA (Memref.isWhole_whole _) outA (Memref.isWhole_whole _) tsV (Memref.isWhole_whole _) posV (Memref.isWhole_whole _) tabV (Memref.isWhole_whole _) stageV (Memref.isWhole_whole _) cc0_scratch4 cc0_scratch5 cc0_scratch6 cc0_scoped0 v20 v21 p v327 v330 v343
      = fun t _ => fillTrip i 1 p (t.cast trips_t4) := by
  rfl

theorem t2_eq (i : grid0.Coords) (v20 v21 : BitVec 32) :
    k0_t2_body (F := F) i tsA (Memref.isWhole_whole _) tabA (Memref.isWhole_whole _) outA (Memref.isWhole_whole _) tsV (Memref.isWhole_whole _) posV (Memref.isWhole_whole _) tabV (Memref.isWhole_whole _) stageV (Memref.isWhole_whole _) cc0_scratch4 cc0_scratch5 cc0_scratch6 cc0_scoped0 v20 v21
      = fun p _ => pairTrip i p := by
  funext p x
  unfold k0_t2_body
  rw [k0_part74_eq_skeleton, k0_part75_eq_skeleton]
  unfold k0_part74_skel k0_part75_skel
  simp only [t3_eq, t4_eq, bind_assoc, pure_bind]
  rfl

theorem printed_eq (i : grid0.Coords) : printed (F := F) i = tileProg i := by
  unfold printed
  rw [cc0__sc_body_eq_skeleton]
  unfold cc0__sc_body_skel
  rw [k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
  unfold k0_part76_skel k0_part77_skel k0_part78_skel k0_part79_skel k0_part80_skel k0_part81_skel k0_part82_skel k0_part83_skel k0_part84_skel
  simp only [t1_eq, t2_eq, bind_assoc, pure_bind]
  rfl

end Cert.Proof

end
-- ==== Proof.Offsets.lean ====
/-
  Where each of a tile's accesses lies, as plain numbers: the kernel computes its offsets in 32-bit words from its
  coordinates and loop counters; here each is the number the words hold.
-/
module

public import proofs.«01_k».proof.Proof.Unroll

@[expose] public section

noncomputable section

namespace Cert.Proof

open Cert.KernelIdeal Cert.KernelIdeal.Gen
open Idealize.ShloMosaic Idealize.SL.Sem

/-- A tile's number: twice its subcore plus its SparseCore. -/
def wid (i : grid0.Coords) : ℕ := 2 * (i 1).val + (i 0).val
/-- The first row a tile's results come from: its group's number times 25. -/
def row₀ (i : grid0.Coords) : ℕ := 25 * (wid i / 4)
/-- Which quarter of each row a tile works on. -/
def quarter (i : grid0.Coords) : ℕ := wid i % 4

theorem wid_lt (i : grid0.Coords) : wid i < 32 := by
  have h0 : (i 0).val < 2 := (i 0).isLt
  have h1 : (i 1).val < 16 := (i 1).isLt
  unfold wid; omega

/-- The coordinates with the given SparseCore and subcore. -/
def coords (c : Fin 2) (s : Fin 16) : grid0.Coords := fun
  | 0 => c
  | 1 => s
  | ⟨_ + 2, h⟩ => absurd h (Nat.not_lt.2 (Nat.le_add_left _ _))

theorem trips_t1 : k0_t1_loop.trips = 25 := by decide +kernel
theorem trips_t2 : k0_t2_loop.trips = 100 := by decide +kernel

theorem rowOff_eq (i : grid0.Coords) (r : Fin 26) :
    k0_off1 i (BitVec.ofNat 32 r.val) = ![(row₀ i + r.val) * 4096 + 1024 * quarter i] := by
  have h : ∀ (c : Fin 2) (s : Fin 16) (r : Fin 26),
      k0_off1 (coords c s) (BitVec.ofNat 32 r.val) = ![(row₀ (coords c s) + r.val) * 4096 + 1024 * quarter (coords c s)] := by
    decide +kernel
  exact h (i 0) (i 1) r

theorem posOff_eq (b : Fin 2) (p : Fin k0_t2_loop.trips) (t : Fin 8) :
    posOff b p t = ![1024 * (p.val / 4) + 128 * (2 * (p.val % 4) + b.val) + 16 * t.val] := by
  have h : ∀ (b : Fin 2) (p : Fin k0_t2_loop.trips) (t : Fin 8),
      posOff b p t = ![1024 * (p.val / 4) + 128 * (2 * (p.val % 4) + b.val) + 16 * t.val] := by
    decide +kernel
  exact h b p t

theorem outOff_eq (b : Fin 2) (i : grid0.Coords) (p : Fin k0_t2_loop.trips) :
    outOff b i p = ![row₀ i + p.val / 4, 0, 8 * quarter i + 2 * (p.val % 4) + b.val, 0, 0] := by
  have h : ∀ (b : Fin 2) (c : Fin 2) (s : Fin 16) (p : Fin k0_t2_loop.trips),
      outOff b (coords c s) p = ![row₀ (coords c s) + p.val / 4, 0, 8 * quarter (coords c s) + 2 * (p.val % 4) + b.val, 0, 0] := by
    decide +kernel
  exact h b (i 0) (i 1) p

end Cert.Proof

end
-- ==== Proof.Values.lean ====
/-
  What every buffer of the kernel holds when it is done, as functions of the flat timestamps and the flat table.
-/
module

public import proofs.«01_k».proof.Proof.Offsets
public import Idealize.ShloMosaic.Lib.ValueLayout

@[expose] public section

noncomputable section

namespace Cert.Proof

open Cert.KernelIdeal Cert.KernelIdeal.Gen
open Idealize.ShloMosaic Idealize.ShloMosaic.ValueIdx Idealize.SL.Sem

variable {F : FTy → Type} [FloatOps F]

/-- The bin of the step from timestamp `a` to timestamp `b`: the difference times 100, truncated and clamped to 0..100. -/
def bin (a b : F .f32) : BitVec 32 :=
  IntOp.minsi (IntOp.maxsi (FloatOps.fptosi 32 (FloatOps.mulf (FloatOps.subf b a) (Scalar.ofBits .f32 0x42C80000#32))) 0#32) 100#32

/-- The bin's first position in the table of 65 words a bin. -/
def pos (a b : F .f32) : BitVec 32 := IntOp.muli (bin a b) 65#32

theorem pay1_apply (cur nxt : Vec F S16 .f32) (x : S16.Idx) : k0_pay1 cur nxt x = pos (cur x) (nxt x) := rfl

theorem clamp_le (v : BitVec 32) : (IntOp.minsi (IntOp.maxsi v 0#32) 100#32).toNat ≤ 100 := by
  have hv := v.isLt
  have h0 : (0#32 : BitVec 32).toInt = 0 := rfl
  have h1 : (100#32 : BitVec 32).toInt = 100 := rfl
  have h2 : (0#32 : BitVec 32).toNat = 0 := rfl
  have h3 : (100#32 : BitVec 32).toNat = 100 := rfl
  have hi := BitVec.toInt_eq_toNat_cond v
  have hw : ∀ w : BitVec 32, 0 ≤ w.toInt → (w.toNat : ℤ) = w.toInt := by
    intro w hw
    have := BitVec.toInt_eq_toNat_cond w
    have := w.isLt
    split at * <;> omega
  have hmax : 0 ≤ (IntOp.maxsi v 0#32).toInt := by
    unfold IntOp.maxsi
    split
    · rename_i h; rw [BitVec.slt_iff_toInt_lt] at h; omega
    · omega
  have := hw _ hmax
  unfold IntOp.minsi
  split
  · rename_i h; rw [BitVec.slt_iff_toInt_lt] at h; omega
  · omega

theorem bin_le (a b : F .f32) : (bin a b).toNat ≤ 100 := clamp_le _

theorem pos_toNat (a b : F .f32) : (pos a b).toNat = 65 * (bin a b).toNat := by
  have := bin_le a b
  unfold pos IntOp.muli
  rw [BitVec.toNat_mul]
  have h : (65#32 : BitVec 32).toNat = 65 := rfl
  rw [h]; omega

/-- The flat timestamps by number. -/
def tsN (ts : Vec F S823296 .f32) (n : ℕ) : F .f32 := ts (ix1 ⟨n % 823296, Nat.mod_lt _ (by decide)⟩)
/-- The flat table by number. -/
def tabN (tab : Vec F S6565 .f32) (n : ℕ) : F .f32 := tab (ix1 ⟨n % 6565, Nat.mod_lt _ (by decide)⟩)

theorem tsN_of (ts : Vec F S823296 .f32) (x : S823296.Idx) {n : ℕ} (h : (x 0).val = n) : ts x = tsN ts n := by
  have hx : (x 0).val < 823296 := (x 0).isLt
  subst h
  unfold tsN
  congr 1
  funext a
  fin_cases a
  exact Fin.ext (Nat.mod_eq_of_lt hx).symm

theorem tabN_of (tab : Vec F S6565 .f32) (x : S6565.Idx) {n : ℕ} (h : (x 0).val = n) : tab x = tabN tab n := by
  have hx : (x 0).val < 6565 := (x 0).isLt
  subst h
  unfold tabN
  congr 1
  funext a
  fin_cases a
  exact Fin.ext (Nat.mod_eq_of_lt hx).symm

/-- A tile's timestamps by number: 26 rows of 1024. -/
def tileN (i : grid0.Coords) (ts : Vec F S823296 .f32) (n : ℕ) : F .f32 :=
  tsN ts ((row₀ i + n / 1024) * 4096 + 1024 * quarter i + n % 1024)
/-- A tile's table positions by number: 25 rows of 1024. -/
def posN (i : grid0.Coords) (ts : Vec F S823296 .f32) (n : ℕ) : BitVec 32 := pos (tileN i ts n) (tileN i ts (n + 1024))

/-- A tile's copy of its timestamps. -/
def tileTs (i : grid0.Coords) (ts : Vec F S823296 .f32) : Vec F S26624 .f32 := fun x => tileN i ts (x 0).val
/-- A tile's table positions. -/
def tilePos (i : grid0.Coords) (ts : Vec F S823296 .f32) : Vec F S25600 .i32 := fun x => posN i ts (x 0).val
/-- What pair `p` sends: buffer `b` holds block `b`'s features, laid out as eight by eight features by 128 samples. -/
def staged (i : grid0.Coords) (ts : Vec F S823296 .f32) (tab : Vec F S6565 .f32) (p : ℕ) : Vec F S2x8x8x128 .f32 := fun y =>
  tabN tab ((posN i ts (1024 * (p / 4) + 128 * (2 * (p % 4) + (y 0).val) + (y 3).val)).toNat + (8 * (y 1).val + (y 2).val))
/-- The kernel's result: at row `l`, sample `128·bt + bl` and feature `8·dq + dr`, the table's word for the sample's bin. -/
def result (ts : Vec F S823296 .f32) (tab : Vec F S6565 .f32) : Vec F S200x8x32x8x128 .f32 := fun z =>
  tabN tab ((pos (tsN ts ((z 0).val * 4096 + (128 * (z 2).val + (z 4).val))) (tsN ts (((z 0).val + 1) * 4096 + (128 * (z 2).val + (z 4).val)))).toNat
    + (8 * (z 1).val + (z 3).val))

theorem spread (R Q p b x : ℕ) : R * 4096 + (128 * (8 * Q + 2 * p + b) + x) = R * 4096 + 1024 * Q + (128 * (2 * p + b) + x) := by omega

/-- What a block of the result holds is what its staging buffer holds. -/
theorem result_staged (i : grid0.Coords) (ts : Vec F S823296 .f32) (tab : Vec F S6565 .f32) (p : ℕ) (z : S200x8x32x8x128.Idx) (y : S2x8x8x128.Idx)
    (h0 : (z 0).val = row₀ i + p / 4) (h2 : (z 2).val = 8 * quarter i + 2 * (p % 4) + (y 0).val) (h1 : (z 1).val = (y 1).val) (h3 : (z 3).val = (y 2).val)
    (h4 : (z 4).val = (y 3).val) : result ts tab z = staged i ts tab p y := by
  have hy0 : (y 0).val < 2 := (y 0).isLt
  have hy3 : (y 3).val < 128 := (y 3).isLt
  unfold result staged posN tileN
  rw [h0, h2, h1, h3, h4]
  generalize row₀ i = R
  generalize quarter i = Q
  generalize (y 0).val = b at *
  generalize (y 3).val = x at *
  have e1 : 1024 * (p / 4) + 128 * (2 * (p % 4) + b) + x = 1024 * (p / 4) + (128 * (2 * (p % 4) + b) + x) := by omega
  have e2 : (1024 * (p / 4) + 128 * (2 * (p % 4) + b) + x) / 1024 = p / 4 := by omega
  have e3 : (1024 * (p / 4) + 128 * (2 * (p % 4) + b) + x) % 1024 = 128 * (2 * (p % 4) + b) + x := by omega
  have e4 : (1024 * (p / 4) + 128 * (2 * (p % 4) + b) + x + 1024) / 1024 = p / 4 + 1 := by omega
  have e5 : (1024 * (p / 4) + 128 * (2 * (p % 4) + b) + x + 1024) % 1024 = 128 * (2 * (p % 4) + b) + x := by omega
  rw [e2, e3, e4, e5]
  rw [spread, spread, Nat.add_assoc R]

/-! ## Writing what is wanted -/

/-- A write of what `G` holds there leaves `G` wherever the view lies, and wherever `G` was held before. -/
theorem write_read {σ' : RefSig} {κ : Kind} {sp : Space} {s : Shape} {e : EltTy} {Val : EltTy → Type} (v : View σ' κ sp s e) (f G : v.ty.Contents Val) (w : s.Idx → Val e)
    (hw : ∀ x, w x = v.read Val G x) (y : v.ty.Idx) (hy : y ∈ v.set ∨ f y = G y) : v.write Val f w Finset.univ y = G y := by
  have hw' : w = v.read Val G := funext hw
  subst hw'
  by_cases h : y ∈ v.set
  · obtain ⟨x, -, rfl⟩ := Finset.mem_map.1 h
    rw [View.write_emb_of_mem _ _ (Finset.mem_univ x), View.read_apply, cast_cast, cast_eq]
  · rw [View.write_of_not_mem _ _ _ h]
    exact hy.resolve_left h

/-! ## Where the views lie -/

theorem rowSrc_emb (i : grid0.Coords) (r : Fin 26) (x : S1024.Idx) :
    ((rowSrc i r).view.emb x 0).val = (row₀ i + r.val) * 4096 + 1024 * quarter i + (x 0).val := by
  have h : ((rowSrc i r).view.emb x 0).val = k0_off1 i (BitVec.ofNat 32 r.val) 0 + 1 * (x 0).val := rfl
  rw [h, rowOff_eq]; simp

theorem rowDst_emb (r : Fin 26) (x : S1024.Idx) : ((rowDst r).view.emb x 0).val = 1024 * r.val + (x 0).val := by
  have h : ((rowDst r).view.emb x 0).val = 1024 * r.val + 1 * (x 0).val := rfl
  rw [h]; simp

theorem half_emb (b : Fin 2) (x : S8x8x128.Idx) :
    ((half b).view.emb x 0).val = b.val ∧ ((half b).view.emb x 1).val = (x 0).val ∧ ((half b).view.emb x 2).val = (x 1).val ∧ ((half b).view.emb x 3).val = (x 2).val := by
  have h : ∀ a, ((half b).view.emb x a).val = (![b.val, 0, 0, 0] : Fin 4 → ℕ) a
      + 1 * (Shape.reshapeEquiv (s := S1x8x8x128) (s' := S8x8x128) squeezes_S1x8x8x128_S8x8x128.numel_eq x a).val := fun a => rfl
  have hx : Shape.reshapeEquiv (s := S1x8x8x128) (s' := S8x8x128) squeezes_S1x8x8x128_S8x8x128.numel_eq x = ix4 (⟨0, Nat.one_pos⟩ : Fin 1) (x 0) (x 1) (x 2) :=
    (congrArg _ (eq_ix3 (n0 := 8) (n1 := 8) (n2 := 128) x)).trans (reshapeEquiv_ix3_1abc _ _ _ _)
  rw [hx] at h
  refine ⟨?_, ?_, ?_, ?_⟩
  · rw [h 0]; show b.val + 1 * 0 = b.val; omega
  · rw [h 1]; show 0 + 1 * (x 0).val = (x 0).val; omega
  · rw [h 2]; show 0 + 1 * (x 1).val = (x 1).val; omega
  · rw [h 3]; show 0 + 1 * (x 2).val = (x 2).val; omega

theorem block_emb (b : Fin 2) (i : grid0.Coords) (p : Fin k0_t2_loop.trips) (x : S8x8x128.Idx) :
    ((block b i p).view.emb x 0).val = row₀ i + p.val / 4 ∧ ((block b i p).view.emb x 1).val = (x 0).val
      ∧ ((block b i p).view.emb x 2).val = 8 * quarter i + 2 * (p.val % 4) + b.val ∧ ((block b i p).view.emb x 3).val = (x 1).val
      ∧ ((block b i p).view.emb x 4).val = (x 2).val := by
  have h : ∀ a, ((block b i p).view.emb x a).val = outOff b i p a
      + 1 * (Shape.reshapeEquiv (s := S1x8x1x8x128) (s' := S8x8x128) squeezes_S1x8x1x8x128_S8x8x128.numel_eq x a).val := fun a => rfl
  have hx : Shape.reshapeEquiv (s := S1x8x1x8x128) (s' := S8x8x128) squeezes_S1x8x1x8x128_S8x8x128.numel_eq x
      = ix5 (⟨0, Nat.one_pos⟩ : Fin 1) (x 0) (⟨0, Nat.one_pos⟩ : Fin 1) (x 1) (x 2) :=
    (congrArg _ (eq_ix3 (n0 := 8) (n1 := 8) (n2 := 128) x)).trans (reshapeEquiv_ix3_1a1bc _ _ _ _)
  rw [hx, outOff_eq] at h
  refine ⟨?_, ?_, ?_, ?_, ?_⟩
  · rw [h 0]; show row₀ i + p.val / 4 + 1 * 0 = row₀ i + p.val / 4; simp
  · rw [h 1]; show 0 + 1 * (x 0).val = (x 0).val; omega
  · rw [h 2]; show 8 * quarter i + 2 * (p.val % 4) + b.val + 1 * 0 = _; simp
  · rw [h 3]; show 0 + 1 * (x 1).val = (x 1).val; omega
  · rw [h 4]; show 0 + 1 * (x 2).val = (x 2).val; omega

theorem mem_rowSrc (i : grid0.Coords) (r : Fin 26) (y : S823296.Idx) :
    y ∈ (rowSrc i r).view.set ↔ (row₀ i + r.val) * 4096 + 1024 * quarter i ≤ (y 0).val ∧ (y 0).val < (row₀ i + r.val) * 4096 + 1024 * quarter i + 1024 := by
  have h : (rowSrc i r).view.set = (Rect.unit (s := S823296) (k0_off1 i (BitVec.ofNat 32 r.val)) S1024.size (k0_off1_inb i r)).set := View.set_slice_whole _ _
  rw [h, Rect.mem_set_unit, rowOff_eq]
  exact ⟨fun h => h 0, fun h a => by fin_cases a; exact h⟩

theorem mem_rowDst (r : Fin 26) (y : S26624.Idx) : y ∈ (rowDst r).view.set ↔ 1024 * r.val ≤ (y 0).val ∧ (y 0).val < 1024 * r.val + 1024 := by
  have h : (rowDst r).view.set = (Rect.unit (s := S26624) ![1024 * r.val] S1024.size (row_inb r)).set := View.set_slice_whole _ _
  rw [h, Rect.mem_set_unit]
  exact ⟨fun h => h 0, fun h a => by fin_cases a; exact h⟩

theorem mem_half (b : Fin 2) (y : S2x8x8x128.Idx) : y ∈ (half b).view.set ↔ (y 0).val = b.val := by
  have h : (half b).view.set = (Rect.unit (s := S2x8x8x128) ![b.val, 0, 0, 0] S1x8x8x128.size (half_inb b)).set :=
    (View.set_reshape _ _).trans (View.set_slice_whole _ _)
  rw [h, Rect.mem_set_unit]
  constructor
  · intro h; have h0 := h 0
    have h1 : b.val ≤ (y 0).val ∧ (y 0).val < b.val + 1 := h0
    omega
  · intro h a
    have h1 : (y 1).val < 8 := (y 1).isLt
    have h2 : (y 2).val < 8 := (y 2).isLt
    have h3 : (y 3).val < 128 := (y 3).isLt
    fin_cases a
    · show b.val ≤ (y 0).val ∧ (y 0).val < b.val + 1; omega
    · show 0 ≤ (y 1).val ∧ (y 1).val < 0 + 8; omega
    · show 0 ≤ (y 2).val ∧ (y 2).val < 0 + 8; omega
    · show 0 ≤ (y 3).val ∧ (y 3).val < 0 + 128; omega

theorem mem_block (b : Fin 2) (i : grid0.Coords) (p : Fin k0_t2_loop.trips) (z : S200x8x32x8x128.Idx) :
    z ∈ (block b i p).view.set ↔ (z 0).val = row₀ i + p.val / 4 ∧ (z 2).val = 8 * quarter i + 2 * (p.val % 4) + b.val := by
  have h : (block b i p).view.set = (Rect.unit (s := S200x8x32x8x128) (outOff b i p) S1x8x1x8x128.size (outOff_inb b i p)).set :=
    (View.set_reshape _ _).trans (View.set_slice_whole _ _)
  rw [h, Rect.mem_set_unit, outOff_eq]
  constructor
  · intro h
    have h1 : row₀ i + p.val / 4 ≤ (z 0).val ∧ (z 0).val < row₀ i + p.val / 4 + 1 := h 0
    have h2 : 8 * quarter i + 2 * (p.val % 4) + b.val ≤ (z 2).val ∧ (z 2).val < 8 * quarter i + 2 * (p.val % 4) + b.val + 1 := h 2
    omega
  · intro h a
    have h1 : (z 1).val < 8 := (z 1).isLt
    have h2 : (z 3).val < 8 := (z 3).isLt
    have h3 : (z 4).val < 128 := (z 4).isLt
    fin_cases a
    · show row₀ i + p.val / 4 ≤ (z 0).val ∧ (z 0).val < row₀ i + p.val / 4 + 1; omega
    · show 0 ≤ (z 1).val ∧ (z 1).val < 0 + 8; omega
    · show 8 * quarter i + 2 * (p.val % 4) + b.val ≤ (z 2).val ∧ (z 2).val < 8 * quarter i + 2 * (p.val % 4) + b.val + 1; omega
    · show 0 ≤ (z 3).val ∧ (z 3).val < 0 + 8; omega
    · show 0 ≤ (z 4).val ∧ (z 4).val < 0 + 128; omega

end Cert.Proof

end
-- ==== Proof.Setup.lean ====
/-
  The machine's side of the proof: the program as the launch theorem sees it, the resource algebra, and the rule for a
  run of numbered steps.
-/
module

public import proofs.«01_k».proof.Defs
public import proofs.«01_k».proof.Proof.Values
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof

open Cert.KernelIdeal Cert.KernelIdeal.Gen
open Idealize.ShloMosaic Idealize.ShloMosaic.Rounds Idealize.ShloMosaic.ValueIdx
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

abbrev ΛP : Labels := Pipeline.Sig Λ₀ (Fin 0) fun p => (pcfgs (F := F) p).Adm
/-- The program's SparseCore calls. -/
abbrev K : SparseCore.Cfg τ sig (ΛP (F := F)) 1 := sc (F := F)
/-- The program's kernels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' record. -/
abbrev UH : Type := URounds (GSem nD τ sig) ℕ
/-- The handshakes' record beside the transfers' counters. -/
abbrev UU : Type := UH × Counters

/-- The machine's resources. -/
abbrev MM (F : FTy → Type) : Type := MT nD τ sig (HIx 1) (Elt F) ℕ UU ℕ

abbrev EH : Emb UH (MM F) := embL
abbrev EC : UEmb Counters (MM F) := countersEmb

/-- A tile's thread. -/
abbrev th (d : Dev nD) (i : grid0.Coords) : Thread nD τ := (d, tileProc i)

/-- A run of numbered steps keeps what every step advances. -/
theorem wp_steps [FloatOps F] {d : Dev nD} {i : grid0.Coords} (step : ℕ → TileProg F i Unit) (I : ℕ → sProp (MM F)) (N : ℕ)
    (h : ∀ k, k < N → I k ⊢ wp frame (wpE (defs₀ (F := F)) 𝒱₀ (th d i) none) Set.univ (step k) fun _ => I (k + 1)) :
    ∀ n k, k + n ≤ N → I k ⊢ wp frame (wpE (defs₀ (F := F)) 𝒱₀ (th d i) none) Set.univ (steps step n k) fun _ => I (k + n)
  | 0, k, _ => by
    show _ ⊢ wp _ _ _ (pure _) _
    rw [wp_pure]
    exact fupd_intro
  | n + 1, k, hk => by
    show _ ⊢ wp _ _ _ (step k >>= fun _ => steps step n (k + 1)) _
    rw [wp_bind]
    have e : k + (n + 1) = k + 1 + n := by omega
    rw [e]
    exact (h k (by omega)).trans (wp_mono _ _ _ fun _ => wp_steps step I N h n (k + 1) (by omega))

end Cert.Proof

end
-- ==== Proof.Binning.lean ====
/-
  The binning loop: a tile turns its 26 rows of timestamps into 25 rows of table positions.
-/
module

public import proofs.«01_k».proof.Proof.Setup

@[expose] public section

noncomputable section

namespace Cert.Proof

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A tile's timestamps held in its copy. -/
@[irreducible] def tsHeld (d : Dev nD) (i : grid0.Coords) (ts : Vec F S823296 .f32) : sProp (MM F) :=
  tsV.view.loc (th d i) ↦{fullShare} (tileTs i ts : Buf (Elt F) (tsV.view.loc (th d i)))

/-- The first `n` of a tile's table positions held in its buffer. -/
@[irreducible] def posHeld (d : Dev nD) (i : grid0.Coords) (ts : Vec F S823296 .f32) (n : ℕ) : sProp (MM F) :=
  iprop(∃ g : Buf (Elt F) (posV.view.loc (th d i)), ⌜∀ y : S25600.Idx, (y 0).val < n → g y = tilePos i ts y⌝ ∗ posV.view.loc (th d i) ↦{fullShare} g)

/-- The rectangle of chunk `j` of row `k`. -/
abbrev binRect (k : Fin k0_t1_loop.trips) (j : Fin 64) : Rect S25600 :=
  Rect.unit (s := S25600) (k0_off4 k (BitVec.ofNat 32 (16 * j.val))) S16.size (k0_off4_inb k j)

theorem binRect_idx (k : Fin k0_t1_loop.trips) (j : Fin 64) (x : S16.Idx) : ((binRect k j).emb x 0).val = 1024 * k.val + 16 * j.val + (x 0).val := by
  have h : ((binRect k j).emb x 0).val = k0_off4 k (BitVec.ofNat 32 (16 * j.val)) 0 + 1 * (x 0).val := rfl
  rw [h, k0_off4_eq]
  show 1024 * k.val + 16 * j.val + 1 * (x 0).val = _
  omega

theorem bin_stored (i : grid0.Coords) (ts : Vec F S823296 .f32) (k : Fin k0_t1_loop.trips) (j : Fin 64) (g : Vec F S25600 .i32)
    (hg : ∀ y : S25600.Idx, (y 0).val < 1024 * k.val + 16 * j.val → g y = tilePos i ts y) (y : S25600.Idx) (hy : (y 0).val < 1024 * k.val + 16 * (j.val + 1)) :
    (posV.access (binRect k j)).write (Elt F) g
      (k0_pay1 (tsV.view.readAt (Elt F) (Rect.unit (s := S26624) (k0_off2 k (BitVec.ofNat 32 (16 * j.val))) S16.size (k0_off2_inb k j)).toLoadRect (tileTs i ts))
        (tsV.view.readAt (Elt F) (Rect.unit (s := S26624) (k0_off3 k (BitVec.ofNat 32 (16 * j.val))) S16.size (k0_off3_inb k j)).toLoadRect (tileTs i ts)))
      Finset.univ y = tilePos i ts y := by
  refine write_read (posV.access (binRect k j)) g (tilePos i ts) _ (fun x => ?_) y ?_
  · rw [pay1_apply]
    show pos (tileTs i ts _) (tileTs i ts _) = posN i ts ((binRect k j).emb x 0).val
    rw [binRect_idx]
    unfold posN tileTs
    congr 2
    · show k0_off2 k (BitVec.ofNat 32 (16 * j.val)) 0 + 1 * (x 0).val = _
      rw [k0_off2_eq]
      show 1024 * k.val + 16 * j.val + 1 * (x 0).val = _
      omega
    · show k0_off3 k (BitVec.ofNat 32 (16 * j.val)) 0 + 1 * (x 0).val = _
      rw [k0_off3_eq]
      show 1024 * k.val + 16 * j.val + 1024 + 1 * (x 0).val = _
      omega
  · by_cases h : (y 0).val < 1024 * k.val + 16 * j.val
    · exact Or.inr (hg y h)
    · refine Or.inl ?_
      have hs : (posV.access (binRect k j)).set = (binRect k j).set := View.set_slice_whole _ _
      rw [hs, Rect.mem_set_unit, k0_off4_eq]
      intro a
      fin_cases a
      show 1024 * k.val + 16 * j.val ≤ (y 0).val ∧ (y 0).val < 1024 * k.val + 16 * j.val + 16
      omega

theorem wp_binStep (d : Dev nD) (i : grid0.Coords) (ts : Vec F S823296 .f32) (k : Fin k0_t1_loop.trips) (j : Fin 64) :
    iprop(tsHeld d i ts ∗ posHeld d i ts (1024 * k.val + 16 * j.val))
      ⊢ wp frame (wpE (defs₀ (F := F)) 𝒱₀ (th d i) none) Set.univ (binStep i k j) fun _ => iprop(tsHeld d i ts ∗ posHeld d i ts (1024 * k.val + 16 * (j.val + 1))) := by
  unfold binStep tsHeld posHeld
  simp only [Prog.lift, Prog.bind_op, Prog.bind_ret, Prog.pure_eq_ret]
  iintro ⟨Hts, %g, %hg, Hpos⟩
  iapply (wp_load 𝒱₀ (th d i) none Set.univ (m := tsV) (S := Finset.univ) (Finset.subset_univ _)) $$ Hts; iintro Hts
  iapply (wp_load 𝒱₀ (th d i) none Set.univ (m := tsV) (S := Finset.univ) (Finset.subset_univ _)) $$ Hts; iintro Hts
  iapply (wp_load 𝒱₀ (th d i) none Set.univ (m := posV) (S := Finset.univ) (Finset.subset_univ _)) $$ Hpos; iintro Hpos
  iapply (wp_store 𝒱₀ (th d i) none Set.univ (m := posV) (r := binRect k j) (Mk := Finset.univ) (S := Finset.univ) (Finset.subset_univ _)) $$ Hpos; iintro Hpos
  rw [wp_ret]; imodintro
  isplitl [Hts]; · iexact Hts
  iexists _
  isplitr; swap
  · iexact Hpos
  · ipureintro
    exact bin_stored i ts k j g hg

/-- One trip of the loop: a row of table positions. -/
theorem wp_binTrip (d : Dev nD) (i : grid0.Coords) (ts : Vec F S823296 .f32) (k : Fin k0_t1_loop.trips) :
    iprop(tsHeld d i ts ∗ posHeld d i ts (1024 * k.val))
      ⊢ wp frame (wpE (defs₀ (F := F)) 𝒱₀ (th d i) none) Set.univ (steps (fun j => binStep i k (Fin.ofNat 64 j)) 64 0 : TileProg F i Unit)
          fun _ => iprop(tsHeld d i ts ∗ posHeld d i ts (1024 * (k.val + 1))) := by
  have h := wp_steps (d := d) (fun j => binStep (F := F) i k (Fin.ofNat 64 j)) (fun j => iprop(tsHeld d i ts ∗ posHeld d i ts (1024 * k.val + 16 * j))) 64 (fun j hj => by
    have h := wp_binStep d i ts k (Fin.ofNat 64 j)
    rw [show (Fin.ofNat 64 j).val = j from Nat.mod_eq_of_lt hj] at h
    exact h) 64 0 (by omega)
  beta_reduce at h
  rw [show 1024 * k.val + 16 * 0 = 1024 * k.val from by omega, show 1024 * k.val + 16 * (0 + 64) = 1024 * (k.val + 1) from by omega] at h
  with_reducible exact h

/-- The whole loop. -/
theorem wp_binLoop (d : Dev nD) (i : grid0.Coords) (ts : Vec F S823296 .f32) :
    iprop(tsHeld d i ts ∗ posHeld d i ts 0)
      ⊢ wp frame (wpE (defs₀ (F := F)) 𝒱₀ (th d i) none) Set.univ (Scf.Loop.for k0_t1_loop k0_t1_ok ⟨⟩ (fun k _ => steps (fun j => binStep i k (Fin.ofNat 64 j)) 64 0) : TileProg F i Unit)
          fun _ => iprop(tsHeld d i ts ∗ posHeld d i ts 25600) := by
  iintro H
  iapply (Scf.wp_for _ _ _ _ _ _ k0_t1_ok ⟨⟩ _ (fun k _ => iprop(tsHeld d i ts ∗ posHeld d i ts (1024 * k))) (fun k _ => by with_reducible exact wp_binTrip d i ts k))
  isplitl [H]; · iexact H
  iintro %acc H
  rw [show Scf.trips _ _ _ = 25 from trips_t1]
  iexact H

end Cert.Proof

end
-- ==== Proof.Filling.lean ====
/-
  The filling loops: a tile gathers the 64 table words of each of 128 samples into a staging buffer, feature by feature.
-/
module

public import proofs.«01_k».proof.Proof.Binning

@[expose] public section

noncomputable section

namespace Cert.Proof

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table held in a tile's copy. -/
@[irreducible] def tabHeld (d : Dev nD) (i : grid0.Coords) (tab : Vec F S6565 .f32) : sProp (MM F) :=
  tabV.view.loc (th d i) ↦{fullShare} (tab : Buf (Elt F) (tabV.view.loc (th d i)))

/-- Whether a fill has reached an element: it has done `t` chunks of sixteen samples, and `k` features of the next. -/
def reached (t k : ℕ) (y : S2x8x8x128.Idx) : Prop := (y 3).val < 16 * t ∨ ((y 3).val < 16 * (t + 1) ∧ 8 * (y 1).val + (y 2).val < k)

/-- Staging buffer `b`, pair `p`'s words held in it as far as the fill has come. -/
@[irreducible] def stageHeld (d : Dev nD) (i : grid0.Coords) (ts : Vec F S823296 .f32) (tab : Vec F S6565 .f32) (b : Fin 2) (p t k : ℕ) : sProp (MM F) :=
  iprop(∃ h : Buf (Elt F) (stageV.view.loc (th d i)), ⌜∀ y : S2x8x8x128.Idx, (y 0).val = b.val → reached t k y → h y = staged i ts tab p y⌝
    ∗ stageV.view.loc (th d i) ↦[(half b).view.set]{fullShare} h)

/-- The rectangle of feature `k`'s chunk `t`. -/
abbrev fillRect (b : Fin 2) (k : ℕ) (t : Fin 8) : Rect S2x8x8x128 :=
  Rect.unit (s := S2x8x8x128) (fillOff (BitVec.ofNat 32 b.val) k t.val) S1x1x1x16.size (fillOff_inb b k t)

theorem mem_fillRect (b : Fin 2) (k : ℕ) (t : Fin 8) (y : S2x8x8x128.Idx) :
    y ∈ (fillRect b k t).set ↔ (y 0).val = b.val ∧ (y 1).val = k / 8 % 8 ∧ (y 2).val = k % 8 ∧ 16 * t.val ≤ (y 3).val ∧ (y 3).val < 16 * t.val + 16 := by
  rw [Rect.mem_set_unit, fillOff_eq]
  constructor
  · intro h
    have h0 : b.val ≤ (y 0).val ∧ (y 0).val < b.val + 1 := h 0
    have h1 : k / 8 % 8 ≤ (y 1).val ∧ (y 1).val < k / 8 % 8 + 1 := h 1
    have h2 : k % 8 ≤ (y 2).val ∧ (y 2).val < k % 8 + 1 := h 2
    have h3 : 16 * t.val ≤ (y 3).val ∧ (y 3).val < 16 * t.val + 16 := h 3
    omega
  · rintro ⟨h0, h1, h2, h3⟩ a
    fin_cases a
    · show b.val ≤ (y 0).val ∧ (y 0).val < b.val + 1; omega
    · show k / 8 % 8 ≤ (y 1).val ∧ (y 1).val < k / 8 % 8 + 1; omega
    · show k % 8 ≤ (y 2).val ∧ (y 2).val < k % 8 + 1; omega
    · exact h3

theorem fillRect_sub (b : Fin 2) (k : ℕ) (t : Fin 8) : (fillRect b k t).set ⊆ (half b).view.set := by
  intro y hy
  exact (mem_half b y).mpr ((mem_fillRect b k t y).mp hy).1

theorem access_sub (b : Fin 2) (k : ℕ) (t : Fin 8) : (stageV.access (fillRect b k t)).setOn Finset.univ ⊆ (half b).view.set := by
  have hs : (stageV.access (fillRect b k t)).set = (fillRect b k t).set := View.set_slice_whole _ _
  rw [View.setOn_univ, hs]
  exact fillRect_sub b k t

theorem setOn_sub (b : Fin 2) (k : ℕ) (t : Fin 8) : stageV.view.setOn (fillRect b k t).toLoadRect.set ⊆ (half b).view.set := by
  have hs : (stageV.access (fillRect b k t)).set = stageV.view.setOn (fillRect b k t).toLoadRect.set := View.set_slice _ _
  rw [← hs]
  exact access_sub b k t

theorem fillRect_emb (b : Fin 2) (k : ℕ) (t : Fin 8) (x : S1x1x1x16.Idx) :
    ((fillRect b k t).emb x 0).val = b.val ∧ ((fillRect b k t).emb x 1).val = k / 8 % 8 ∧ ((fillRect b k t).emb x 2).val = k % 8
      ∧ ((fillRect b k t).emb x 3).val = 16 * t.val + (x 3).val := by
  have h : ∀ a, ((fillRect b k t).emb x a).val = fillOff (BitVec.ofNat 32 b.val) k t.val a + 1 * (x a).val := fun a => rfl
  rw [fillOff_eq] at h
  have x0 : (x 0).val < 1 := (x 0).isLt
  have x1 : (x 1).val < 1 := (x 1).isLt
  have x2 : (x 2).val < 1 := (x 2).isLt
  refine ⟨?_, ?_, ?_, ?_⟩
  · rw [h 0]; show b.val + 1 * (x 0).val = b.val; omega
  · rw [h 1]; show k / 8 % 8 + 1 * (x 1).val = k / 8 % 8; omega
  · rw [h 2]; show k % 8 + 1 * (x 2).val = k % 8; omega
  · rw [h 3]; show 16 * t.val + 1 * (x 3).val = _; omega

/-- The sixteen positions a trip reads, feature by feature. -/
theorem featIdx_toNat (i : grid0.Coords) (ts : Vec F S823296 .f32) (iv : IVec S16 32) (n k : ℕ) (hk : k < 64)
    (hiv : ∀ x : S16.Idx, iv x = posN i ts (n + (x 0).val)) (x : S16.Idx) :
    (featIdx iv k x).toNat = (posN i ts (n + (x 0).val)).toNat + k ∧ (featIdx iv k x).toNat < 6565 := by
  have h : featIdx iv k x = posN i ts (n + (x 0).val) + BitVec.ofNat 32 k := by rw [← hiv]; rfl
  have hp := pos_toNat (tileN i ts (n + (x 0).val)) (tileN i ts (n + (x 0).val + 1024))
  have hb := bin_le (tileN i ts (n + (x 0).val)) (tileN i ts (n + (x 0).val + 1024))
  rw [h, BitVec.toNat_add, BitVec.toNat_ofNat]
  unfold posN
  rw [hp, Nat.mod_eq_of_lt (show k < 2 ^ 32 by omega), Nat.mod_eq_of_lt (by omega)]
  exact ⟨rfl, by omega⟩

theorem lane_eq (x : S1x1x1x16.Idx) : Shape.reshapeEquiv (s := S16) (s' := S1x1x1x16) shapeCasts_S16_S1x1x1x16 x = (ix1 (n := 16) (x 3) : S16.Idx) := by
  have x0 : (x 0).val < 1 := (x 0).isLt
  have x1 : (x 1).val < 1 := (x 1).isLt
  have x2 : (x 2).val < 1 := (x 2).isLt
  refine Shape.reshapeEquiv_eq_of_rowMajor _ ?_
  refine (Shape.rowMajor_val_one (d := ![16]) (ix1 (n := 16) (x 3))).trans ?_
  refine Eq.trans ?_ (Shape.rowMajor_val_four (d := ![1, 1, 1, 16]) x).symm
  show (x 3).val = (((x 0).val * 1 + (x 1).val) * 1 + (x 2).val) * 16 + (x 3).val
  omega

theorem fill_stored (i : grid0.Coords) (ts : Vec F S823296 .f32) (tab : Vec F S6565 .f32) (b : Fin 2) (p : ℕ) (t : Fin 8) (k : ℕ) (hk : k < 64)
    (iv : IVec S16 32) (hiv : ∀ x : S16.Idx, iv x = posN i ts (1024 * (p / 4) + 128 * (2 * (p % 4) + b.val) + 16 * t.val + (x 0).val))
    (hw : k0_chk1 (featIdx iv k)) (h : Vec F S2x8x8x128 .f32)
    (hh : ∀ y : S2x8x8x128.Idx, (y 0).val = b.val → reached t.val k y → h y = staged i ts tab p y) (y : S2x8x8x128.Idx) (hy : (y 0).val = b.val) (hr : reached t.val (k + 1) y) :
    (stageV.access (fillRect b k t)).write (Elt F) h
      (shapeCast S1x1x1x16 (loadIdx ((tabV.access (.whole S6565)).read (Elt F) tab) ![featIdx iv k] (k0_idx1_inb _ hw)) shapeCasts_S16_S1x1x1x16) Finset.univ y
      = staged i ts tab p y := by
  refine write_read (stageV.access (fillRect b k t)) h (staged i ts tab p) _ (fun x => ?_) y ?_
  · obtain ⟨e0, e1, e2, e3⟩ := fillRect_emb b k t x
    show _ = staged i ts tab p ((fillRect b k t).emb x)
    unfold staged
    rw [e0, e1, e2, e3]
    show tab ((tabV.access (.whole S6565)).emb (idxAt ![featIdx iv k] (k0_idx1_inb _ hw) (Shape.reshapeEquiv (s := S16) (s' := S1x1x1x16) shapeCasts_S16_S1x1x1x16 x))) = _
    refine tabN_of tab _ ?_
    show 0 + 1 * (featIdx iv k (Shape.reshapeEquiv (s := S16) (s' := S1x1x1x16) shapeCasts_S16_S1x1x1x16 x)).toNat = _
    rw [Nat.zero_add, Nat.one_mul, lane_eq]
    have hf := (featIdx_toNat i ts iv _ k hk hiv (ix1 (x 3))).1
    refine hf.trans ?_
    have hk8 : 8 * (k / 8 % 8) + k % 8 = k := by omega
    rw [hk8, Nat.add_assoc _ (16 * t.val)]
  · have y1 : (y 1).val < 8 := (y 1).isLt
    have y2 : (y 2).val < 8 := (y 2).isLt
    by_cases hc : reached t.val k y
    · exact Or.inr (hh y hy hc)
    · refine Or.inl ?_
      have hs : (stageV.access (fillRect b k t)).set = (fillRect b k t).set := View.set_slice_whole _ _
      rw [hs, mem_fillRect]
      unfold reached at hc hr
      omega

theorem wp_fillStep (d : Dev nD) (i : grid0.Coords) (ts : Vec F S823296 .f32) (tab : Vec F S6565 .f32) (b : Fin 2) (p : ℕ) (t : Fin 8) (k : ℕ) (hk : k < 64)
    (iv : IVec S16 32) (hiv : ∀ x : S16.Idx, iv x = posN i ts (1024 * (p / 4) + 128 * (2 * (p % 4) + b.val) + 16 * t.val + (x 0).val)) :
    iprop(tabHeld d i tab ∗ stageHeld d i ts tab b p t.val k)
      ⊢ wp frame (wpE (defs₀ (F := F)) 𝒱₀ (th d i) none) Set.univ (fillStep i b t iv k) fun _ => iprop(tabHeld d i tab ∗ stageHeld d i ts tab b p t.val (k + 1)) := by
  have hw : k0_chk1 (featIdx iv k) := by
    intro a x
    fin_cases a
    exact (featIdx_toNat i ts iv _ k hk hiv x).2
  unfold fillStep tabHeld stageHeld
  simp only [Prog.lift, Prog.bind_op, Prog.bind_ret, Prog.pure_eq_ret]
  rw [wp_assume_of _ _ _ _ hw]
  iintro ⟨Htab, %h, %hh, Hst⟩
  iapply (SparseCore.wp_vectorLoadIdx 𝒱₀ (th d i) none Set.univ (base := tabV) (S := Finset.univ) (q := fullShare) (Finset.subset_univ _)) $$ Htab; iintro Htab
  iapply (wp_load 𝒱₀ (th d i) none Set.univ (m := stageV) (S := (half b).view.set) (setOn_sub b k t)) $$ Hst; iintro Hst
  iapply (wp_store 𝒱₀ (th d i) none Set.univ (m := stageV) (r := fillRect b k t) (Mk := Finset.univ) (S := (half b).view.set) (access_sub b k t)) $$ Hst; iintro Hst
  rw [wp_ret]; imodintro
  isplitl [Htab]; · iexact Htab
  iexists _
  isplitr; swap
  · iexact Hst
  · ipureintro
    exact fill_stored i ts tab b p t k hk iv hiv hw h hh

/-- The rectangle of positions a trip reads. -/
abbrev posRect (b : Fin 2) (p : Fin k0_t2_loop.trips) (t : Fin 8) : Rect S25600 :=
  Rect.unit (s := S25600) (posOff b p t) S16.size (posOff_inb b p t)

theorem pos_loaded (i : grid0.Coords) (ts : Vec F S823296 .f32) (b : Fin 2) (p : Fin k0_t2_loop.trips) (t : Fin 8) (g : Vec F S25600 .i32)
    (hg : ∀ y : S25600.Idx, (y 0).val < 25600 → g y = tilePos i ts y) (x : S16.Idx) :
    posV.view.readAt (Elt F) (posRect b p t).toLoadRect g x = posN i ts (1024 * (p.val / 4) + 128 * (2 * (p.val % 4) + b.val) + 16 * t.val + (x 0).val) := by
  show g ((posRect b p t).emb x) = _
  rw [hg _ ((posRect b p t).emb x 0).isLt]
  show posN i ts (posOff b p t 0 + 1 * (x 0).val) = _
  rw [posOff_eq, Nat.one_mul]
  rfl

theorem stageHeld_next (d : Dev nD) (i : grid0.Coords) (ts : Vec F S823296 .f32) (tab : Vec F S6565 .f32) (b : Fin 2) (p t : ℕ) :
    stageHeld d i ts tab b p t 64 ⊢ stageHeld d i ts tab b p (t + 1) 0 := by
  unfold stageHeld
  iintro ⟨%h, %hh, H⟩
  iexists h
  isplitr; swap
  · iexact H
  · ipureintro
    intro y hy hr
    refine hh y hy ?_
    have y1 : (y 1).val < 8 := (y 1).isLt
    have y2 : (y 2).val < 8 := (y 2).isLt
    unfold reached at *
    omega

/-- One trip of a fill: sixteen samples' 64 words. -/
theorem wp_fillTrip (d : Dev nD) (i : grid0.Coords) (ts : Vec F S823296 .f32) (tab : Vec F S6565 .f32) (b : Fin 2) (p : Fin k0_t2_loop.trips) (t : Fin 8) :
    iprop(posHeld d i ts 25600 ∗ tabHeld d i tab ∗ stageHeld d i ts tab b p.val t.val 0)
      ⊢ wp frame (wpE (defs₀ (F := F)) 𝒱₀ (th d i) none) Set.univ (fillTrip i b p t)
          fun _ => iprop(posHeld d i ts 25600 ∗ tabHeld d i tab ∗ stageHeld d i ts tab b p.val (t.val + 1) 0) := by
  unfold fillTrip posHeld
  simp only [Prog.lift, Prog.bind_op, Prog.bind_ret, Prog.pure_eq_ret]
  iintro ⟨⟨%g, %hg, Hpos⟩, Htab, Hst⟩
  iapply (wp_load 𝒱₀ (th d i) none Set.univ (m := posV) (S := Finset.univ) (Finset.subset_univ _)) $$ Hpos; iintro Hpos
  have h := wp_steps (d := d) (fillStep (F := F) i b t (posV.view.readAt (Elt F) (posRect b p t).toLoadRect g))
    (fun k => iprop(tabHeld d i tab ∗ stageHeld d i ts tab b p.val t.val k)) 64
    (fun k hk => wp_fillStep d i ts tab b p.val t k hk _ (pos_loaded i ts b p t g hg)) 64 0 (le_refl _)
  iapply (wp_wand _ _ _ (p := steps (fillStep (F := F) i b t (posV.view.readAt (Elt F) (posRect b p t).toLoadRect g)) 64 0)) $$ [Htab Hst]
  · iapply h
    isplitl [Htab] <;> iassumption
  iintro %_ ⟨Htab, Hst⟩
  isplitl [Hpos]
  · iexists g
    isplitr; swap
    · iexact Hpos
    · ipureintro; exact hg
  isplitl [Htab]; · iexact Htab
  iapply (stageHeld_next d i ts tab b p.val t.val)
  iexact Hst

/-- The fill of the first staging buffer. -/
theorem wp_fillLoop0 (d : Dev nD) (i : grid0.Coords) (ts : Vec F S823296 .f32) (tab : Vec F S6565 .f32) (p : Fin k0_t2_loop.trips) :
    iprop(posHeld d i ts 25600 ∗ tabHeld d i tab ∗ stageHeld d i ts tab 0 p.val 0 0)
      ⊢ wp frame (wpE (defs₀ (F := F)) 𝒱₀ (th d i) none) Set.univ (Scf.Loop.for k0_t3_loop k0_t3_ok ⟨⟩ (fun t _ => fillTrip i 0 p (t.cast trips_t3)) : TileProg F i Unit)
          fun _ => iprop(posHeld d i ts 25600 ∗ tabHeld d i tab ∗ stageHeld d i ts tab 0 p.val 8 0) := by
  iintro H
  iapply (Scf.wp_for _ _ _ _ _ _ k0_t3_ok ⟨⟩ _ (fun t _ => iprop(posHeld d i ts 25600 ∗ tabHeld d i tab ∗ stageHeld d i ts tab 0 p.val t 0))
    (fun t _ => by
      have h := wp_fillTrip d i ts tab 0 p (t.cast trips_t3)
      simp only [Fin.val_cast] at h
      with_reducible exact h))
  isplitl [H]; · iexact H
  iintro %acc H
  rw [show Scf.trips _ _ _ = 8 from trips_t3]
  iexact H

/-- The fill of the second staging buffer. -/
theorem wp_fillLoop1 (d : Dev nD) (i : grid0.Coords) (ts : Vec F S823296 .f32) (tab : Vec F S6565 .f32) (p : Fin k0_t2_loop.trips) :
    iprop(posHeld d i ts 25600 ∗ tabHeld d i tab ∗ stageHeld d i ts tab 1 p.val 0 0)
      ⊢ wp frame (wpE (defs₀ (F := F)) 𝒱₀ (th d i) none) Set.univ (Scf.Loop.for k0_t4_loop k0_t4_ok ⟨⟩ (fun t _ => fillTrip i 1 p (t.cast trips_t4)) : TileProg F i Unit)
          fun _ => iprop(posHeld d i ts 25600 ∗ tabHeld d i tab ∗ stageHeld d i ts tab 1 p.val 8 0) := by
  iintro H
  iapply (Scf.wp_for _ _ _ _ _ _ k0_t4_ok ⟨⟩ _ (fun t _ => iprop(posHeld d i ts 25600 ∗ tabHeld d i tab ∗ stageHeld d i ts tab 1 p.val t 0))
    (fun t _ => by
      have h := wp_fillTrip d i ts tab 1 p (t.cast trips_t4)
      simp only [Fin.val_cast] at h
      with_reducible exact h))
  isplitl [H]; · iexact H
  iintro %acc H
  rw [show Scf.trips _ _ _ = 8 from trips_t4]
  iexact H

/-- Before a fill, a staging buffer holds anything. -/
theorem stageHeld_start (d : Dev nD) (i : grid0.Coords) (ts : Vec F S823296 .f32) (tab : Vec F S6565 .f32) (b : Fin 2) (p : ℕ) (h : Buf (Elt F) (stageV.view.loc (th d i))) :
    (stageV.view.loc (th d i) ↦[(half b).view.set]{fullShare} h : sProp (MM F)) ⊢ stageHeld d i ts tab b p 0 0 := by
  unfold stageHeld
  iintro H
  iexists h
  isplitr; swap
  · iexact H
  · ipureintro
    intro y _ hr
    unfold reached at hr
    omega

/-- After it, the pair's words. -/
theorem stageHeld_done (d : Dev nD) (i : grid0.Coords) (ts : Vec F S823296 .f32) (tab : Vec F S6565 .f32) (b : Fin 2) (p : ℕ) :
    stageHeld d i ts tab b p 8 0 ⊢ (stageV.view.loc (th d i) ↦[(half b).view.set]{fullShare} (staged i ts tab p : Buf (Elt F) (stageV.view.loc (th d i))) : sProp (MM F)) := by
  unfold stageHeld
  iintro ⟨%h, %hh, H⟩
  iapply (Entails.of_eq (pointsTo_congr (f := h) (g := (staged i ts tab p : Buf (Elt F) (stageV.view.loc (th d i)))) (fun y hy => by
    have y3 : (y 3).val < 128 := (y 3).isLt
    refine hh y ((mem_half b y).mp hy) ?_
    unfold reached
    omega)))
  iexact H

end Cert.Proof

end
-- ==== Proof.Sending.lean ====
/-
  The pairs loop: fill two staging buffers, send each to its block of the result, wait for both.
-/
module

public import proofs.«01_k».proof.Proof.Filling

@[expose] public section

noncomputable section

namespace Cert.Proof

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Staging buffer `b`, whatever it holds. -/
@[irreducible] def stageAny (F : FTy → Type) (d : Dev nD) (i : grid0.Coords) (b : Fin 2) : sProp (MM F) :=
  iprop(∃ h : Buf (Elt F) (stageV.view.loc (th d i)), stageV.view.loc (th d i) ↦[(half b).view.set]{fullShare} h)

/-- A block of the result, whatever it holds. -/
@[irreducible] def blockAny (F : FTy → Type) (d : Dev nD) (i : grid0.Coords) (b : Fin 2) (p : Fin k0_t2_loop.trips) : sProp (MM F) :=
  iprop(∃ f : Buf (Elt F) (outA.view.loc (th d i)), outA.view.loc (th d i) ↦[(block b i p).view.set]{fullShare} f)

/-- A block of the result, done. -/
@[irreducible] def blockDone (d : Dev nD) (i : grid0.Coords) (ts : Vec F S823296 .f32) (tab : Vec F S6565 .f32) (b : Fin 2) (p : Fin k0_t2_loop.trips) : sProp (MM F) :=
  outA.view.loc (th d i) ↦[(block b i p).view.set]{fullShare} (result ts tab : Buf (Elt F) (outA.view.loc (th d i)))

/-- What a tile owes, its waits so far among those of `W` and its own. -/
@[irreducible] def owing (F : FTy → Type) (d : Dev nD) (i : grid0.Coords) (O : CellTallies nD τ sig (HIx 1)) (W : Waits sig (HIx 1)) : sProp (MM F) :=
  iprop(∃ W', ⌜∀ p ∈ W', p ∈ W ∨ p.2 = none⌝ ∗ owes (th d i) O W')

theorem owing_intro (d : Dev nD) (i : grid0.Coords) {O : CellTallies nD τ sig (HIx 1)} {W W' : Waits sig (HIx 1)} (h : ∀ p ∈ W', p ∈ W ∨ p.2 = none)
    (sm : SemLoc sig) : (owes (th d i) O (insert (sm, none) W') : sProp (MM F)) ⊢ owing F d i O W := by
  unfold owing
  iintro H
  iexists (insert (sm, none) W')
  isplitr; swap
  · iexact H
  · ipureintro
    intro p hp
    rcases Finset.mem_insert.mp hp with rfl | hp
    · exact .inr rfl
    · exact h p hp

/-- What a send delivers is the block, done, and its staging buffer back. -/
theorem delivered (d : Dev nD) (i : grid0.Coords) (ts : Vec F S823296 .f32) (tab : Vec F S6565 .f32) (b : Fin 2) (p : Fin k0_t2_loop.trips)
    (f : Buf (Elt F) (outA.view.loc (th d i))) :
    (iprop(((block b i p).view.loc (th d i) ↦[(block b i p).view.set]{fullShare}
        ((block b i p).view.write (Elt F) f ((half b).view.read (Elt F) (staged i ts tab p.val)) Finset.univ))
      ∗ ((half b).view.loc (th d i) ↦[(half b).view.set]{fullShare} (staged i ts tab p.val : Buf (Elt F) (stageV.view.loc (th d i))))) : sProp (MM F))
      ⊢ iprop(blockDone d i ts tab b p ∗ stageAny F d i b) := by
  unfold blockDone stageAny
  have key : ∀ z ∈ (block b i p).view.set, (block b i p).view.write (Elt F) f ((half b).view.read (Elt F) (staged i ts tab p.val)) Finset.univ z
      = result ts tab z := fun z hz => by
    refine write_read (block b i p).view f (result ts tab) _ (fun x => ?_) z (Or.inl hz)
    show staged i ts tab p.val ((half b).view.emb x) = result ts tab ((block b i p).view.emb x)
    obtain ⟨h0, h1, h2, h3⟩ := half_emb b x
    obtain ⟨z0, z1, z2, z3, z4⟩ := block_emb b i p x
    exact (result_staged i ts tab p.val _ _ z0 (by rw [z2, h0]) (by rw [z1, h1]) (by rw [z3, h2]) (by rw [z4, h3])).symm
  rw [pointsTo_congr key]
  iintro ⟨Ho, Hs⟩
  isplitl [Ho]
  · iexact Ho
  · iexists _; iexact Hs

theorem wp_pairTrip (d : Dev nD) (i : grid0.Coords) (ts : Vec F S823296 .f32) (tab : Vec F S6565 .f32) (p : Fin k0_t2_loop.trips)
    (O : CellTallies nD τ sig (HIx 1)) (W : Waits sig (HIx 1)) :
    iprop(Transfers.MayWaits (th d i) (none : HIx 1) O ∗ posHeld d i ts 25600 ∗ tabHeld d i tab ∗ stageAny F d i 0 ∗ stageAny F d i 1
        ∗ semVal (th d i, SemLoc.dma cc0_scratch4.sem) 0 ∗ semVal (th d i, SemLoc.dma cc0_scratch5.sem) 0 ∗ owing F d i O W
        ∗ blockAny F d i 0 p ∗ blockAny F d i 1 p)
      ⊢ wp frame (wpE (defs₀ (F := F)) 𝒱₀ (th d i) none) Set.univ (pairTrip i p)
          fun _ => iprop(posHeld d i ts 25600 ∗ tabHeld d i tab ∗ stageAny F d i 0 ∗ stageAny F d i 1
            ∗ semVal (th d i, SemLoc.dma cc0_scratch4.sem) 0 ∗ semVal (th d i, SemLoc.dma cc0_scratch5.sem) 0 ∗ owing F d i O W
            ∗ blockDone d i ts tab 0 p ∗ blockDone d i ts tab 1 p) := by
  unfold pairTrip
  iintro ⟨#Hmw, Hpos, Htab, Hs0, Hs1, Hm0, Hm1, HO, Hb0, Hb1⟩
  rw [wp_bind]
  iapply (wp_wand _ _ _ (p := (Scf.Loop.for k0_t3_loop k0_t3_ok ⟨⟩ (fun t _ => fillTrip i 0 p (t.cast trips_t3)) : TileProg F i Unit))) $$ [Hpos Htab Hs0]
  · iapply (wp_fillLoop0 d i ts tab p)
    isplitl [Hpos]; · iexact Hpos
    isplitl [Htab]; · iexact Htab
    unfold stageAny
    icases Hs0 with ⟨%h, Hs0⟩
    iapply (stageHeld_start d i ts tab 0 p.val h); iexact Hs0
  iintro %_ ⟨Hpos, Htab, Hs0⟩
  ihave Hs0 := (stageHeld_done d i ts tab 0 p.val) $$ Hs0
  unfold blockAny
  icases Hb0 with ⟨%f0, Hb0⟩
  icases Hb1 with ⟨%f1, Hb1⟩
  unfold sendStep sentStep
  simp only [Prog.lift, Prog.bind_op, Prog.bind_ret, Prog.pure_eq_ret]
  iapply (Transfers.wp_dmaLocal EC 𝒱₀ (th d i) none (src := half 0) (dst := block 0 i p) (q := fullShare)
    (none : HIx 1) ((block 0 i p).view.dmaCredit) rfl (View.dmaCredit_pos _ (by decide)) (Finset.Subset.refl _)) $$ [Hs0 Hb0 Hm0]
  · isplitl [Hs0]; · iexact Hs0
    isplitl [Hb0] <;> iassumption
  iintro Hf0
  rw [wp_bind]
  iapply (wp_wand _ _ _ (p := (Scf.Loop.for k0_t4_loop k0_t4_ok ⟨⟩ (fun t _ => fillTrip i 1 p (t.cast trips_t4)) : TileProg F i Unit))) $$ [Hpos Htab Hs1]
  · iapply (wp_fillLoop1 d i ts tab p)
    isplitl [Hpos]; · iexact Hpos
    isplitl [Htab]; · iexact Htab
    unfold stageAny
    icases Hs1 with ⟨%h, Hs1⟩
    iapply (stageHeld_start d i ts tab 1 p.val h); iexact Hs1
  iintro %_ ⟨Hpos, Htab, Hs1⟩
  ihave Hs1 := (stageHeld_done d i ts tab 1 p.val) $$ Hs1
  iapply (Transfers.wp_dmaLocal EC 𝒱₀ (th d i) none (src := half 1) (dst := block 1 i p) (q := fullShare)
    (none : HIx 1) ((block 1 i p).view.dmaCredit) rfl (View.dmaCredit_pos _ (by decide)) (Finset.Subset.refl _)) $$ [Hs1 Hb1 Hm1]
  · isplitl [Hs1]; · iexact Hs1
    isplitl [Hb1] <;> iassumption
  iintro Hf1
  unfold owing
  icases HO with ⟨%W', %hW', HO⟩
  iapply (Transfers.wp_waitLocalO EC 𝒱₀ (th d i) none (none : HIx 1) rfl) $$ [Hf0 HO]
  · isplitl [Hf0]; · iexact Hf0
    isplitl [HO]; · iexact HO
    iapply (Transfers.MayWaits.elim (SemLoc.dma cc0_scratch4.sem)); iexact Hmw
  iintro ⟨Hd0, Hm0, HO⟩
  ihave HO := (owing_intro d i hW' (SemLoc.dma cc0_scratch4.sem)) $$ HO
  unfold owing
  icases HO with ⟨%W2, %hW2, HO⟩
  iapply (Transfers.wp_waitLocalO EC 𝒱₀ (th d i) none (none : HIx 1) rfl) $$ [Hf1 HO]
  · isplitl [Hf1]; · iexact Hf1
    isplitl [HO]; · iexact HO
    iapply (Transfers.MayWaits.elim (SemLoc.dma cc0_scratch5.sem)); iexact Hmw
  iintro ⟨Hd1, Hm1, HO⟩
  ihave HO := (owing_intro d i hW2 (SemLoc.dma cc0_scratch5.sem)) $$ HO
  ihave ⟨Hb0, Hs0⟩ := (delivered d i ts tab 0 p f0) $$ Hd0
  ihave ⟨Hb1, Hs1⟩ := (delivered d i ts tab 1 p f1) $$ Hd1
  rw [wp_ret]; imodintro
  unfold owing
  isplitl [Hpos]; · iexact Hpos
  isplitl [Htab]; · iexact Htab
  isplitl [Hs0]; · iexact Hs0
  isplitl [Hs1]; · iexact Hs1
  isplitl [Hm0]; · iexact Hm0
  isplitl [Hm1]; · iexact Hm1
  isplitl [HO]; · iexact HO
  isplitl [Hb0] <;> iassumption

/-- The blocks of the result before trip `k`: those of the trips already made are done. -/
@[irreducible] def blocksHeld (d : Dev nD) (i : grid0.Coords) (ts : Vec F S823296 .f32) (tab : Vec F S6565 .f32) (k : ℕ) : sProp (MM F) :=
  iprop((bigSep (Finset.univ : Finset (Fin k0_t2_loop.trips)) fun p => if p.val < k then blockDone d i ts tab 0 p else blockAny F d i 0 p)
    ∗ (bigSep (Finset.univ : Finset (Fin k0_t2_loop.trips)) fun p => if p.val < k then blockDone d i ts tab 1 p else blockAny F d i 1 p))

theorem bigSep_trip (A B : Fin k0_t2_loop.trips → sProp (MM F)) (k : Fin k0_t2_loop.trips) :
    (bigSep (Finset.univ : Finset (Fin k0_t2_loop.trips)) fun p => if p.val < k.val then B p else A p)
      ⊢ iprop(A k ∗ (B k -∗ bigSep (Finset.univ : Finset (Fin k0_t2_loop.trips)) fun p => if p.val < k.val + 1 then B p else A p)) := by
  rw [SparseCore.bigSep_erase' (Finset.mem_univ k), SparseCore.bigSep_erase' (Φ := fun p : Fin k0_t2_loop.trips => if p.val < k.val + 1 then B p else A p) (Finset.mem_univ k),
    BI.bigSep_congr (Φ := fun p : Fin k0_t2_loop.trips => if p.val < k.val then B p else A p) (Ψ := fun p => if p.val < k.val + 1 then B p else A p)
      (s := Finset.univ.erase k) fun p hp => by
        have h : p.val ≠ k.val := fun h => Finset.ne_of_mem_erase hp (Fin.ext h)
        by_cases h' : p.val < k.val
        · rw [if_pos h', if_pos (by omega)]
        · rw [if_neg h', if_neg (by omega)]]
  simp only [lt_irrefl, ↓reduceIte, Nat.lt_succ_self]
  iintro ⟨HA, Hrest⟩
  isplitl [HA]; · iexact HA
  iintro HB
  isplitl [HB]; · iexact HB
  iexact Hrest

theorem blocksHeld_step (d : Dev nD) (i : grid0.Coords) (ts : Vec F S823296 .f32) (tab : Vec F S6565 .f32) (k : Fin k0_t2_loop.trips) :
    blocksHeld d i ts tab k.val ⊢ iprop(blockAny F d i 0 k ∗ blockAny F d i 1 k
      ∗ (iprop(blockDone d i ts tab 0 k ∗ blockDone d i ts tab 1 k) -∗ blocksHeld d i ts tab (k.val + 1))) := by
  unfold blocksHeld
  iintro ⟨H0, H1⟩
  ihave ⟨A0, K0⟩ := (bigSep_trip (fun p => blockAny F d i 0 p) (fun p => blockDone d i ts tab 0 p) k) $$ H0
  ihave ⟨A1, K1⟩ := (bigSep_trip (fun p => blockAny F d i 1 p) (fun p => blockDone d i ts tab 1 p) k) $$ H1
  isplitl [A0]; · iexact A0
  isplitl [A1]; · iexact A1
  iintro ⟨B0, B1⟩
  isplitl [K0 B0]
  · iapply K0 $$ B0
  · iapply K1 $$ B1

/-- What a tile holds through the pairs loop, beside its blocks of the result. -/
@[irreducible] def working (d : Dev nD) (i : grid0.Coords) (ts : Vec F S823296 .f32) (tab : Vec F S6565 .f32)
    (O : CellTallies nD τ sig (HIx 1)) (W : Waits sig (HIx 1)) : sProp (MM F) :=
  iprop(Transfers.MayWaits (th d i) (none : HIx 1) O ∗ posHeld d i ts 25600 ∗ tabHeld d i tab ∗ stageAny F d i 0 ∗ stageAny F d i 1
    ∗ semVal (th d i, SemLoc.dma cc0_scratch4.sem) 0 ∗ semVal (th d i, SemLoc.dma cc0_scratch5.sem) 0 ∗ owing F d i O W)

theorem wp_pairStep (d : Dev nD) (i : grid0.Coords) (ts : Vec F S823296 .f32) (tab : Vec F S6565 .f32) (p : Fin k0_t2_loop.trips)
    (O : CellTallies nD τ sig (HIx 1)) (W : Waits sig (HIx 1)) :
    iprop(working d i ts tab O W ∗ blocksHeld d i ts tab p.val)
      ⊢ wp frame (wpE (defs₀ (F := F)) 𝒱₀ (th d i) none) Set.univ (pairTrip i p)
          fun _ => iprop(working d i ts tab O W ∗ blocksHeld d i ts tab (p.val + 1)) := by
  unfold working
  iintro ⟨⟨#Hmw, Hpos, Htab, Hs0, Hs1, Hm0, Hm1, HO⟩, Hblk⟩
  ihave ⟨A0, A1, K⟩ := (blocksHeld_step d i ts tab p) $$ Hblk
  iapply (wp_wand _ _ _ (p := pairTrip i p)) $$ [Hpos Htab Hs0 Hs1 Hm0 Hm1 HO A0 A1]
  · iapply (wp_pairTrip d i ts tab p O W)
    isplitl []; · iexact Hmw
    isplitl [Hpos]; · iexact Hpos
    isplitl [Htab]; · iexact Htab
    isplitl [Hs0]; · iexact Hs0
    isplitl [Hs1]; · iexact Hs1
    isplitl [Hm0]; · iexact Hm0
    isplitl [Hm1]; · iexact Hm1
    isplitl [HO]; · iexact HO
    isplitl [A0] <;> iassumption
  iintro %_ ⟨Hpos, Htab, Hs0, Hs1, Hm0, Hm1, HO, B0, B1⟩
  isplitr [K B0 B1]
  · isplitl []; · iexact Hmw
    isplitl [Hpos]; · iexact Hpos
    isplitl [Htab]; · iexact Htab
    isplitl [Hs0]; · iexact Hs0
    isplitl [Hs1]; · iexact Hs1
    isplitl [Hm0]; · iexact Hm0
    isplitl [Hm1]; · iexact Hm1
    iexact HO
  · iapply K
    isplitl [B0] <;> iassumption

/-- The pairs loop: every block of the tile's result gets done. -/
theorem wp_pairLoop (d : Dev nD) (i : grid0.Coords) (ts : Vec F S823296 .f32) (tab : Vec F S6565 .f32)
    (O : CellTallies nD τ sig (HIx 1)) (W : Waits sig (HIx 1)) :
    iprop(working d i ts tab O W ∗ blocksHeld d i ts tab 0)
      ⊢ wp frame (wpE (defs₀ (F := F)) 𝒱₀ (th d i) none) Set.univ
          (Scf.Loop.for k0_t2_loop k0_t2_ok ⟨⟩ (fun t _ => pairTrip i t) : TileProg F i Unit)
          fun _ => iprop(working d i ts tab O W ∗ blocksHeld d i ts tab 100) := by
  iintro H
  iapply (Scf.wp_for _ _ _ _ _ _ k0_t2_ok ⟨⟩ _ (fun k _ => iprop(working d i ts tab O W ∗ blocksHeld d i ts tab k))
    (fun k _ => by
      have h := wp_pairStep d i ts tab k O W
      with_reducible exact h))
  isplitl [H]; · iexact H
  iintro %acc H
  rw [show Scf.trips _ _ _ = 100 from trips_t2]
  iexact H

end Cert.Proof

end
-- ==== Proof.Fetching.lean ====
/-
  A tile's fetches: 26 rows of its timestamps in one batch on one semaphore, and the table.
-/
module

public import proofs.«01_k».proof.Proof.Sending

@[expose] public section

noncomputable section

namespace Cert.Proof

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `r` of a tile's timestamps, to read. -/
@[irreducible] def rowRead (d : Dev nD) (i : grid0.Coords) (ts : Vec F S823296 .f32) (q : PosShare TreeShare) (r : Fin 26) : sProp (MM F) :=
  tsA.view.loc (th d i) ↦[(rowSrc i r).view.set]{q} (ts : Buf (Elt F) (tsA.view.loc (th d i)))

/-- Row `r` of a tile's copy. -/
@[irreducible] def rowCopy (d : Dev nD) (i : grid0.Coords) (f : Buf (Elt F) (tsV.view.loc (th d i))) (r : Fin 26) : sProp (MM F) :=
  tsV.view.loc (th d i) ↦[(rowDst r).view.set]{fullShare} f

/-- What the copy of row `r` delivers: the row copied, and its source back. -/
abbrev landed (d : Dev nD) (i : grid0.Coords) (ts : Vec F S823296 .f32) (q : PosShare TreeShare) (r : Fin 26) : sProp (MM F) :=
  iprop((tsV.view.loc (th d i) ↦[(rowDst r).view.set]{fullShare} (tileTs i ts : Buf (Elt F) (tsV.view.loc (th d i))))
    ∗ (tsA.view.loc (th d i) ↦[(rowSrc i r).view.set]{q} (ts : Buf (Elt F) (tsA.view.loc (th d i)))))

/-- What one row's copy credits its semaphore. -/
def rowCredit : ℕ := (rowDst 0).view.dmaCredit
theorem rowCredit_eq (r : Fin 26) : (rowDst r).view.dmaCredit = rowCredit := rfl
theorem rowAmount_eq (r : Fin 26) : (rowDst r).view.amount (SemLoc.dma cc0_scratch6.sem) = rowCredit := rfl
theorem rowCredit_pos : 0 < rowCredit := View.dmaCredit_pos _ (by decide)
attribute [irreducible] rowCredit

/-- The batch of row copies, `j` issued and `u` of their credit waited for. -/
abbrev rowBatch (d : Dev nD) (i : grid0.Coords) (ts : Vec F S823296 .f32) (q : PosShare TreeShare) (j u : ℕ) : sProp (MM F) :=
  Transfers.Batch EC (th d i) (SemLoc.dma cc0_scratch6.sem) (none : HIx 1) rowCredit (landed d i ts q) j u

theorem lands (d : Dev nD) (i : grid0.Coords) (ts : Vec F S823296 .f32) (q : PosShare TreeShare) (r : Fin 26) (f : Buf (Elt F) (tsV.view.loc (th d i))) :
    (iprop(((rowDst r).view.loc (th d i) ↦[(rowDst r).view.set]{fullShare}
        ((rowDst r).view.write (Elt F) f ((rowSrc i r).view.read (Elt F) (ts : Buf (Elt F) (tsA.view.loc (th d i)))) Finset.univ))
      ∗ ((rowSrc i r).view.loc (th d i) ↦[(rowSrc i r).view.set]{q} (ts : Buf (Elt F) (tsA.view.loc (th d i))))) : sProp (MM F))
      ⊢ landed d i ts q r := by
  have key : ∀ y ∈ (rowDst r).view.set, (rowDst r).view.write (Elt F) f ((rowSrc i r).view.read (Elt F) (ts : Buf (Elt F) (tsA.view.loc (th d i)))) Finset.univ y
      = tileTs i ts y := fun y hy => by
    refine write_read (rowDst r).view f (tileTs i ts) _ (fun x => ?_) y (Or.inl hy)
    have e1 : (rowSrc i r).view.read (Elt F) (ts : Buf (Elt F) (tsA.view.loc (th d i))) x = ts ((rowSrc i r).view.emb x) :=
      (View.read_apply _ _).trans (cast_eq _ _)
    have e2 : (rowDst r).view.read (Elt F) (tileTs i ts) x = tileTs i ts ((rowDst r).view.emb x) :=
      (View.read_apply _ _).trans (cast_eq _ _)
    rw [e1, e2]
    unfold tileTs
    have hx : (x 0).val < 1024 := (x 0).isLt
    rw [rowDst_emb, tileN, tsN_of ts _ (rowSrc_emb i r x)]
    have h1 : (1024 * r.val + (x 0).val) / 1024 = r.val := by omega
    have h2 : (1024 * r.val + (x 0).val) % 1024 = (x 0).val := by omega
    rw [h1, h2]
  rw [pointsTo_congr key]

/-- What a tile holds before issuing the copy of row `k`. -/
@[irreducible] def issuing (d : Dev nD) (i : grid0.Coords) (ts : Vec F S823296 .f32) (q : PosShare TreeShare) (f : Buf (Elt F) (tsV.view.loc (th d i))) (k : ℕ) : sProp (MM F) :=
  iprop((bigSep (Transfers.pending (n := 26) k) fun r => iprop(rowRead d i ts q r ∗ rowCopy d i f r)) ∗ rowBatch d i ts q k 0)

theorem wp_issueStep (d : Dev nD) (i : grid0.Coords) (ts : Vec F S823296 .f32) (q : PosShare TreeShare) (f : Buf (Elt F) (tsV.view.loc (th d i)))
    (k : ℕ) (hk : k < 26) :
    issuing d i ts q f k ⊢ wp frame (wpE (defs₀ (F := F)) 𝒱₀ (th d i) none) Set.univ (issueStep i (Fin.ofNat 26 k)) fun _ => issuing d i ts q f (k + 1) := by
  rw [show Fin.ofNat 26 k = (⟨k, hk⟩ : Fin 26) from Fin.ext (Nat.mod_eq_of_lt hk)]
  unfold issuing issueStep
  rw [Transfers.bigSep_pending_step _ k hk]
  simp only [Prog.lift, Prog.bind_op, Prog.bind_ret, Prog.pure_eq_ret]
  unfold rowRead rowCopy
  iintro ⟨⟨⟨Hs, Hd⟩, Hrest⟩, HB⟩
  have hl := lands d i ts q ⟨k, hk⟩ f
  iapply (Transfers.wp_dmaBatch EC 𝒱₀ (th d i) none (src := rowSrc i ⟨k, hk⟩) (dst := rowDst ⟨k, hk⟩) (via := .same) (q := q) (D := landed d i ts q)
    (fs := (ts : Buf (Elt F) (tsA.view.loc (th d i)))) (fd := f) (Sd := (rowDst ⟨k, hk⟩).view.set)
    (none : HIx 1) rowCredit (rowAmount_eq _) (Finset.Subset.refl _) hk (Nat.zero_le _) (by with_reducible exact hl)) $$ [Hs Hd HB]
  · isplitl [Hs]; · iexact Hs
    isplitl [Hd]; · iexact Hd
    iexact HB
  iintro HB
  rw [wp_ret]; imodintro
  isplitl [Hrest]; · iexact Hrest
  iexact HB

/-- What a tile holds before waiting for the copy of row `k`. -/
@[irreducible] def awaiting (d : Dev nD) (i : grid0.Coords) (ts : Vec F S823296 .f32) (q : PosShare TreeShare)
    (O : CellTallies nD τ sig (HIx 1)) (W : Waits sig (HIx 1)) (k : ℕ) : sProp (MM F) :=
  iprop(Transfers.MayWaits (th d i) (none : HIx 1) O ∗ rowBatch d i ts q 26 (rowCredit * k) ∗ owing F d i O W)

theorem wp_awaitStep (d : Dev nD) (i : grid0.Coords) (ts : Vec F S823296 .f32) (q : PosShare TreeShare)
    (O : CellTallies nD τ sig (HIx 1)) (W : Waits sig (HIx 1)) (k : ℕ) (hk : k < 26) :
    awaiting d i ts q O W k ⊢ wp frame (wpE (defs₀ (F := F)) 𝒱₀ (th d i) none) Set.univ (awaitStep i (Fin.ofNat 26 k)) fun _ => awaiting d i ts q O W (k + 1) := by
  unfold awaiting awaitStep
  simp only [Prog.lift, Prog.bind_op, Prog.bind_ret, Prog.pure_eq_ret]
  unfold owing
  iintro ⟨#Hmw, HB, %W', %hW', HO⟩
  iapply (Transfers.wp_waitBatchMulO EC 𝒱₀ (th d i) none (dstw := rowDst (Fin.ofNat 26 k)) (none : HIx 1) (N := rowCredit) 1 ((rowCredit_eq _).trans (Nat.one_mul _).symm)
    (D := landed d i ts q) (j := 26) (u := rowCredit * k)
    (by rw [Nat.one_mul, ← Nat.mul_succ]; exact Nat.mul_le_mul_left _ hk)) $$ [HB HO]
  · isplitl [HB]; · iexact HB
    isplitl [HO]; · iexact HO
    iapply (Transfers.MayWaits.elim (SemLoc.dma cc0_scratch6.sem)); iexact Hmw
  iintro ⟨HB, HO⟩
  ihave HO := (owing_intro d i hW' (SemLoc.dma cc0_scratch6.sem)) $$ HO
  rw [wp_ret]; imodintro
  unfold owing
  isplitl []; · iexact Hmw
  isplitl [HB]; · rw [Nat.mul_succ]; rw [Nat.one_mul]; iexact HB
  iexact HO

end Cert.Proof

end
-- ==== Proof.Tile.lean ====
/-
  A tile's whole task: fetch, wait, bin, then fill and send a hundred pairs of blocks.
-/
module

public import proofs.«01_k».proof.Proof.Fetching

@[expose] public section

noncomputable section

namespace Cert.Proof

open Cert.KernelIdeal Cert.KernelIdeal.Gen
open Idealize.ShloMosaic Idealize.ShloMosaic.ValueIdx
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## A tile's own semaphores and buffers -/

/-- Four members taken out of a separating conjunction. -/
theorem bigSep_four {I : Type} [DecidableEq I] (s : Finset I) (Φ : I → sProp (MM F)) {a b c e : I} (ha : a ∈ s) (hb : b ∈ s) (hc : c ∈ s) (he : e ∈ s)
    (hba : b ≠ a) (hca : c ≠ a) (hcb : c ≠ b) (hea : e ≠ a) (heb : e ≠ b) (hec : e ≠ c) :
    ∃ R : sProp (MM F), bigSep s Φ = iprop(Φ a ∗ Φ b ∗ Φ c ∗ Φ e ∗ R) :=
  ⟨bigSep ((((s.erase a).erase b).erase c).erase e) Φ, by
    rw [SparseCore.bigSep_erase' ha, SparseCore.bigSep_erase' (Finset.mem_erase.mpr ⟨hba, hb⟩),
      SparseCore.bigSep_erase' (Finset.mem_erase.mpr ⟨hcb, Finset.mem_erase.mpr ⟨hca, hc⟩⟩),
      SparseCore.bigSep_erase' (Finset.mem_erase.mpr ⟨hec, Finset.mem_erase.mpr ⟨heb, Finset.mem_erase.mpr ⟨hea, he⟩⟩⟩)]⟩

/-- One of a tile's semaphores, at zero. -/
abbrev idle (F : FTy → Type) (d : Dev nD) (i : grid0.Coords) (s : DmaSem sig) : sProp (MM F) := semVal (th d i, SemLoc.dma s) 0

theorem ownSems0_tile (d : Dev nD) (i : grid0.Coords) :
    ∃ R : sProp (MM F), (ownSems0 (th d i) : sProp (MM F))
      = iprop(idle F d i cc0_scratch4.sem ∗ idle F d i cc0_scratch5.sem ∗ idle F d i cc0_scratch6.sem ∗ idle F d i cc0_scoped0.sem ∗ R) := by
  have own : ∀ s : DmaSem sig, (SemLoc.dma s : SemLoc sig).isScoped .scVector = true → ((th d i, SemLoc.dma s) : GSem nD τ sig) ∈ ownCells (th d i) :=
    fun s h => mem_ownCells.mpr ⟨rfl, h⟩
  have ne : ∀ s s' : DmaSem sig, s ≠ s' → ((th d i, SemLoc.dma s) : GSem nD τ sig) ≠ (th d i, SemLoc.dma s') :=
    fun s s' h e => h (SemLoc.dma.inj (Prod.mk.inj e).2)
  exact bigSep_four _ (fun g => semVal g 0) (own _ (by decide)) (own _ (by decide)) (own _ (by decide)) (own _ (by decide))
    (ne _ _ (by decide)) (ne _ _ (by decide)) (ne _ _ (by decide)) (ne _ _ (by decide)) (ne _ _ (by decide)) (ne _ _ (by decide))

/-- One of a tile's buffers, whatever it holds. -/
abbrev scratch (F : FTy → Type) (d : Dev nD) (i : grid0.Coords) (b : Ref sig .scVector) : sProp (MM F) :=
  iprop(∃ f : Buf (Elt F) ((th d i).loc b), (th d i).loc b ↦{fullShare} f)

theorem ownBufs_tile (d : Dev nD) (i : grid0.Coords) :
    ∃ R : sProp (MM F), (ownBufs (th d i) : sProp (MM F))
      = iprop(scratch F d i cc0_scratch0 ∗ scratch F d i cc0_scratch1 ∗ scratch F d i cc0_scratch2 ∗ scratch F d i cc0_scratch3 ∗ R) := by
  have ne : ∀ b b' : Ref sig .scVector, b ≠ b' → (tileProc i).devRef b ≠ (tileProc i).devRef b' := fun b b' h e => h (Proc.devRef_injective _ e)
  exact bigSep_four _ (fun b => iprop(∃ f, ((d, b) : Loc nD τ sig) ↦{fullShare} f))
    (SparseCore.Cfg.mem_ownRefs_of_owner (p := tileProc i) (b := (tileProc i).devRef cc0_scratch0) rfl)
    (SparseCore.Cfg.mem_ownRefs_of_owner (p := tileProc i) (b := (tileProc i).devRef cc0_scratch1) rfl)
    (SparseCore.Cfg.mem_ownRefs_of_owner (p := tileProc i) (b := (tileProc i).devRef cc0_scratch2) rfl)
    (SparseCore.Cfg.mem_ownRefs_of_owner (p := tileProc i) (b := (tileProc i).devRef cc0_scratch3) rfl)
    (ne cc0_scratch1 cc0_scratch0 (by decide)) (ne cc0_scratch2 cc0_scratch0 (by decide)) (ne cc0_scratch2 cc0_scratch1 (by decide))
    (ne cc0_scratch3 cc0_scratch0 (by decide)) (ne cc0_scratch3 cc0_scratch1 (by decide)) (ne cc0_scratch3 cc0_scratch2 (by decide))

/-! ## The buffers cut up -/

theorem halves_disjoint : Disjoint (half 0).view.set (half 1).view.set :=
  Finset.disjoint_left.mpr fun y h0 h1 => absurd (((mem_half 0 y).mp h0).symm.trans ((mem_half 1 y).mp h1)) (by decide)

theorem halves_cover : (half 0).view.set ∪ (half 1).view.set = Finset.univ := by
  refine Finset.eq_univ_iff_forall.mpr fun y => Finset.mem_union.mpr ?_
  have h : (y 0).val < 2 := (y 0).isLt
  rcases Nat.lt_or_ge (y 0).val 1 with h' | h'
  · exact .inl ((mem_half 0 y).mpr (Nat.lt_one_iff.mp h'))
  · exact .inr ((mem_half 1 y).mpr (Nat.le_antisymm (Nat.lt_succ_iff.mp h) h'))

theorem stage_cut (d : Dev nD) (i : grid0.Coords) : scratch F d i cc0_scratch3 ⊢ iprop(stageAny F d i 0 ∗ stageAny F d i 1) := by
  iintro ⟨%f, H⟩
  have e : ((th d i).loc cc0_scratch3 ↦{fullShare} f : sProp (MM F)) = (stageV.view.loc (th d i) ↦[(half 0).view.set ∪ (half 1).view.set]{fullShare} f) := by
    rw [halves_cover]
  ihave H := (Entails.of_eq e) $$ H
  ihave ⟨H0, H1⟩ := (pointsTo_union halves_disjoint).1 $$ H
  unfold stageAny
  isplitl [H0] <;> iexists f <;> iassumption

theorem stage_joined (d : Dev nD) (i : grid0.Coords) : iprop(stageAny F d i 0 ∗ stageAny F d i 1) ⊢ scratch F d i cc0_scratch3 := by
  unfold stageAny
  iintro ⟨⟨%f, H0⟩, %g, H1⟩
  ihave H := (pointsTo_join (ℓ := stageV.view.loc (th d i)) (I := (half 0).view.set) (J := (half 1).view.set) halves_disjoint) $$ [H0 H1]
  · isplitl [H0] <;> iassumption
  rw [halves_cover]
  iexists _; iexact H

theorem rowDsts_disjoint : ∀ r ∈ (Finset.univ : Finset (Fin 26)), ∀ r' ∈ (Finset.univ : Finset (Fin 26)), r ≠ r' → Disjoint (rowDst r).view.set (rowDst r').view.set :=
  fun r _ r' _ h => Finset.disjoint_left.mpr fun y h0 h1 => by
    obtain ⟨a, b⟩ := (mem_rowDst r y).mp h0
    obtain ⟨a', b'⟩ := (mem_rowDst r' y).mp h1
    exact h (Fin.ext (by omega))

theorem rowDsts_cover : (Finset.univ : Finset (Fin 26)).biUnion (fun r => ((rowDst r).view.set : Finset S26624.Idx)) = (Finset.univ : Finset S26624.Idx) := by
  refine Finset.eq_univ_iff_forall.mpr fun y => Finset.mem_biUnion.mpr ?_
  have h : (y 0).val < 26624 := (y 0).isLt
  refine ⟨⟨(y 0).val / 1024, by omega⟩, Finset.mem_univ _, ?_⟩
  refine (mem_rowDst _ y).mpr ⟨?_, ?_⟩
  · show 1024 * ((y 0).val / 1024) ≤ _; omega
  · show _ < 1024 * ((y 0).val / 1024) + 1024; omega

theorem rows_cut (d : Dev nD) (i : grid0.Coords) (f : Buf (Elt F) (tsV.view.loc (th d i))) :
    (tsV.view.loc (th d i) ↦{fullShare} f : sProp (MM F)) = bigSep Finset.univ fun r : Fin 26 => tsV.view.loc (th d i) ↦[(rowDst r).view.set]{fullShare} f := by
  have e := pointsTo_biUnion (ℓ := tsV.view.loc (th d i)) (q := fullShare) (f := f) (Ix := HIx 1) (Name := ℕ) (U := UU) (Lvl := ℕ)
    Finset.univ (fun r : Fin 26 => (rowDst r).view.set) rowDsts_disjoint
  rw [show (Finset.univ : Finset (Fin 26)).biUnion (fun r => (rowDst r).view.set) = (Finset.univ : Finset (Idx (tsV.view.loc (th d i)))) from rowDsts_cover] at e
  exact e

theorem rowSrcs_disjoint (i : grid0.Coords) :
    ∀ r ∈ (Finset.univ : Finset (Fin 26)), ∀ r' ∈ (Finset.univ : Finset (Fin 26)), r ≠ r' → Disjoint (rowSrc i r).view.set (rowSrc i r').view.set :=
  fun r _ r' _ h => Finset.disjoint_left.mpr fun y h0 h1 => by
    obtain ⟨a, b⟩ := (mem_rowSrc i r y).mp h0
    obtain ⟨a', b'⟩ := (mem_rowSrc i r' y).mp h1
    refine h (Fin.ext ?_)
    generalize row₀ i = R at *
    generalize quarter i = Q at *
    omega

/-- The timestamps' rows a tile reads, and the rest of the share it reads through. -/
theorem srcs_cut (d : Dev nD) (i : grid0.Coords) (ts : Vec F S823296 .f32) (q : PosShare TreeShare) :
    ∃ R : sProp (MM F), (tsA.view.loc (th d i) ↦{q} (ts : Buf (Elt F) (tsA.view.loc (th d i))) : sProp (MM F))
      ⊣⊢ iprop((bigSep Finset.univ fun r : Fin 26 => tsA.view.loc (th d i) ↦[(rowSrc i r).view.set]{q} (ts : Buf (Elt F) (tsA.view.loc (th d i)))) ∗ R) := by
  have h := pointsTo_split_subset (ℓ := tsA.view.loc (th d i)) (q := q) (f := (ts : Buf (Elt F) (tsA.view.loc (th d i)))) (Ix := HIx 1) (Name := ℕ) (U := UU) (Lvl := ℕ)
    (Finset.subset_univ ((Finset.univ : Finset (Fin 26)).biUnion fun r => (rowSrc i r).view.set))
  rw [pointsTo_biUnion (ℓ := tsA.view.loc (th d i)) Finset.univ (fun r : Fin 26 => (rowSrc i r).view.set) (rowSrcs_disjoint i)] at h
  exact ⟨_, h⟩

/-! ## The task -/

/-- What a tile is handed and gives back: shares to read the timestamps and the table, and its blocks of the result, those
    of its first `n` trips done. -/
@[irreducible] def payload (d : Dev nD) (i : grid0.Coords) (ts : Vec F S823296 .f32) (tab : Vec F S6565 .f32) (q q' : PosShare TreeShare) (n : ℕ) : sProp (MM F) :=
  iprop((tsA.view.loc (th d i) ↦{q} (ts : Buf (Elt F) (tsA.view.loc (th d i)))) ∗ (tabA.view.loc (th d i) ↦{q'} (tab : Buf (Elt F) (tabA.view.loc (th d i))))
    ∗ blocksHeld d i ts tab n)

theorem table_whole (d : Dev nD) (i : grid0.Coords) (tab : Vec F S6565 .f32) (q' : PosShare TreeShare) :
    (tabA.view.loc (th d i) ↦[tabA.view.set]{q'} (tab : Buf (Elt F) (tabA.view.loc (th d i))) : sProp (MM F))
      = (tabA.view.loc (th d i) ↦{q'} (tab : Buf (Elt F) (tabA.view.loc (th d i)))) := by
  rw [show tabA.view.set = Finset.univ from View.set_whole _]

theorem table_written (d : Dev nD) (i : grid0.Coords) (f : Buf (Elt F) (tabV.view.loc (th d i))) (tab : Vec F S6565 .f32) :
    tabV.view.write (Elt F) f (tabA.view.read (Elt F) (tab : Buf (Elt F) (tabA.view.loc (th d i)))) Finset.univ = tab := by
  exact (View.write_whole_univ _ _ _).trans (View.read_whole _ _)

/-- The task. -/
theorem wp_tile (d : Dev nD) (i : grid0.Coords) (ts : Vec F S823296 .f32) (tab : Vec F S6565 .f32) (q q' : PosShare TreeShare)
    (O : CellTallies nD τ sig (HIx 1)) (W : Waits sig (HIx 1)) (hO : ∀ g, O g none = 0) :
    iprop(levAts (K (F := F)).L (K (F := F)).lev ∗ payload d i ts tab q q' 0 ∗ scopedBufs (th d i) ∗ scopedSems0 (th d i) ∗ owes (th d i) O W)
      ⊢ wp frame (wpE (defs₀ (F := F)) 𝒱₀ (th d i) none) Set.univ (tileProg i)
          fun _ => iprop(payload d i ts tab q q' 100 ∗ scopedBufs (th d i) ∗ scopedSems0 (th d i)
            ∗ ∃ W', ⌜∀ p ∈ W', p ∈ W ∨ p.2 = none⌝ ∗ owes (th d i) O W') := by
  obtain ⟨Rb, hb⟩ := ownBufs_tile (F := F) d i
  obtain ⟨Rs, hs⟩ := ownSems0_tile (F := F) d i
  obtain ⟨Rt, ht⟩ := srcs_cut d i ts q
  rw [(K (F := F)).scopedBufs_V facts d _ _, SparseCore.Cfg.scopedSems0_V (Val := Elt F) d _ _, hs, hb]
  unfold payload
  iintro ⟨#Hlv, ⟨Hts, Htab, Hblk⟩, ⟨⟨%f0, H0⟩, ⟨%f1, H1⟩, ⟨%f2, H2⟩, H3, Hbufs⟩, ⟨Hm4, Hm5, Hm6, Hm7, Hsems⟩, HO⟩
  ihave #Hmw := ((K (F := F)).mayWaits_none (thr := th d i) hO) $$ Hlv
  unfold tileProg
  -- the rows' copies issued
  ihave ⟨Hsrc, Hrest⟩ := ht.1 $$ Hts
  ihave Hdst := (Entails.of_eq (rows_cut d i f0)) $$ H0
  imod (Transfers.batch_alloc' EC (th d i) (none : HIx 1) rowCredit (landed d i ts q) (E := Set.univ)) $$ Hm6 with HB
  rw [wp_bind]
  iapply (wp_wand _ _ _ (p := (steps (fun k => issueStep i (Fin.ofNat 26 k)) 26 0 : TileProg F i Unit))) $$ [Hsrc Hdst HB]
  · have h := wp_steps (fun k => issueStep (F := F) i (Fin.ofNat 26 k)) (issuing d i ts q f0) 26 (wp_issueStep d i ts q f0) 26 0 (le_refl _)
    iapply h
    unfold issuing rowRead rowCopy
    rw [← Transfers.bigSep_pending_zero, bigSep_sep']
    isplitl [Hsrc Hdst]
    · isplitl [Hsrc]; · iexact Hsrc
      iexact Hdst
    iexact HB
  iintro %_ HI
  unfold issuing
  icases HI with ⟨-, HB⟩
  -- the table
  simp only [Prog.lift, Prog.bind_op, Prog.bind_ret]
  ihave Htab := (Entails.of_eq (table_whole d i tab q').symm) $$ Htab
  iapply (Transfers.wp_dmaLocal EC 𝒱₀ (th d i) none (src := tabA) (dst := tabV) (via := .same) (q := q')
    (fs := (tab : Buf (Elt F) (tabA.view.loc (th d i)))) (fd := f2) (Sd := Finset.univ)
    (none : HIx 1) (tabV.view.dmaCredit) rfl (View.dmaCredit_pos _ (by decide)) (Finset.subset_univ _)) $$ [Htab H2 Hm7]
  · isplitl [Htab]; · iexact Htab
    isplitl [H2]; · iexact H2
    iexact Hm7
  iintro Hf
  iapply (Transfers.wp_waitLocalO EC 𝒱₀ (th d i) none (none : HIx 1) rfl) $$ [Hf HO]
  · isplitl [Hf]; · iexact Hf
    isplitl [HO]; · iexact HO
    iapply (Transfers.MayWaits.elim (SemLoc.dma cc0_scoped0.sem)); iexact Hmw
  iintro ⟨⟨H2, Htab⟩, Hm7, HO⟩
  ihave Htab := (Entails.of_eq (table_whole d i tab q')) $$ Htab
  ihave HO := (owing_intro d i (W := W) (fun p hp => .inl hp) (SemLoc.dma cc0_scoped0.sem)) $$ HO
  -- the rows' copies waited for
  rw [wp_bind]
  iapply (wp_wand _ _ _ (p := (steps (fun k => awaitStep i (Fin.ofNat 26 k)) 26 0 : TileProg F i Unit))) $$ [HB HO]
  · have h := wp_steps (fun k => awaitStep (F := F) i (Fin.ofNat 26 k)) (awaiting d i ts q O W) 26 (wp_awaitStep d i ts q O W) 26 0 (le_refl _)
    iapply h
    unfold awaiting
    isplitl []; · iexact Hmw
    isplitl [HB]; · rw [Nat.mul_zero]; iexact HB
    iexact HO
  iintro %_ HI
  unfold awaiting
  icases HI with ⟨-, HB, HO⟩
  imod (Transfers.batch_collect' EC (th d i) rowCredit_pos) $$ HB with ⟨HD, Hm6⟩
  ihave HD := (Entails.of_eq (bigSep_sep' (Finset.univ : Finset (Fin 26)) _ _)) $$ HD
  icases HD with ⟨Hdst, Hsrc⟩
  ihave H0 := (Entails.of_eq (rows_cut d i (tileTs i ts)).symm) $$ Hdst
  ihave Hts := ht.2 $$ [Hsrc Hrest]
  · isplitl [Hsrc] <;> iassumption
  -- the bins
  rw [wp_bind]
  iapply (wp_wand _ _ _ (p := (Scf.Loop.for k0_t1_loop k0_t1_ok ⟨⟩ (fun k _ => steps (fun j => binStep i k (Fin.ofNat 64 j)) 64 0) : TileProg F i Unit))) $$ [H0 H1]
  · iapply (wp_binLoop d i ts)
    unfold tsHeld posHeld
    isplitl [H0]; · iexact H0
    iexists f1
    isplitr; · ipureintro; exact fun y h => absurd h (Nat.not_lt_zero _)
    iexact H1
  iintro %_ ⟨H0, H1⟩
  -- the pairs
  ihave ⟨Hs0, Hs1⟩ := (stage_cut d i) $$ H3
  rw [wp_bind]
  iapply (wp_wand _ _ _ (p := (Scf.Loop.for k0_t2_loop k0_t2_ok ⟨⟩ (fun p _ => pairTrip i p) : TileProg F i Unit))) $$ [H1 H2 Hs0 Hs1 Hm4 Hm5 HO Hblk]
  · iapply (wp_pairLoop d i ts tab O W)
    isplitr [Hblk]; swap; · iexact Hblk
    unfold working
    isplitl []; · iexact Hmw
    isplitl [H1]; · iexact H1
    isplitl [H2]
    · unfold tabHeld
      iapply (Entails.of_eq (congrArg (fun g => (tabV.view.loc (th d i) ↦{fullShare} g : sProp (MM F))) (table_written d i f2 tab)))
      iexact H2
    isplitl [Hs0]; · iexact Hs0
    isplitl [Hs1]; · iexact Hs1
    isplitl [Hm4]; · iexact Hm4
    isplitl [Hm5]; · iexact Hm5
    iexact HO
  iintro %_ ⟨HW, Hblk⟩
  unfold working
  icases HW with ⟨-, H1, H2, Hs0, Hs1, Hm4, Hm5, HO⟩
  ihave H3 := (stage_joined d i) $$ [Hs0 Hs1]
  · isplitl [Hs0] <;> iassumption
  rw [wp_pure]; imodintro
  unfold tsHeld posHeld tabHeld owing
  icases H1 with ⟨%g1, -, H1⟩
  isplitl [Hts Htab Hblk]
  · isplitl [Hts]; · iexact Hts
    isplitl [Htab]; · iexact Htab
    iexact Hblk
  isplitl [H0 H1 H2 H3 Hbufs]
  · isplitl [H0]; · iexists _; iexact H0
    isplitl [H1]; · iexists _; iexact H1
    isplitl [H2]; · iexists _; iexact H2
    isplitl [H3]; · iexact H3
    iexact Hbufs
  isplitl [Hm4 Hm5 Hm6 Hm7 Hsems]
  · isplitl [Hm4]; · iexact Hm4
    isplitl [Hm5]; · iexact Hm5
    isplitl [Hm6]; · iexact Hm6
    isplitl [Hm7]; · iexact Hm7
    iexact Hsems
  iexact HO

end Cert.Proof

end
-- ==== Proof.Deal.lean ====
/-
  The arrays dealt to the tiles: the result cut into every tile's blocks, the timestamps and the table into shares to read.
-/
module

public import proofs.«01_k».proof.Proof.Tile

@[expose] public section

noncomputable section

namespace Cert.Proof

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The SparseCore and the tile in it. -/
abbrev Place : Type := Fin 2 × Fin 16
abbrev at' (x : Place) : grid0.Coords := coords x.1 x.2

/-- The timestamps, the table and the result in the device's memory. -/
abbrev tsLoc (d : Dev nD) : Loc nD τ sig := (SparseCore.T d).loc main_v7
abbrev tabLoc (d : Dev nD) : Loc nD τ sig := (SparseCore.T d).loc main_v5
abbrev outLoc (d : Dev nD) : Loc nD τ sig := (SparseCore.T d).loc main_v8

/-- A block's number: its tile, its trip, its half. -/
abbrev BlockNo : Type := Place × (Fin k0_t2_loop.trips × Fin 2)
/-- A block's elements. -/
def blockSet (n : BlockNo) : Finset S200x8x32x8x128.Idx := (block n.2.2 (at' n.1) n.2.1).view.set

theorem trip_lt (p : Fin k0_t2_loop.trips) : p.val < 100 := lt_of_lt_of_eq p.isLt trips_t2

theorem mem_blockSet (n : BlockNo) (z : S200x8x32x8x128.Idx) :
    z ∈ blockSet n ↔ (z 0).val = 25 * ((2 * n.1.2.val + n.1.1.val) / 4) + n.2.1.val / 4
      ∧ (z 2).val = 8 * ((2 * n.1.2.val + n.1.1.val) % 4) + 2 * (n.2.1.val % 4) + n.2.2.val := mem_block n.2.2 (at' n.1) n.2.1 z

theorem blocks_disjoint : ∀ n ∈ (Finset.univ : Finset BlockNo), ∀ n' ∈ (Finset.univ : Finset BlockNo), n ≠ n' → Disjoint (blockSet n) (blockSet n') := by
  rintro ⟨⟨c, s⟩, p, b⟩ - ⟨⟨c', s'⟩, p', b'⟩ - h
  refine Finset.disjoint_left.mpr fun z h1 h2 => h ?_
  obtain ⟨a1, a2⟩ := (mem_blockSet _ z).mp h1
  obtain ⟨a3, a4⟩ := (mem_blockSet _ z).mp h2
  have hp := trip_lt p
  have hp' := trip_lt p'
  have hb := b.isLt
  have hb' := b'.isLt
  have hc := c.isLt
  have hc' := c'.isLt
  simp only at a1 a2 a3 a4
  generalize (z 0).val = l at *
  generalize (z 2).val = t at *
  have e1 : 2 * s.val + c.val = 2 * s'.val + c'.val := by omega
  have e2 : p.val = p'.val := by omega
  have e3 : b.val = b'.val := by omega
  have e4 : c.val = c'.val := by omega
  have e5 : s.val = s'.val := by omega
  rw [Fin.ext e2, Fin.ext e3, Fin.ext e4, Fin.ext e5]

theorem block_of (z : S200x8x32x8x128.Idx) : ∃ n : BlockNo, z ∈ blockSet n := by
  have h0 : (z 0).val < 200 := (z 0).isLt
  have h2 : (z 2).val < 32 := (z 2).isLt
  generalize e0 : (z 0).val = l at h0
  generalize e2 : (z 2).val = t at h2
  refine ⟨((⟨(4 * (l / 25) + t / 8) % 2, by omega⟩, ⟨(4 * (l / 25) + t / 8) / 2, by omega⟩),
    (⟨4 * (l % 25) + t % 8 / 2, lt_of_lt_of_eq (show _ < 100 by omega) trips_t2.symm⟩, ⟨t % 2, by omega⟩)), ?_⟩
  refine (mem_blockSet _ z).mpr ⟨?_, ?_⟩
  · rw [e0]; dsimp only; omega
  · rw [e2]; dsimp only; omega

theorem blocks_cover : (Finset.univ : Finset BlockNo).biUnion blockSet = (Finset.univ : Finset S200x8x32x8x128.Idx) := by
  ext z
  obtain ⟨n, h⟩ := block_of z
  simp only [Finset.mem_biUnion, Finset.mem_univ, true_and, iff_true]
  exact ⟨n, h⟩

/-- The result's array is its blocks. -/
theorem out_cut (d : Dev nD) (f : Buf (Elt F) (outLoc d)) :
    (outLoc d ↦{fullShare} f : sProp (MM F))
      = bigSep (Finset.univ : Finset Place) fun x => iprop(
          (bigSep (Finset.univ : Finset (Fin k0_t2_loop.trips)) fun p => outLoc d ↦[(block 0 (at' x) p).view.set]{fullShare} f)
          ∗ bigSep (Finset.univ : Finset (Fin k0_t2_loop.trips)) fun p => outLoc d ↦[(block 1 (at' x) p).view.set]{fullShare} f) := by
  have e := pointsTo_biUnion (ℓ := outLoc d) (q := fullShare) (f := f) (Ix := HIx 1) (Name := ℕ) (U := UU) (Lvl := ℕ)
    Finset.univ (fun n : BlockNo => blockSet n) blocks_disjoint
  rw [show (Finset.univ : Finset BlockNo).biUnion (fun n => blockSet n) = (Finset.univ : Finset (Idx (outLoc d))) from blocks_cover] at e
  rw [e, bigSep_univ_prod]
  refine bigSep_congr fun x _ => ?_
  rw [bigSep_univ_prod, ← bigSep_sep']
  refine bigSep_congr fun p _ => ?_
  rw [show (Finset.univ : Finset (Fin 2)) = {0, 1} by decide, SparseCore.bigSep_insert' (by decide), bigSep_singleton]
  rfl

/-- The share of the timestamps and of the table a tile reads through. -/
def share (x : Place) : PosShare TreeShare :=
  Transfers.dealOf (Transfers.dealOf fullShare Finset.univ x.1) Finset.univ x.2

theorem read_cut {ℓ : Loc nD τ sig} (f : Buf (Elt F) ℓ) :
    (ℓ ↦{fullShare} f : sProp (MM F)) = bigSep (Finset.univ : Finset Place) fun x => ℓ ↦{share x} f := by
  rw [Transfers.pointsTo_deal (Finset.univ : Finset (Fin 2)) ⟨0, Finset.mem_univ _⟩ fullShare, bigSep_univ_prod]
  refine bigSep_congr fun c _ => ?_
  exact Transfers.pointsTo_deal (Finset.univ : Finset (Fin 16)) ⟨0, Finset.mem_univ _⟩ _

/-- A tile's payload at its place. -/
abbrev handed (d : Dev nD) (ts : Vec F S823296 .f32) (tab : Vec F S6565 .f32) (n : ℕ) (x : Place) : sProp (MM F) :=
  payload d (at' x) ts tab (share x) (share x) n

/-- A block in any state, -/
theorem block_any (d : Dev nD) (x : Place) (b : Fin 2) (f : Buf (Elt F) (outLoc d)) (p : Fin k0_t2_loop.trips) :
    (outLoc d ↦[(block b (at' x) p).view.set]{fullShare} f : sProp (MM F)) ⊢ blockAny F d (at' x) b p := by
  unfold blockAny
  iintro H; iexists f; iexact H

theorem blocks_any (d : Dev nD) (x : Place) (b : Fin 2) (f : Buf (Elt F) (outLoc d)) :
    (bigSep (Finset.univ : Finset (Fin k0_t2_loop.trips)) fun p => (outLoc d ↦[(block b (at' x) p).view.set]{fullShare} f : sProp (MM F)))
      ⊢ bigSep (Finset.univ : Finset (Fin k0_t2_loop.trips)) fun p => blockAny F d (at' x) b p :=
  bigSep_mono fun p _ => block_any d x b f p

/-- a tile's share of the three arrays is its payload, -/
theorem handed_intro (d : Dev nD) (ts : Vec F S823296 .f32) (tab : Vec F S6565 .f32) (f : Buf (Elt F) (outLoc d)) (x : Place) :
    (iprop((tsLoc d ↦{share x} (ts : Buf (Elt F) (tsLoc d))) ∗ (tabLoc d ↦{share x} (tab : Buf (Elt F) (tabLoc d)))
        ∗ (bigSep (Finset.univ : Finset (Fin k0_t2_loop.trips)) fun p => outLoc d ↦[(block 0 (at' x) p).view.set]{fullShare} f)
        ∗ bigSep (Finset.univ : Finset (Fin k0_t2_loop.trips)) fun p => outLoc d ↦[(block 1 (at' x) p).view.set]{fullShare} f) : sProp (MM F))
      ⊢ handed d ts tab 0 x := by
  unfold handed payload blocksHeld
  simp only [Nat.not_lt_zero, ↓reduceIte]
  iintro ⟨Ht, Hb, H0, H1⟩
  isplitl [Ht]; · iexact Ht
  isplitl [Hb]; · iexact Hb
  isplitl [H0]
  · iapply (blocks_any d x 0 f); iexact H0
  · iapply (blocks_any d x 1 f); iexact H1

/-- and so is, at the end, the payload that share. -/
theorem handed_elim (d : Dev nD) (ts : Vec F S823296 .f32) (tab : Vec F S6565 .f32) (x : Place) :
    handed d ts tab 100 x
      ⊢ (iprop((tsLoc d ↦{share x} (ts : Buf (Elt F) (tsLoc d))) ∗ (tabLoc d ↦{share x} (tab : Buf (Elt F) (tabLoc d)))
        ∗ (bigSep (Finset.univ : Finset (Fin k0_t2_loop.trips)) fun p => outLoc d ↦[(block 0 (at' x) p).view.set]{fullShare} (result ts tab : Buf (Elt F) (outLoc d)))
        ∗ bigSep (Finset.univ : Finset (Fin k0_t2_loop.trips)) fun p => outLoc d ↦[(block 1 (at' x) p).view.set]{fullShare} (result ts tab : Buf (Elt F) (outLoc d))) : sProp (MM F)) := by
  unfold handed payload blocksHeld blockDone
  simp only [trip_lt, ↓reduceIte]
  exact BI.Entails.refl _

/-- The three arrays deal every tile its payload, -/
theorem deal (d : Dev nD) (ts : Vec F S823296 .f32) (tab : Vec F S6565 .f32) (f : Buf (Elt F) (outLoc d)) :
    (iprop((tsLoc d ↦{fullShare} (ts : Buf (Elt F) (tsLoc d))) ∗ (tabLoc d ↦{fullShare} (tab : Buf (Elt F) (tabLoc d))) ∗ outLoc d ↦{fullShare} f) : sProp (MM F))
      ⊢ bigSep Finset.univ (handed d ts tab 0) := by
  rw [read_cut, read_cut, out_cut, ← bigSep_sep', ← bigSep_sep']
  exact bigSep_mono fun x _ => handed_intro d ts tab f x

/-- and the payloads given back, every block done, are the three arrays, the result's at the kernel's result. -/
theorem collect (d : Dev nD) (ts : Vec F S823296 .f32) (tab : Vec F S6565 .f32) :
    bigSep Finset.univ (handed d ts tab 100)
      ⊢ (iprop((tsLoc d ↦{fullShare} (ts : Buf (Elt F) (tsLoc d))) ∗ (tabLoc d ↦{fullShare} (tab : Buf (Elt F) (tabLoc d)))
          ∗ outLoc d ↦{fullShare} (result ts tab : Buf (Elt F) (outLoc d))) : sProp (MM F)) := by
  rw [read_cut, read_cut, out_cut, ← bigSep_sep', ← bigSep_sep']
  exact bigSep_mono fun x _ => handed_elim d ts tab x

end Cert.Proof

end
-- ==== Proof.Launch.lean ====
/-
  The program's run: the host operations before the call, the call on every tile, the host operations after it.
-/
module

public import proofs.«01_k».proof.Proof.Deal
public import Idealize.ShloMosaic.Lib.Pipeline.Frame

@[expose] public section

noncomputable section

namespace Cert.Proof

open Cert.KernelIdeal Cert.KernelIdeal.Gen
open Idealize.ShloMosaic Idealize.ShloMosaic.ValueIdx Idealize.ShloMosaic.Rounds
open Idealize.ShloMosaic.SparseCore (S V T)
open Idealize.ShloMosaic.SparseCore.Cfg (HIx Pay)
open Idealize.ShloMosaic.StableHlo (held held_sub_split held_congr after seq wp_seq launchContents)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The host's operations -/

/-- The host operations before the call. -/
abbrev opsBefore : List (HloOp τ sig (Elt F)) :=
  [StableHlo.unary main_arg3 main_v0 ((transpose S101x64 [1, 0] · transposes_S64x101_S101x64_1_0) : (⟨S64x101, .f32⟩ : BufTy).Contents (Elt F) → (⟨S101x64, .f32⟩ : BufTy).Contents (Elt F)),
   StableHlo.unary main_arg4 main_v1 (broadcastInDim S1x64 ![1] bcast_S64_S1x64_1 : (⟨S64, .f32⟩ : BufTy).Contents (Elt F) → (⟨S1x64, .f32⟩ : BufTy).Contents (Elt F)),
   StableHlo.unary main_v1 main_v2 (broadcastInDim S101x64 ![0, 1] bcast_S1x64_S101x64_0_1 : (⟨S1x64, .f32⟩ : BufTy).Contents (Elt F) → (⟨S101x64, .f32⟩ : BufTy).Contents (Elt F)),
   StableHlo.binary main_v0 main_v2 main_v3 (addf : (⟨S101x64, .f32⟩ : BufTy).Contents (Elt F) → (⟨S101x64, .f32⟩ : BufTy).Contents (Elt F) → (⟨S101x64, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v3 : StableHlo.TRef sig ⟨S101x64, .f32⟩) main_call0.v0 main_call0.v1 (fun x v => pad S101x65 ![0, 0] ![0, 1] ![0, 0] x v pads_S101x64_S101x65_000_010 h_S_),
   StableHlo.reshape main_v4 main_v5 (rfl : (.f32 : EltTy) = .f32) shapeCasts_S101x65_S6565,
   StableHlo.unary main_arg1 main_v6 ((transpose S201x4096 [1, 0] · transposes_S4096x201_S201x4096_1_0) : (⟨S4096x201, .f32⟩ : BufTy).Contents (Elt F) → (⟨S201x4096, .f32⟩ : BufTy).Contents (Elt F)),
   StableHlo.reshape main_v6 main_v7 (rfl : (.f32 : EltTy) = .f32) shapeCasts_S201x4096_S823296]

/-- The host operations after the call. -/
abbrev opsAfter : List (HloOp τ sig (Elt F)) :=
  [StableHlo.unary main_v8 main_v9 ((transpose S32x128x200x8x8 [2, 4, 0, 1, 3] · transposes_S200x8x32x8x128_S32x128x200x8x8_2_4_0_1_3) : (⟨S200x8x32x8x128, .f32⟩ : BufTy).Contents (Elt F) → (⟨S32x128x200x8x8, .f32⟩ : BufTy).Contents (Elt F)),
   StableHlo.reshape main_v9 main_v10 (rfl : (.f32 : EltTy) = .f32) shapeCasts_S32x128x200x8x8_S4096x200x64,
   StableHlo.unary main_arg1 main_v11 ((extractStridedSlice S4096x200 ![0, 0] · slices_S4096x201_S4096x200_0_0) : (⟨S4096x201, .f32⟩ : BufTy).Contents (Elt F) → (⟨S4096x200, .f32⟩ : BufTy).Contents (Elt F))]

theorem main_eq (d : Dev nD) : main (F := F) d = seq opsBefore >>= fun _ => sc.run d 0 >>= fun _ => seq opsAfter >>= fun _ => pure ⟨⟩ := rfl

abbrev tsRef : DevRef τ sig := Proc.devRef .tc (main_v7 : Ref sig .tc)
abbrev tabRef : DevRef τ sig := Proc.devRef .tc (main_v5 : Ref sig .tc)
abbrev outRef : DevRef τ sig := Proc.devRef .tc (main_v8 : Ref sig .tc)

variable (m : (ℓ : Loc nD τ sig) → Buf (Elt F) ℓ) (ρ : Dev nD → PrngReg)

/-- What the device's arrays hold at the call, -/
def atCall (d : Dev nD) : Valuation τ sig (Elt F) := after opsBefore (launchContents m d)
/-- the timestamps and the table among them, -/
abbrev tsAt (d : Dev nD) : Vec F S823296 .f32 := atCall m d tsRef
abbrev tabAt (d : Dev nD) : Vec F S6565 .f32 := atCall m d tabRef
/-- after it, -/
def atReturn (d : Dev nD) : Valuation τ sig (Elt F) := Function.update (atCall m d) outRef (result (tsAt m d) (tabAt m d))
/-- and at the end. -/
def atEnd (d : Dev nD) : Valuation τ sig (Elt F) := after opsAfter (atReturn m d)

/-! ## What the call hands over -/

instance payload_storable (d : Dev nD) (i : grid0.Coords) (ts : Vec F S823296 .f32) (tab : Vec F S6565 .f32) (q q' : PosShare TreeShare) (n : ℕ) :
    BI.Storable (upEmb : UEmb _ (MM F)) (payload d i ts tab q q' n) := by
  have h : ∀ (b : Fin 2) (p : Fin k0_t2_loop.trips), BI.Storable (upEmb : UEmb _ (MM F)) (if p.val < n then blockDone d i ts tab b p else blockAny F d i b p) := fun b p => by
    unfold blockDone blockAny; split <;> infer_instance
  unfold payload blocksHeld
  infer_instance

/-- A SparseCore's payload: its sixteen tiles'. -/
abbrev coreHanded (d : Dev nD) (n : ℕ) (c : Fin 2) : sProp (MM F) := bigSep (Finset.univ : Finset (Fin 16)) fun s => handed d (tsAt m d) (tabAt m d) n (c, s)

/-- The call's payloads: every tile's arrays out, and back with its blocks done. -/
def P : (K (F := F)).Pay (nD := nD) (Val := Elt F) (Name := ℕ) (U := UU) where
  st := fun | 0, d, c => coreHanded m d 0 c
  dn := fun | 0, d, c => coreHanded m d 100 c
  go := fun | 0, d, c, s => handed d (tsAt m d) (tabAt m d) 0 (c, s)
  td := fun | 0, d, c, s => handed d (tsAt m d) (tabAt m d) 100 (c, s)
  x := fun _ _ => iprop(emp)

instance P_storable : (P (F := F) m).IsStorable where
  st q d c := by match q with | 0 => exact (inferInstance : BI.Storable (upEmb : UEmb _ (MM F)) (coreHanded m d 0 c))
  dn q d c := by match q with | 0 => exact (inferInstance : BI.Storable (upEmb : UEmb _ (MM F)) (coreHanded m d 100 c))
  go q d c s := by match q with | 0 => exact (inferInstance : BI.Storable (upEmb : UEmb _ (MM F)) (handed d (tsAt m d) (tabAt m d) 0 (c, s)))
  td q d c s := by match q with | 0 => exact (inferInstance : BI.Storable (upEmb : UEmb _ (MM F)) (handed d (tsAt m d) (tabAt m d) 100 (c, s)))

theorem vecSplit : (K (F := F)).VecSplit' (P m) 0 := by
  intro d c
  show coreHanded m d 0 c ⊢ |={Set.univ}=> iprop(coreHanded m d 0 c ∗ (coreHanded m d 100 c -∗ coreHanded m d 100 c))
  iintro H; imodintro
  isplitl [H]; · iexact H
  iintro H; iexact H

/-! ## A tile's obligation -/

theorem defs₀_vector (c : Fin τ.nSC) (s : Fin τ.nSub) :
    defs₀ (F := F) (.scVector c s) 0 () = SparseCore.onTile hcore0 hsub0 (fun c s => printed (F := F) (coords c s)) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B C E : sProp (MM F)} : iprop(A ∗ emp ∗ B ∗ C ∗ E) ⊢ iprop(A ∗ B ∗ C ∗ E) := by
  iintro ⟨HA, -, HB, HC, HE⟩
  isplitl [HA]; · iexact HA
  isplitl [HB]; · iexact HB
  isplitl [HC]; · iexact HC
  iexact HE

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [printed_eq]
  exact drop_emp.trans ((wp_tile d (at' (c, i)) (tsAt m d) (tabAt m d) (share (c, i)) (share (c, i)) O W hO).trans (wp_mono frame _ _ fun _ => obl_post))

/-! ## The launch's own resources -/

/-- The launch's ghost element: the handshakes' record, and the transfers' counters at nothing. -/
def u₀ : UU := (initOf (K (F := F)).hsCells (K (F := F)).hsToks, 1)

omit [FloatOps F] in
theorem bigSep_none {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp (MM F))) = iprop(emp) from by
    rw [bigSep_congr fun _ _ => bigSep_none _, bigSep_none]]
  iempintro

/-! ## The host's side -/

/-- The three arrays of the call. -/
abbrev callRefs : Finset (DevRef τ sig) := {tsRef, tabRef, outRef}

omit [FloatOps F] in
theorem callRefs_sub : callRefs ⊆ Pipeline.ucRefs τ sig := by decide

omit [FloatOps F] in
theorem held_call (d : Dev nD) (W : Valuation τ sig (Elt F)) :
    (held (T d) callRefs W : sProp (MM F)) = iprop((tsLoc d ↦{fullShare} (W tsRef : Buf (Elt F) (tsLoc d))) ∗ (tabLoc d ↦{fullShare} (W tabRef : Buf (Elt F) (tabLoc d)))
      ∗ outLoc d ↦{fullShare} (W outRef : Buf (Elt F) (outLoc d))) := by
  unfold held callRefs
  rw [SparseCore.bigSep_insert' (by decide), SparseCore.bigSep_insert' (by decide), bigSep_singleton]

theorem handed_cores (d : Dev nD) (n : ℕ) : (bigSep Finset.univ (handed d (tsAt m d) (tabAt m d) n) : sProp (MM F)) = bigSep Finset.univ fun c : Fin 2 => coreHanded m d n c :=
  bigSep_univ_prod _

theorem before_sub : ∀ op ∈ opsBefore (F := F), op.bufs ⊆ Pipeline.ucRefs τ sig := by
  have h0 : (opsBefore (F := F)).Forall fun op => op.bufs ⊆ StableHlo.tcRefs τ sig :=
    ⟨StableHlo.unary_bufs_sub .., StableHlo.unary_bufs_sub .., StableHlo.unary_bufs_sub .., StableHlo.binary_bufs_sub .., StableHlo.nullary_bufs_sub ..,
    StableHlo.unary_bufs_sub .., StableHlo.binary_bufs_sub .., StableHlo.reshape_bufs_sub .., StableHlo.unary_bufs_sub .., StableHlo.reshape_bufs_sub ..⟩
  exact fun op h => Pipeline.sub_ucRefs op ((List.forall_iff_forall_mem.mp h0) op h)

theorem after_sub : ∀ op ∈ opsAfter (F := F), op.bufs ⊆ Pipeline.ucRefs τ sig := by
  have h0 : (opsAfter (F := F)).Forall fun op => op.bufs ⊆ StableHlo.tcRefs τ sig :=
    ⟨StableHlo.unary_bufs_sub .., StableHlo.reshape_bufs_sub .., StableHlo.unary_bufs_sub ..⟩
  exact fun op h => Pipeline.sub_ucRefs op ((List.forall_iff_forall_mem.mp h0) op h)

theorem before_fresh : ∀ op ∈ opsBefore (F := F), op.fresh = ∅ :=
  List.forall_iff_forall_mem.mp ⟨rfl, rfl, rfl, rfl, rfl, rfl, rfl, rfl, rfl, rfl⟩

theorem after_fresh : ∀ op ∈ opsAfter (F := F), op.fresh = ∅ :=
  List.forall_iff_forall_mem.mp ⟨rfl, rfl, rfl⟩

/-- What the device holds at the end. -/
abbrev FIN (d : Dev nD) : sProp (MM F) := held (T d) (Pipeline.ucRefs τ sig) (atEnd m d)

/-- Outside the call's result the call changes nothing. -/
theorem atReturn_rest (d : Dev nD) :
    (held (T d) (Pipeline.ucRefs τ sig \ callRefs) (atCall m d) : sProp (MM F)) = held (T d) (Pipeline.ucRefs τ sig \ callRefs) (atReturn m d) :=
  held_congr (T d) fun b hb => by
    have hne : b ≠ outRef := fun e => (Finset.mem_sdiff.mp hb).2 (by rw [e]; decide)
    unfold atReturn
    rw [Function.update_of_ne hne]

theorem atReturn_call (d : Dev nD) :
    (held (T d) callRefs (atReturn m d) : sProp (MM F)) = iprop((tsLoc d ↦{fullShare} (tsAt m d : Buf (Elt F) (tsLoc d))) ∗ (tabLoc d ↦{fullShare} (tabAt m d : Buf (Elt F) (tabLoc d)))
      ∗ outLoc d ↦{fullShare} (result (tsAt m d) (tabAt m d) : Buf (Elt F) (outLoc d))) := by
  rw [held_call]
  unfold atReturn
  rw [Function.update_of_ne (show tsRef ≠ outRef by decide), Function.update_of_ne (show tabRef ≠ outRef by decide), Function.update_self]

/-- At the call, the tiles' payloads out of what is held, -/
theorem cut_call (d : Dev nD) :
    (held (d.tc : Thread nD τ) (Pipeline.ucRefs τ sig) (after opsBefore (launchContents m d)) : sProp (MM F))
      ⊢ iprop((bigSep Finset.univ fun c : Fin 2 => coreHanded m d 0 c) ∗ held (T d) (Pipeline.ucRefs τ sig \ callRefs) (atReturn m d)) := by
  show (held (T d) (Pipeline.ucRefs τ sig) (atCall m d) : sProp (MM F)) ⊢ _
  rw [held_sub_split (T d) callRefs_sub, held_call, atReturn_rest, ← handed_cores]
  exact sep_mono_left (deal d (tsAt m d) (tabAt m d) (atCall m d outRef))

/-- and back after it. -/
theorem join_call (d : Dev nD) :
    (iprop((bigSep Finset.univ fun c : Fin 2 => coreHanded m d 100 c) ∗ held (T d) (Pipeline.ucRefs τ sig \ callRefs) (atReturn m d)) : sProp (MM F))
      ⊢ held (d.tc : Thread nD τ) (Pipeline.ucRefs τ sig) (atReturn m d) := by
  show _ ⊢ (held (T d) (Pipeline.ucRefs τ sig) (atReturn m d) : sProp (MM F))
  rw [held_sub_split (T d) callRefs_sub, atReturn_call, ← handed_cores]
  exact sep_mono_left (collect d (tsAt m d) (tabAt m d))

theorem unscoped_held (d : Dev nD) : (unscopedBufs d (fun b => m ((SparseCore.T d).loc b)) : sProp (MM F)) = held (T d) (Pipeline.ucRefs τ sig) (launchContents m d) :=
  Pipeline.unscopedBufs_held (Ix := HIx 1) (Name := ℕ) (U := UU) (Lvl := ℕ) d (fun b => m (d, b))

set_option backward.isDefEq.respectTransparency.types false in
/-- The host program on a device: the operations before the call, the call, the operations after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, unscoped_held]
  iintro ⟨#Hctx, Hst, ⟨Hb, Hh, Hts, -⟩, -⟩
  iapply (wp_seq 𝒱 none Set.univ d (Pipeline.ucRefs τ sig) _ opsBefore before_sub before_fresh (launchContents m d)) $$ [Hb Hh]
  · isplitl [Hb]; · iexact Hb
    iexact Hh
  iintro ⟨Hb, Hh⟩
  ihave Hd := (cut_call m d) $$ Hh
  icases Hd with ⟨Hd, Hr⟩
  rw [wp_bind]
  iapply ((K (F := F)).wp_run (D (F := F)) 𝒱 (EH := EH) (P := P m) κ d 0) $$ [Hst Hd Hr Hb Hts]
  isplitr; · iexact Hctx
  isplitl [Hst]; · iexact Hst
  isplitl [Hd]
  · iexact Hd
  iintro ⟨Hst, Hdn⟩
  ihave Hh := (join_call m d) $$ [Hdn Hr]
  · isplitl [Hdn]; · iexact Hdn
    iexact Hr
  iapply (wp_seq 𝒱 none Set.univ d (Pipeline.ucRefs τ sig) _ opsAfter after_sub after_fresh (atReturn m d)) $$ [Hb Hh]
  · isplitl [Hb]; · iexact Hb
    iexact Hh
  iintro ⟨Hb, Hh⟩
  rw [wp_pure]; imodintro
  isplitl [Hst]; · iexact Hst
  isplitl [Hh]; · iexact Hh
  isplitl [Hb] <;> iassumption

/-! ## The program's run -/

/-- What the final memory of a device is. -/
def fq (d : Dev nD) (s' : Phys nD τ sig (Elt F)) : Prop := ∀ b ∈ Pipeline.ucRefs τ sig, s'.mem.mem (d, b) = atEnd m d b

theorem hfin (d : Dev nD) (s' : Phys nD τ sig (Elt F)) : iprop(FIN m d ∗ SI s') ⊢ (⌜fq m d s'⌝ : sProp (MM F)) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- Every array of the host's at its contents at the end, every semaphore at zero. -/
def QC : PUnit × MemSt nD τ sig (Elt F) → Prop := fun r => (∀ d : Dev nD, ∀ b ∈ Pipeline.ucRefs τ sig, r.2.mem (d, b) = atEnd m d b) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Ends.lean ====
/-
  What the program's arrays hold at the end, as functions of the arguments.
-/
module

public import proofs.«01_k».proof.Proof.Launch

@[expose] public section

noncomputable section

namespace Cert.Proof

open Cert.KernelIdeal Cert.KernelIdeal.Gen
open Idealize.ShloMosaic Idealize.ShloMosaic.ValueIdx Idealize.ShloMosaic.StableHlo
open Idealize.SL.Sem

variable {F : FTy → Type} [FloatOps F]

/-- The flat timestamps, position after position and sample after sample within it. -/
def flatTs (x : Vec F S4096x201 .f32) : Vec F S823296 .f32 :=
  shapeCast S823296 (transpose S201x4096 [1, 0] x transposes_S4096x201_S201x4096_1_0) shapeCasts_S201x4096_S823296

/-- The flat table: a bin's row is its weights plus the bias, and one word of padding. -/
def flatTab (w : Vec F S64x101 .f32) (b : Vec F S64 .f32) : Vec F S6565 .f32 :=
  shapeCast S6565 (pad S101x65 ![0, 0] ![0, 1] ![0, 0]
    (addf (transpose S101x64 [1, 0] w transposes_S64x101_S101x64_1_0)
      (broadcastInDim S101x64 ![0, 1] bcast_S1x64_S101x64_0_1 (broadcastInDim S1x64 ![1] bcast_S64_S1x64_1 b)))
    (sitofp .f32 (constantI S_ 32 0#32) : FVec F S_ .f32) pads_S101x64_S101x65_000_010 h_S_) shapeCasts_S101x65_S6565

/-- The first result: the kernel's, a sample's rows brought together. -/
def embedding (x : Vec F S4096x201 .f32) (w : Vec F S64x101 .f32) (b : Vec F S64 .f32) : Vec F S4096x200x64 .f32 :=
  shapeCast S4096x200x64 (transpose S32x128x200x8x8 [2, 4, 0, 1, 3] (result (flatTs x) (flatTab w b)) transposes_S200x8x32x8x128_S32x128x200x8x8_2_4_0_1_3)
    shapeCasts_S32x128x200x8x8_S4096x200x64

/-- The second result: the timestamps but the last. -/
def earlier (x : Vec F S4096x201 .f32) : Vec F S4096x200 .f32 := extractStridedSlice S4096x200 ![0, 0] x slices_S4096x201_S4096x200_0_0

variable (m : (ℓ : Loc nD τ sig) → Buf (Elt F) ℓ) (d : Dev nD)

abbrev argTs : Vec F S4096x201 .f32 := m (d, Proc.devRef .tc (main_arg1 : Ref sig .tc))
abbrev argW : Vec F S64x101 .f32 := m (d, Proc.devRef .tc (main_arg3 : Ref sig .tc))
abbrev argB : Vec F S64 .f32 := m (d, Proc.devRef .tc (main_arg4 : Ref sig .tc))

theorem tsAt_eq : tsAt m d = flatTs (argTs m d) := by
  unfold tsAt atCall
  after_results_simp <;> rfl

theorem tabAt_eq : tabAt m d = flatTab (argW m d) (argB m d) := by
  unfold tabAt atCall
  after_results_simp <;> rfl

/-- The array an operation writes is on the list of those written. -/
theorem listed {l : List (Ref sig .tc)} {r : Ref sig .tc} (h : r ∈ l) :
    ({Proc.devRef .tc r} : Finset (DevRef τ sig)) ⊆ (l.map (Proc.devRef .tc)).toFinset :=
  Finset.singleton_subset_iff.mpr (List.mem_toFinset.mpr (List.mem_map_of_mem h))

/-- No operation writes an argument. -/
theorem kept (r : Ref sig .tc) (hb : r ∉ ([main_v0, main_v1, main_v2, main_v3, main_c, main_call0_v0, main_v4, main_v5, main_v6, main_v7] : List (Ref sig .tc)))
    (ha : r ∉ ([main_v8, main_v9, main_v10, main_v11] : List (Ref sig .tc))) :
    atEnd m d (Proc.devRef .tc r) = m (d, Proc.devRef .tc r) := by
  have hne : (Proc.devRef .tc r : DevRef τ sig) ≠ outRef := fun e => ha (by rw [Proc.devRef_injective _ e]; exact List.mem_cons_self)
  unfold atEnd
  rw [after_of_writes_sub (W := [main_v8, main_v9, main_v10, main_v11]) opsAfter _ ⟨listed (r := main_v9) (by decide), listed (r := main_v10) (by decide), listed (r := main_v11) (by decide)⟩ ha]
  unfold atReturn
  rw [Function.update_of_ne hne]
  unfold atCall
  rw [after_of_writes_sub (W := [main_v0, main_v1, main_v2, main_v3, main_c, main_call0_v0, main_v4, main_v5, main_v6, main_v7]) opsBefore _
    ⟨listed (r := main_v0) (by decide), listed (r := main_v1) (by decide), listed (r := main_v2) (by decide), listed (r := main_v3) (by decide), listed (r := main_c) (by decide), listed (r := main_call0_v0) (by decide), listed (r := main_v4) (by decide), listed (r := main_v5) (by decide), listed (r := main_v6) (by decide), listed (r := main_v7) (by decide)⟩ hb]

theorem end_v10 : atEnd m d (Proc.devRef .tc (main_v10 : Ref sig .tc)) = embedding (argTs m d) (argW m d) (argB m d) := by
  have h : atEnd m d (Proc.devRef .tc (main_v10 : Ref sig .tc))
      = shapeCast S4096x200x64 (transpose S32x128x200x8x8 [2, 4, 0, 1, 3] (atReturn m d outRef : Vec F S200x8x32x8x128 .f32) transposes_S200x8x32x8x128_S32x128x200x8x8_2_4_0_1_3)
        shapeCasts_S32x128x200x8x8_S4096x200x64 := by
    unfold atEnd
    after_results_simp <;> rfl
  rw [h]
  unfold atReturn
  rw [Function.update_self, tsAt_eq, tabAt_eq]
  rfl

theorem end_v11 : atEnd m d (Proc.devRef .tc (main_v11 : Ref sig .tc)) = earlier (argTs m d) := by
  have h : atEnd m d (Proc.devRef .tc (main_v11 : Ref sig .tc)) = earlier (atReturn m d (Proc.devRef .tc (main_arg1 : Ref sig .tc)) : Vec F S4096x201 .f32) := by
    unfold atEnd
    after_results_simp <;> rfl
  rw [h]
  unfold atReturn
  rw [Function.update_of_ne (show (Proc.devRef .tc (main_arg1 : Ref sig .tc) : DevRef τ sig) ≠ outRef by decide)]
  have h2 : atCall m d (Proc.devRef .tc (main_arg1 : Ref sig .tc)) = m (d, Proc.devRef .tc (main_arg1 : Ref sig .tc)) := by
    unfold atCall
    after_results_simp <;> rfl
  rw [h2]

variable (ρ : Dev nD → PrngReg)

/-- Every run ends with both results, the arguments as they were, and every semaphore at zero. -/
theorem run_ends [∀ e, Nonempty (Elt F e)] : θ_run (defs (F := F)) (threads (F := F)) ⟨m, fun _ => 0, ρ⟩ fun r =>
    (∀ c : Dev nD,
      r.2.mem ((c.tc : Thread nD τ).loc main_v10) = embedding (argTs m c) (argW m c) (argB m c)
      ∧ r.2.mem ((c.tc : Thread nD τ).loc main_v11) = earlier (argTs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c =>
    ⟨(h.1 c (Proc.devRef .tc (main_v10 : Ref sig .tc)) (by decide)).trans (end_v10 m c),
     (h.1 c (Proc.devRef .tc (main_v11 : Ref sig .tc)) (by decide)).trans (end_v11 m c),
     (h.1 c (Proc.devRef .tc (main_arg0 : Ref sig .tc)) (by decide)).trans (kept m c main_arg0 (by decide) (by decide)),
     (h.1 c (Proc.devRef .tc (main_arg1 : Ref sig .tc)) (by decide)).trans (kept m c main_arg1 (by decide) (by decide)),
     (h.1 c (Proc.devRef .tc (main_arg2 : Ref sig .tc)) (by decide)).trans (kept m c main_arg2 (by decide) (by decide)),
     (h.1 c (Proc.devRef .tc (main_arg3 : Ref sig .tc)) (by decide)).trans (kept m c main_arg3 (by decide) (by decide)),
     (h.1 c (Proc.devRef .tc (main_arg4 : Ref sig .tc)) (by decide)).trans (kept m c main_arg4 (by decide) (by decide))⟩, h.2⟩)
    (run_main m ρ)

end Cert.Proof

end
-- ==== Proof.Rows.lean ====
/-
  The kernel's first result at an index: a weight of the step's bin plus a bias.
-/
module

public import proofs.«01_k».proof.Proof.Ends
public import Idealize.ShloMosaic.Lib.Pipeline.Value
public import Idealize.ShloMosaic.Lib.KernelVsHost

@[expose] public section

noncomputable section

namespace Cert.Proof

open Cert.KernelIdeal Cert.KernelIdeal.Gen
open Idealize.ShloMosaic Idealize.ShloMosaic.ValueIdx
open Idealize.SL.Sem

variable {F : FTy → Type} [FloatOps F]

/-- Sample `n`'s timestamp at position `l` in the flat timestamps. -/
theorem tsN_flat (x : Vec F S4096x201 .f32) (n : Fin 4096) (l : Fin 201) {k : ℕ} (hk : k = l.val * 4096 + n.val) :
    tsN (flatTs x) k = x (ix2 n l) := by
  have hn := n.isLt
  have hl := l.isLt
  unfold tsN flatTs
  rw [shapeCast_apply _ _ _ (ix2 (n0 := 201) (n1 := 4096) l n)]
  · rw [transpose_apply _ _ _ _ (ix2 n l)]
    intro b
    fin_cases b <;> rfl
  · rw [Shape.rowMajor_val_two, Shape.rowMajor_val_one]
    show l.val * 4096 + n.val = k % 823296
    omega

/-- The bias, one copy a bin. -/
theorem bias_apply (b : Vec F S64 .f32) (k : Fin 101) (f : Fin 64) :
    broadcastInDim S101x64 ![0, 1] bcast_S1x64_S101x64_0_1 (broadcastInDim S1x64 ![1] bcast_S64_S1x64_1 b) (ix2 k f) = b (ix1 f) := by
  unfold broadcastInDim
  refine congrArg b (funext fun a => Fin.ext ?_)
  fin_cases a
  rfl

/-- Bin `k`'s word for feature `f` in the flat table. -/
theorem tabN_flat (w : Vec F S64x101 .f32) (b : Vec F S64 .f32) (k : Fin 101) (f : Fin 64) {p : ℕ} (hp : p = 65 * k.val + f.val) :
    tabN (flatTab w b) p = FloatOps.addf (w (ix2 f k)) (b (ix1 f)) := by
  have hk := k.isLt
  have hf := f.isLt
  unfold tabN flatTab
  rw [shapeCast_apply _ _ _ (ix2 (n0 := 101) (n1 := 65) k ⟨f.val, by omega⟩)]
  · rw [pad_apply_of_inside _ _ _ _ _ _ _ _ (ix2 (n0 := 101) (n1 := 64) k f)]
    · show FloatOps.addf (transpose S101x64 [1, 0] w transposes_S64x101_S101x64_1_0 (ix2 k f)) _ = _
      rw [bias_apply, transpose_apply _ _ _ _ (ix2 f k)]
      intro b
      fin_cases b <;> rfl
    · intro a
      fin_cases a
      · show k.val = 0 + k.val * (0 + 1); omega
      · show f.val = 0 + f.val * (0 + 1); omega
  · rw [Shape.rowMajor_val_two, Shape.rowMajor_val_one]
    show k.val * 65 + f.val = p % 6565
    omega

/-- The bin of sample `n`'s step at position `l`. -/
def binAt (x : Vec F S4096x201 .f32) (n : Fin 4096) (l : Fin 200) : Fin 101 :=
  ⟨(bin (x (ix2 n l.castSucc)) (x (ix2 n l.succ))).toNat, Nat.lt_succ_of_le (bin_le _ _)⟩

/-- The first result at an index. -/
theorem embedding_apply (x : Vec F S4096x201 .f32) (w : Vec F S64x101 .f32) (b : Vec F S64 .f32) (n : Fin 4096) (l : Fin 200) (f : Fin 64) :
    embedding x w b (ix3 n l f) = FloatOps.addf (w (ix2 f (binAt x n l))) (b (ix1 f)) := by
  have hn := n.isLt
  have hl := l.isLt
  have hf := f.isLt
  unfold embedding
  rw [shapeCast_apply _ _ _ (ix5 (n0 := 32) (n1 := 128) (n2 := 200) (n3 := 8) (n4 := 8) ⟨n.val / 128, by omega⟩ ⟨n.val % 128, by omega⟩ l
    ⟨f.val / 8, by omega⟩ ⟨f.val % 8, by omega⟩)]
  · rw [transpose_apply _ _ _ _ (ix5 (n0 := 200) (n1 := 8) (n2 := 32) (n3 := 8) (n4 := 128) l ⟨f.val / 8, by omega⟩ ⟨n.val / 128, by omega⟩
      ⟨f.val % 8, by omega⟩ ⟨n.val % 128, by omega⟩)]
    · show tabN _ ((pos (tsN _ (l.val * 4096 + (128 * (n.val / 128) + n.val % 128))) (tsN _ ((l.val + 1) * 4096 + (128 * (n.val / 128) + n.val % 128)))).toNat
        + (8 * (f.val / 8) + f.val % 8)) = _
      rw [tsN_flat x n l.castSucc (by rw [Fin.val_castSucc]; omega), tsN_flat x n l.succ (by rw [Fin.val_succ]; omega), pos_toNat]
      refine tabN_flat w b (binAt x n l) f ?_
      show _ = 65 * (bin _ _).toNat + f.val
      omega
    · intro b
      fin_cases b <;> rfl
  · rw [Shape.rowMajor_val_five, Shape.rowMajor_val_three]
    show (((n.val / 128 * 128 + n.val % 128) * 200 + l.val) * 8 + f.val / 8) * 8 + f.val % 8 = (n.val * 200 + l.val) * 64 + f.val
    omega

end Cert.Proof

end
-- ==== Proof.OneHot.lean ====
/-
  The reference's one-hot table: a scatter of ones, one to a row, and its product with a matrix.
-/
module

public import Idealize.ShloMosaic.Lib.Routing.OpsSet
public import Idealize.ShloMosaic.Lib.StackMember
public import Idealize.ShloMosaic.PureOps.Ideal.Laws

@[expose] public section

noncomputable section

namespace Cert.Proof

open Idealize.ShloMosaic Idealize.ShloMosaic.ValueIdx Idealize.ShloMosaic.Routing

/-- Update `a` of `N` scalars, placed by a row of two index words each, lands where its two words say. -/
theorem lands_at {R C N w : ℕ} (d : ScatterDims (shape2 R C) (shape2 N 2) (shape1 N)) (hiw : d.insertedWindowDims = [0, 1])
    (hsd : d.scatterDimsToOperandDims = [0, 1]) (hivd : d.indexVectorDim = 1) (idx : IVec (shape2 N 2) w) (a : Fin N) (r : Fin R) (c : Fin C) :
    d.resultIdx? (ix1 a) idx = some (ix2 r c) ↔ (idx (ix2 a 0)).toInt = r.val ∧ (idx (ix2 a 1)).toInt = c.val := by
  have hm : ∀ q : Fin 2, q ∈ d.scatterDimsToOperandDims := fun q => by rw [hsd]; fin_cases q <;> simp
  have hwin : ∀ q : Fin 2, d.window (ix1 a) q = 0 := fun q => by
    unfold ScatterDims.window
    exact dif_neg fun h => (of_decide_eq_true (List.mem_filter.1 h).2) (by rw [hiw]; fin_cases q <;> simp)
  have hword : ∀ q : Fin 2, d.siIdx (ix1 a) ⟨d.scatterDimsToOperandDims.idxOf q, List.idxOf_lt_length_iff.2 (hm q)⟩ = ix2 a q := by
    intro q
    funext b
    apply Fin.ext
    unfold ScatterDims.siIdx
    match b with
    | ⟨0, _⟩ =>
      rw [dif_neg (by rw [hivd]; exact Nat.zero_ne_one)]
      unfold ScatterDims.siCoord
      rw [Fin.val_cast]
      have one : ∀ X : Fin 1, (ix1 a X).val = a.val := fun X => by rw [Subsingleton.elim X 0]
      exact one _
    | ⟨1, _⟩ =>
      rw [dif_pos (by rw [hivd])]
      show d.scatterDimsToOperandDims.idxOf q = q.val
      rw [hsd]
      fin_cases q <;> rfl
  have hstart : ∀ q : Fin 2, d.start (ix1 a) idx q = (idx (ix2 a q)).toInt := fun q => by
    unfold ScatterDims.start
    rw [dif_pos (hm q), hword]
  rw [resultIdx?_ix2, hstart, hstart, hwin, hwin]
  simp only [Nat.cast_zero, add_zero]

/-- One update to a row, update `a` at row `a` and column `col a`: the scatter at `(r, c)`. -/
theorem scatter_row {α : Type} {C N w : ℕ} (d : ScatterDims (shape2 N C) (shape2 N 2) (shape1 N)) (hiw : d.insertedWindowDims = [0, 1])
    (hsd : d.scatterDimsToOperandDims = [0, 1]) (hivd : d.indexVectorDim = 1) (idx : IVec (shape2 N 2) w) (x : (shape2 N C).Idx → α) (u : (shape1 N).Idx → α)
    (h0 : ∀ a : Fin N, (idx (ix2 a 0)).toInt = (a.val : ℤ)) (r : Fin N) (k : Fin C) (h1 : (idx (ix2 r 1)).toInt = (k.val : ℤ)) (c : Fin C) :
    Host.scatter d (fun _ b => b) x idx u (ix2 r c) = if c = k then u (ix1 r) else x (ix2 r c) := by
  have row : ∀ j : (shape1 N).Idx, d.resultIdx? j idx = some (ix2 r c) → j = ix1 r ∧ c = k := by
    intro j hj
    obtain ⟨a, rfl⟩ : ∃ a : Fin N, j = ix1 a := ⟨j 0, eq_ix1 j⟩
    obtain ⟨e0, e1⟩ := (lands_at d hiw hsd hivd idx a r c).1 hj
    rw [h0] at e0
    obtain rfl : a = r := Fin.ext (by exact_mod_cast e0)
    rw [h1] at e1
    exact ⟨rfl, Fin.ext (by exact_mod_cast e1.symm)⟩
  by_cases h : c = k
  · rw [if_pos h]
    refine scatter_set_hit d x idx u _ _ (fun j hj => by rw [(row j hj).1]) (ix1 r) ((lands_at d hiw hsd hivd idx r r c).2 ⟨h0 r, by rw [h1, h]⟩)
  · rw [if_neg h]
    exact scatter_set_miss d x idx u _ fun j hj => h (row j hj).2

/-- A row of one 1 among 0s picks a row of the matrix it multiplies. -/
theorem one_hot_sum {C : ℕ} (k : Fin C) (v : Fin C → EReal) : ∑ c : Fin C, (if c = k then (1 : EReal) else 0) * v c = v k := by
  rw [Finset.sum_eq_single k (fun c _ hc => by rw [if_neg hc, zero_mul]) (fun h => absurd (Finset.mem_univ k) h), if_pos rfl, one_mul]

end Cert.Proof

end
-- ==== Proof.Steps.lean ====
/-
  Numbers of the exact reading: the two constants, and the whole part of a step below 101.
-/
module

public import Idealize.ShloMosaic.PureOps.Ideal.Laws
public import Idealize.ShloMosaic.Lib.IdealHost

@[expose] public section

noncomputable section

namespace Cert.Proof

open Idealize.ShloMosaic

theorem hundred : Ideal.ofBits .f32 0x42C80000#32 = ((100 : ℝ) : EReal) := by
  simp [Ideal.ofBits, Ideal.ieee, -EReal.coe_mul]; norm_num

theorem hundred_one : Ideal.ofBits .f32 0x42CA0000#32 = ((101 : ℝ) : EReal) := by
  simp [Ideal.ofBits, Ideal.ieee, -EReal.coe_mul]; norm_num

/-- Dividing by one changes nothing, at the infinities either. -/
theorem div_one' (x : EReal) : Ideal.div x 1 = x := by
  have h := Ideal.div_coe (one_ne_zero (α := ℝ)) x
  rw [one_div_one, EReal.coe_one, mul_one] at h
  exact h

/-- The whole part of a number below 101, held between the words' ends, is at most 100. -/
theorem whole_le (x : EReal) (h : x < ((101 : ℝ) : EReal)) :
    -2147483648 ≤ Ideal.toIntClamped (-(2 ^ (32 - 1) : ℕ)) ((2 ^ (32 - 1) : ℕ) - 1) x
      ∧ Ideal.toIntClamped (-(2 ^ (32 - 1) : ℕ)) ((2 ^ (32 - 1) : ℕ) - 1) x ≤ 100 := by
  induction x using EReal.rec with
  | bot => rw [Ideal.toIntClamped_bot]; norm_num
  | top => exact absurd h not_top_lt
  | coe r =>
    have hr : r < 101 := EReal.coe_lt_coe_iff.1 h
    have hz : (if 0 ≤ r then ⌊r⌋ else ⌈r⌉) ≤ 100 := by
      split
      · have : ⌊r⌋ < 101 := Int.floor_lt.2 (by exact_mod_cast hr)
        omega
      · have : ⌈r⌉ ≤ 0 := Int.ceil_le.2 (by push_cast; linarith)
        omega
    rw [Ideal.toIntClamped_coe]
    generalize (if 0 ≤ r then ⌊r⌋ else ⌈r⌉) = z at hz
    norm_num
    omega

/-- So is the word it converts to, read signed. -/
theorem fptosi_le (x : EReal) (h : x < ((101 : ℝ) : EReal)) : (Ideal.fptosi 32 x).toInt ≤ 100 := by
  have hz := whole_le x h
  unfold Ideal.fptosi
  generalize Ideal.toIntClamped (-(2 ^ (32 - 1) : ℕ)) ((2 ^ (32 - 1) : ℕ) - 1) x = z at hz
  rw [BitVec.toInt_ofInt, Int.bmod_eq_of_le] <;> omega

/-- A word at most 100, clamped below at 0: from 0 to 100, and the clamp above at 100 leaves it. -/
theorem clamped (v : BitVec 32) (h : v.toInt ≤ 100) :
    (IntOp.maxsi v 0#32).toNat ≤ 100 ∧ IntOp.minsi (IntOp.maxsi v 0#32) 100#32 = IntOp.maxsi v 0#32 := by
  have h0 : (0#32 : BitVec 32).toInt = 0 := rfl
  have hc : (100#32 : BitVec 32).toInt = 100 := rfl
  have hm : 0 ≤ (IntOp.maxsi v 0#32).toInt ∧ (IntOp.maxsi v 0#32).toInt ≤ 100 := by
    unfold IntOp.maxsi
    split
    · rename_i hs; rw [BitVec.slt_iff_toInt_lt] at hs; omega
    · rename_i hs; rw [BitVec.slt_iff_toInt_lt] at hs; omega
  generalize IntOp.maxsi v 0#32 = w at hm
  constructor
  · have := BitVec.toInt_eq_toNat_cond w
    have := w.isLt
    split at * <;> omega
  · unfold IntOp.minsi
    split
    · rfl
    · rename_i hs
      rw [BitVec.slt_iff_toInt_lt] at hs
      exact BitVec.eq_of_toInt_eq (by omega)

end Cert.Proof

end
-- ==== Proof.Expected.lean ====
/-
  The reference's first result at an index, where every step's bin exists.
-/
module

public import proofs.«01_k».proof.Proof.Gen.ReferenceIdeal
public import proofs.«01_k».proof.Proof.OneHot
public import proofs.«01_k».proof.Proof.Steps
public import Idealize.ShloMosaic.Lib.Pipeline.Value

@[expose] public section

noncomputable section

namespace Cert.Proof

open Cert.ReferenceIdeal Cert.ReferenceIdeal.Gen
open Idealize.ShloMosaic Idealize.ShloMosaic.ValueIdx Idealize.ShloMosaic.Routing

/-- A number copied into every row of an array. -/
abbrev everywhere {α : Type} (c : S_.Idx → α) : S819200.Idx → α := broadcastInDim S819200 ![] bcast_S_S819200 c

/-- A negative index counts from the end. -/
def wrapped (i : IVec S819200 32) (n : BitVec 32) : IVec S819200 32 :=
  select (cmpi .slt i (everywhere (constantI S_ 32 0#32))) (addi i (everywhere (constantI S_ 32 n))) i

/-- Row numbers beside bins. -/
def places (k : IVec S819200 32) : IVec S819200x2 32 :=
  concatenate S819200x2 1 [⟨S819200x1, broadcastInDim S819200x1 ![0] bcast_S819200_S819200x1_0 (wrapped (iotaInDim S819200 32 0) 819200#32)⟩,
    ⟨S819200x1, broadcastInDim S819200x1 ![0] bcast_S819200_S819200x1_0 (wrapped k 101#32)⟩] concatenates_S819200x1_S819200x1_S819200x2_d1

/-- The one-hot table of the bins. -/
def oneHot (k : IVec S819200 32) : FVec Ideal S819200x101 .f32 :=
  Host.scatter scatter_S819200x101_S819200x2_S819200_n_01_01_1 (fun _ b => b) (broadcastInDim S819200x101 ![] bcast_S_S819200x101 (constant S_ .f32 0x00000000#32))
    (places k) (everywhere (constant S_ .f32 0x3F800000#32))

/-- The bins, row after row. -/
def bins (x : FVec Ideal S4096x201 .f32) : IVec S819200 32 :=
  shapeCast _ (maxsi (fptosi 32 (mulf (Host.divf (subf (extractStridedSlice S4096x200 ![0, 1] x slices_S4096x201_S4096x200_0_1)
      (extractStridedSlice S4096x200 ![0, 0] x slices_S4096x201_S4096x200_0_0)) (broadcastInDim S4096x200 ![] bcast_S_S4096x200 (constant S_ .f32 0x3F800000#32)))
    (broadcastInDim S4096x200 ![] bcast_S_S4096x200 (constant S_ .f32 0x42C80000#32)))) (broadcastInDim S4096x200 ![] bcast_S_S4096x200 (constantI S_ 32 0#32)))
    shapeCasts_S4096x200_S819200

/-- The reference's first result. -/
def expected (x : FVec Ideal S4096x201 .f32) (w : FVec Ideal S64x101 .f32) (b : FVec Ideal S64 .f32) : FVec Ideal S4096x200x64 .f32 :=
  shapeCast _ (addf (Host.dotGeneral dot_S819200x101_S101x64_S819200x64_1_0_0_1_n_n none (oneHot (bins x)) (transpose S101x64 [1, 0] w transposes_S64x101_S101x64_1_0))
    (broadcastInDim S819200x64 ![0, 1] bcast_S1x64_S819200x64_0_1 (broadcastInDim S1x64 ![1] bcast_S64_S1x64_1 b))) shapeCasts_S819200x64_S4096x200x64

theorem wrapped_apply (i : IVec S819200 32) (n : BitVec 32) (r : Fin 819200) (h : (i (ix1 r)).toNat < 2 ^ 31) : wrapped i n (ix1 r) = i (ix1 r) :=
  wrap_of_lt (i (ix1 r)) (i (ix1 r) + n) h

/-- A vector stood up as a column. -/
theorem column_apply (v : IVec S819200 32) (r : Fin 819200) :
    broadcastInDim S819200x1 ![0] bcast_S819200_S819200x1_0 v (ix2 r (0 : Fin 1)) = v (ix1 r) := by
  unfold broadcastInDim
  refine congrArg v (funext fun a => Fin.ext ?_)
  fin_cases a
  rfl

theorem places_row (k : IVec S819200 32) (r : Fin 819200) : (places k (ix2 r (0 : Fin 2))).toInt = (r.val : ℤ) := by
  have hr := r.isLt
  have hn : (iotaInDim S819200 32 0 (ix1 r)).toNat < 2 ^ 31 := by
    show (BitVec.ofNat 32 r.val).toNat < 2 ^ 31
    rw [BitVec.toNat_ofNat]
    omega
  unfold places
  rw [concatenate_pair_apply_left (t := S819200x2) (s₁ := S819200x1) (s₂ := S819200x1) _ _ _ _ _ rfl (ix2 (n0 := 819200) (n1 := 1) r 0) (fun b => by fin_cases b <;> rfl), column_apply,
    wrapped_apply _ _ _ hn]
  have hl : r.val < 2 ^ 31 := by omega
  exact StableHlo.Predicate.toInt_ofNat_small _ hl

theorem places_bin (k : IVec S819200 32) (r : Fin 819200) (hk : (k (ix1 r)).toNat ≤ 100) :
    (places k (ix2 r (1 : Fin 2))).toInt = ((k (ix1 r)).toNat : ℤ) := by
  unfold places
  rw [concatenate_pair_apply_right (t := S819200x2) (s₁ := S819200x1) (s₂ := S819200x1) _ _ _ _ _ rfl rfl (ix2 (n0 := 819200) (n1 := 1) r 0)
      (fun b hb => by fin_cases b; · rfl
                      · exact absurd rfl hb) rfl, column_apply, wrapped_apply _ _ _ (by omega)]
  have := BitVec.toInt_eq_toNat_cond (k (ix1 r))
  split at this <;> omega

/-- The table at a row and a column. -/
theorem oneHot_apply (k : IVec S819200 32) (r : Fin 819200) (j : Fin 101) (hj : (k (ix1 r)).toNat = j.val) (c : Fin 101) :
    oneHot k (ix2 r c) = if c = j then (1 : EReal) else 0 := by
  have hj' := j.isLt
  unfold oneHot
  rw [scatter_row _ rfl rfl rfl (places k) _ _ (places_row k) r j ((places_bin k r (by omega)).trans (by rw [hj])) c]
  refine congr (congrArg _ ?_) ?_
  · exact Ideal.ofBits_one_f32
  · exact Ideal.ofBits_zero_f32

/-- The first result at an index: a weight of the row's bin plus a bias. -/
theorem expected_apply (x : FVec Ideal S4096x201 .f32) (w : FVec Ideal S64x101 .f32) (b : FVec Ideal S64 .f32) (n : Fin 4096) (l : Fin 200) (f : Fin 64)
    (r : Fin 819200) (hr : r.val = 200 * n.val + l.val) (j : Fin 101) (hj : (bins x (ix1 r)).toNat = j.val) :
    expected x w b (ix3 n l f) = (w (ix2 f j) : EReal) + (b (ix1 f) : EReal) := by
  unfold expected
  rw [shapeCast_apply _ _ _ (ix2 (n0 := 819200) (n1 := 64) r f)]
  · have hd : Host.dotGeneral dot_S819200x101_S101x64_S819200x64_1_0_0_1_n_n none (oneHot (bins x)) (transpose S101x64 [1, 0] w transposes_S64x101_S101x64_1_0)
        (ix2 r f) = (w (ix2 f j) : EReal) := by
      refine (StackMember.dotGeneral_plain_apply (m := 819200) (k := 101) (n := 64) none (oneHot (bins x)) _ r f).trans ?_
      refine Eq.trans ?_ (one_hot_sum j fun c => (w (ix2 f c) : EReal))
      refine Finset.sum_congr rfl fun c _ => ?_
      rw [oneHot_apply (bins x) r j hj c, transpose_apply _ _ _ _ (ix2 f c) (fun b => by fin_cases b <;> rfl)]
    have hb : broadcastInDim S819200x64 ![0, 1] bcast_S1x64_S819200x64_0_1 (broadcastInDim S1x64 ![1] bcast_S64_S1x64_1 b) (ix2 r f) = b (ix1 f) := by
      unfold broadcastInDim
      refine congrArg b (funext fun a => Fin.ext ?_)
      fin_cases a
      rfl
    rw [addf_apply, hd, hb]
  · rw [Shape.rowMajor_val_two, Shape.rowMajor_val_three]
    show r.val * 64 + f.val = (n.val * 200 + l.val) * 64 + f.val
    omega

/-- A row's bin as a word: the step times 100, truncated and held at 0 or more. -/
theorem bins_apply (x : FVec Ideal S4096x201 .f32) (n : Fin 4096) (l : Fin 200) (r : Fin 819200) (hr : r.val = 200 * n.val + l.val) :
    bins x (ix1 r) = IntOp.maxsi (Ideal.fptosi 32 (((x (ix2 n l.succ) : EReal) - (x (ix2 n l.castSucc) : EReal)) * Ideal.ofBits .f32 0x42C80000#32)) 0#32 := by
  have late : extractStridedSlice S4096x200 ![0, 1] x slices_S4096x201_S4096x200_0_1 (ix2 n l) = x (ix2 n l.succ) :=
    extractStridedSlice_apply _ _ _ _ _ fun b => by
      fin_cases b
      · show n.val = 0 + n.val; omega
      · show l.val + 1 = 1 + l.val; omega
  have early : extractStridedSlice S4096x200 ![0, 0] x slices_S4096x201_S4096x200_0_0 (ix2 n l) = x (ix2 n l.castSucc) :=
    extractStridedSlice_apply _ _ _ _ _ fun b => by
      fin_cases b
      · show n.val = 0 + n.val; omega
      · show l.val = 0 + l.val; omega
  unfold bins
  rw [shapeCast_apply _ _ _ (ix2 (n0 := 4096) (n1 := 200) n l)]
  · show IntOp.maxsi (Ideal.fptosi 32 (Ideal.div ((extractStridedSlice S4096x200 ![0, 1] x slices_S4096x201_S4096x200_0_1 (ix2 n l) : EReal)
      - (extractStridedSlice S4096x200 ![0, 0] x slices_S4096x201_S4096x200_0_0 (ix2 n l) : EReal)) (Ideal.ofBits .f32 0x3F800000#32)
        * Ideal.ofBits .f32 0x42C80000#32)) 0#32 = _
    rw [late, early, Ideal.ofBits_one_f32, div_one']
  · rw [Shape.rowMajor_val_two, Shape.rowMajor_val_one]
    show n.val * 200 + l.val = r.val
    omega

end Cert.Proof

end
-- ==== Proof.Equal.lean ====
/-
  The two programs' first results agree where every step's bin exists.
-/
module

public import proofs.«01_k».proof.Pre_bins_exist
public import proofs.«01_k».proof.Proof.Gen.Pre_bins_exist
public import proofs.«01_k».proof.Proof.Rows
public import proofs.«01_k».proof.Proof.Expected
public import Idealize.ShloMosaic.Lib.ReduceAll

@[expose] public section

noncomputable section

namespace Cert.Proof

open Cert.KernelIdeal Cert.KernelIdeal.Gen
open Idealize.ShloMosaic Idealize.ShloMosaic.ValueIdx

/-- The precondition at one step: the difference times 100 is below 101. -/
theorem step_lt (a : IVec S4096x200 32) (x : FVec Ideal S4096x201 .f32) (c : IVec S_ 32) (w : FVec Ideal S64x101 .f32) (b : FVec Ideal S64 .f32)
    (h : Cert.Pre_bins_exist.fn (F := Ideal) a x c w b = fun _ => 1#1) (n : Fin 4096) (l : Fin 200) :
    ((x (ix2 n l.succ) : EReal) - (x (ix2 n l.castSucc) : EReal)) * Ideal.ofBits .f32 0x42C80000#32 < ((101 : ℝ) : EReal) := by
  have late : extractStridedSlice S4096x200 ![0, 1] x Cert.Pre_bins_exist.Facts.slices_S4096x201_S4096x200_0_1 (ix2 n l) = x (ix2 n l.succ) :=
    extractStridedSlice_apply _ _ _ _ _ fun b => by
      fin_cases b
      · show n.val = 0 + n.val; omega
      · show l.val + 1 = 1 + l.val; omega
  have early : extractStridedSlice S4096x200 ![0, 0] x Cert.Pre_bins_exist.Facts.slices_S4096x201_S4096x200_0_0 (ix2 n l) = x (ix2 n l.castSucc) :=
    extractStridedSlice_apply _ _ _ _ _ fun b => by
      fin_cases b
      · show n.val = 0 + n.val; omega
      · show l.val = 0 + l.val; omega
  haveI : Subsingleton Cert.Pre_bins_exist.S_.Idx := ⟨fun i j => (eq_ix0 i).trans (eq_ix0 j).symm⟩
  have e := congrFun h ix0
  unfold Cert.Pre_bins_exist.fn at e
  beta_reduce at e
  have hi := Host.reduce_andi_all _ _ _ _ ix0 e (ix2 n l)
  have hc : Ideal.cmp .olt (((extractStridedSlice S4096x200 ![0, 1] x Cert.Pre_bins_exist.Facts.slices_S4096x201_S4096x200_0_1 (ix2 n l) : EReal)
      - (extractStridedSlice S4096x200 ![0, 0] x Cert.Pre_bins_exist.Facts.slices_S4096x201_S4096x200_0_0 (ix2 n l) : EReal)) * Ideal.ofBits .f32 0x42C80000#32)
      (Ideal.ofBits .f32 0x42CA0000#32) = 1#1 := hi
  rw [late, early, hundred_one] at hc
  generalize ((x (ix2 n l.succ) : EReal) - (x (ix2 n l.castSucc) : EReal)) * Ideal.ofBits .f32 0x42C80000#32 = y at hc ⊢
  by_contra hn
  have hz : Ideal.cmp .olt y ((101 : ℝ) : EReal) = 0#1 := by
    unfold Ideal.cmp
    simp only [hn, decide_false]
    rfl
  rw [hz] at hc
  exact absurd hc (by decide)

/-- The kernel's bin, read exactly. -/
theorem bin_exact (a b : Ideal .f32) :
    bin a b = IntOp.minsi (IntOp.maxsi (Ideal.fptosi 32 (((b : EReal) - (a : EReal)) * Ideal.ofBits .f32 0x42C80000#32)) 0#32) 100#32 := rfl

/-- The reference's bin is the kernel's. -/
theorem bins_eq (x : FVec Ideal S4096x201 .f32) (n : Fin 4096) (l : Fin 200) (r : Fin 819200) (hr : r.val = 200 * n.val + l.val)
    (h : ((x (ix2 n l.succ) : EReal) - (x (ix2 n l.castSucc) : EReal)) * Ideal.ofBits .f32 0x42C80000#32 < ((101 : ℝ) : EReal)) :
    (bins x (ix1 r)).toNat = (binAt (F := Ideal) x n l).val := by
  have hk : (binAt (F := Ideal) x n l).val = (bin (F := Ideal) (x (ix2 n l.castSucc)) (x (ix2 n l.succ))).toNat := rfl
  rw [hk, bin_exact, bins_apply x n l r hr]
  generalize ((x (ix2 n l.succ) : EReal) - (x (ix2 n l.castSucc) : EReal)) * Ideal.ofBits .f32 0x42C80000#32 = y at h ⊢
  rw [(clamped _ (fptosi_le y h)).2]

/-- The first results agree at an index. -/
theorem embedding_eq_at (x : FVec Ideal S4096x201 .f32) (w : FVec Ideal S64x101 .f32) (b : FVec Ideal S64 .f32) (n : Fin 4096) (l : Fin 200) (f : Fin 64)
    (h : ((x (ix2 n l.succ) : EReal) - (x (ix2 n l.castSucc) : EReal)) * Ideal.ofBits .f32 0x42C80000#32 < ((101 : ℝ) : EReal)) :
    expected x w b (ix3 n l f) = embedding (F := Ideal) x w b (ix3 n l f) := by
  have hn := n.isLt
  have hl := l.isLt
  have hr : 200 * n.val + l.val < 819200 := by omega
  have e := expected_apply x w b n l f ⟨200 * n.val + l.val, hr⟩ rfl (binAt (F := Ideal) x n l) (bins_eq x n l _ rfl h)
  have k := embedding_apply (F := Ideal) x w b n l f
  exact e.trans k.symm

/-- The first results agree. -/
theorem embedding_eq (a : IVec S4096x200 32) (x : FVec Ideal S4096x201 .f32) (c : IVec S_ 32) (w : FVec Ideal S64x101 .f32) (b : FVec Ideal S64 .f32)
    (h : Cert.Pre_bins_exist.fn (F := Ideal) a x c w b = fun _ => 1#1) : expected x w b = embedding (F := Ideal) x w b := by
  funext z
  rw [eq_ix3 (n0 := 4096) (n1 := 200) (n2 := 64) z]
  exact embedding_eq_at x w b _ _ _ (step_lt a x c w b h _ _)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_bins_exist
public import proofs.«01_k».proof.Proof.Equal
public import Idealize.ShloMosaic.Adequacy
public import Idealize.ShloMosaic.Init

@[expose] public section

noncomputable section

namespace Cert.Proof

open Idealize.ShloMosaic Idealize.SL.Sem

/-- The kernel as printed runs, keeps its arguments and leaves every semaphore at zero. -/
theorem frame_kernel : Cert.quiescent_Kernel := fun m ρ _ =>
  (θ_run Cert.KernelIdeal.defs _ _).mono (fun _ h => ⟨fun c => (h.1 c).2.2, h.2⟩) (run_ends (F := Bits) m ρ)

/-- So does the kernel read exactly, at any input. -/
theorem frame_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2.2, h.2⟩) (run_ends (F := Ideal) m ρ)

/-- So does the reference, which has no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩) (Cert.ReferenceIdeal.Value.run (F := Ideal) m ρ)

/-- Read exactly, the kernel's two results are the reference's wherever every step's bin exists. -/
theorem values : Cert.algebraic_KernelIdeal_ReferenceIdeal_pre_bins_exist := by
  intro m ρ m' ρ' hpre hagree
  refine ⟨fun c => embedding (argTs m c) (argW m c) (argB m c), fun c => earlier (argTs m c), ?_, ?_⟩
  · exact (θ_run Cert.KernelIdeal.defs _ _).mono (fun _ h => h.1) (run_ends (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨-, h1, -, h3, h4⟩ := hagree c
      rw [h1, h3, h4]
      exact embedding_eq _ (argTs m c) _ (argW m c) (argB m c) (hpre c)
    · obtain ⟨-, h1, -⟩ := hagree c
      rw [h1]
      rfl

theorem claim : Cert.Claim := ⟨Cert.Kernel.Gen.facts, Cert.KernelIdeal.Gen.facts, Cert.ReferenceIdeal.Gen.facts, Cert.Pre_bins_exist.Gen.facts,
  frame_kernel, fun m ρ _ => frame_ideal m ρ, fun m ρ _ => frame_ideal m ρ, frame_reference, fun m ρ _ => frame_reference m ρ trivial, trivial, values⟩

end Cert.Proof

end
